-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![4096, 2048]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x2048 : Shape := ⟨2, ![128, 2048]⟩
abbrev S1 : Shape := ⟨1, ![1]⟩
abbrev S32 : Shape := ⟨1, ![32]⟩
abbrev S1x1 : Shape := ⟨2, ![1, 1]⟩
abbrev S_ : Shape := ⟨0, ![]⟩
abbrev S3 : Shape := ⟨1, ![3]⟩
abbrev S1x3 : Shape := ⟨2, ![1, 3]⟩
abbrev S4096x2048 : Shape := ⟨2, ![4096, 2048]⟩
abbrev S2x64x2048 : Shape := ⟨3, ![2, 64, 2048]⟩
abbrev S2 : Shape := ⟨1, ![2]⟩
abbrev S1x64x2048 : Shape := ⟨3, ![1, 64, 2048]⟩
abbrev S64x2048 : Shape := ⟨2, ![64, 2048]⟩

abbrev nBuf : Space → Nat
  | .hbm => 42
  | .vmem => 5
  | .smem => 2
  | _ => 0

abbrev bufTy : (tb : Table) → Fin (tcTables nBuf tb) → BufTy
  | .hbm, ⟨0, _⟩ => ⟨S4096x128, .fp8e5m2⟩
  | .hbm, ⟨1, _⟩ => ⟨S128x2048, .fp8e5m2⟩
  | .hbm, ⟨2, _⟩ => ⟨S1, .f32⟩
  | .hbm, ⟨3, _⟩ => ⟨S1, .f32⟩
  | .hbm, ⟨4, _⟩ => ⟨S32, .i32⟩
  | .hbm, ⟨5, _⟩ => ⟨S32, .i32⟩
  | .hbm, ⟨6, _⟩ => ⟨S32, .i32⟩
  | .hbm, ⟨7, _⟩ => ⟨S1, .f32⟩
  | .hbm, ⟨8, _⟩ => ⟨S1x1, .f32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S1, .i32⟩
  | .hbm, ⟨35, _⟩ => ⟨S_, .i32⟩
  | .hbm, ⟨36, _⟩ => ⟨S1, .i32⟩
  | .hbm, ⟨37, _⟩ => ⟨S1, .i32⟩
  | .hbm, ⟨38, _⟩ => ⟨S1, .i32⟩
  | .hbm, ⟨39, _⟩ => ⟨S3, .i32⟩
  | .hbm, ⟨40, _⟩ => ⟨S1x3, .i32⟩
  | .hbm, ⟨41, _⟩ => ⟨S4096x2048, .f32⟩
  | .local _ .vmem, ⟨0, _⟩ => ⟨S4096x128, .fp8e5m2⟩
  | .local _ .vmem, ⟨1, _⟩ => ⟨S128x2048, .fp8e5m2⟩
  | .local _ .vmem, ⟨2, _⟩ => ⟨S4096x2048, .f32⟩
  | .local _ .vmem, ⟨3, _⟩ => ⟨S2x64x2048, .f32⟩
  | .local _ .vmem, ⟨4, _⟩ => ⟨S2x64x2048, .f32⟩
  | .local _ .smem, ⟨0, _⟩ => ⟨S1x1, .f32⟩
  | .local _ .smem, ⟨1, _⟩ => ⟨S1x3, .i32⟩
  | _, _ => ⟨S4096x128, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 3 → Bool
  | ⟨0, _⟩ => true
  | ⟨1, _⟩ => true
  | ⟨2, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 3 13 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v1 : Ref sig .tc := ⟨.hbm, 7, rfl⟩
abbrev main_v2 : Ref sig .tc := ⟨.hbm, 8, rfl⟩
abbrev main_c_2 : Ref sig .tc := ⟨.hbm, 9, rfl⟩
abbrev main_c_3 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_4 : Ref sig .tc := ⟨.hbm, 15, rfl⟩
abbrev main_v7 : Ref sig .tc := ⟨.hbm, 16, rfl⟩
abbrev main_c_5 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_6 : Ref sig .tc := ⟨.hbm, 22, rfl⟩
abbrev main_v12 : Ref sig .tc := ⟨.hbm, 23, rfl⟩
abbrev main_c_7 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_8 : Ref sig .tc := ⟨.hbm, 29, rfl⟩
abbrev main_v17 : Ref sig .tc := ⟨.hbm, 30, rfl⟩
abbrev main_c_9 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 2

abbrev nD : Nat := 32
abbrev τ : Topo := Topo.v7x

variable {F : FTy → Type} [FloatOps F]

abbrev grid0 : Pipeline.Grid := .none

def k0_dev1 (v2 : BitVec 32) : Nat :=
  let c0_i32 : BitVec 32 := 0#32
  let c1_i32_9 : BitVec 32 := 1#32
  let v12 : BitVec 32 := Scalar.muli v2 c1_i32_9
  let v13 : BitVec 32 := Scalar.addi c0_i32 v12
  v13.toNat

def k0_dev2 (v1 : BitVec 32) : Nat :=
  let c0_i32_12 : BitVec 32 := 0#32
  let c1_i32_11 : BitVec 32 := 1#32
  let v14 : BitVec 32 := Scalar.muli v1 c1_i32_11
  let v15 : BitVec 32 := Scalar.addi c0_i32_12 v14
  v15.toNat

def k0_off1 (v0 : BitVec 32) (c0_i32_13 : BitVec 32) : Fin 2 → Nat :=
  let v16 : BitVec 32 := Scalar.subi v0 c0_i32_13
  let c32_i32 : BitVec 32 := 32#32
  let c0_i32_14 : BitVec 32 := 0#32
  let v17 : BitVec 1 := Scalar.cmpi .eq c32_i32 c0_i32_14
  let c1_i32_15 : BitVec 32 := 1#32
  let v18 : BitVec 32 := Scalar.select v17 c1_i32_15 c32_i32
  let v19 : BitVec 32 := Scalar.remsi v16 v18
  let c0_i32_17 : BitVec 32 := 0#32
  let v21 : BitVec 1 := Scalar.cmpi .slt v19 c0_i32_17
  let c0_i32_18 : BitVec 32 := 0#32
  let v22 : BitVec 1 := Scalar.cmpi .slt v18 c0_i32_18
  let v23 : BitVec 1 := Scalar.xori v21 v22
  let c0_i32_16 : BitVec 32 := 0#32
  let v20 : BitVec 1 := Scalar.cmpi .ne v19 c0_i32_16
  let v24 : BitVec 1 := Scalar.andi v23 v20
  let v25 : BitVec 32 := Scalar.addi v19 v18
  let v26 : BitVec 32 := Scalar.select v24 v25 v19
  let c64_i32 : BitVec 32 := 64#32
  let v62 : BitVec 32 := Scalar.muli v26 c64_i32
  let c0_i32_50 : BitVec 32 := 0#32
  ![v62.toNat, 0]

def k0_dev3 (v1 : BitVec 32) : Nat :=
  let c0_i32_47 : BitVec 32 := 0#32
  let c1_i32_46 : BitVec 32 := 1#32
  let v65 : BitVec 32 := Scalar.muli v1 c1_i32_46
  let v66 : BitVec 32 := Scalar.addi c0_i32_47 v65
  v66.toNat
def k0_off2 (v0 : BitVec 32) (c0_i32_27 : BitVec 32) : Fin 2 → Nat :=
  let c2048_i32 : BitVec 32 := 2048#32
  let v39 : BitVec 32 := Scalar.addi v0 c0_i32_27
  let c32_i32_28 : BitVec 32 := 32#32
  let c0_i32_29 : BitVec 32 := 0#32
  let v40 : BitVec 1 := Scalar.cmpi .eq c32_i32_28 c0_i32_29
  let c1_i32_30 : BitVec 32 := 1#32
  let v41 : BitVec 32 := Scalar.select v40 c1_i32_30 c32_i32_28
  let v42 : BitVec 32 := Scalar.remsi v39 v41
  let c0_i32_32 : BitVec 32 := 0#32
  let v44 : BitVec 1 := Scalar.cmpi .slt v42 c0_i32_32
  let c0_i32_33 : BitVec 32 := 0#32
  let v45 : BitVec 1 := Scalar.cmpi .slt v41 c0_i32_33
  let v46 : BitVec 1 := Scalar.xori v44 v45
  let c0_i32_31 : BitVec 32 := 0#32
  let v43 : BitVec 1 := Scalar.cmpi .ne v42 c0_i32_31
  let v47 : BitVec 1 := Scalar.andi v46 v43
  let v48 : BitVec 32 := Scalar.addi v42 v41
  let v49 : BitVec 32 := Scalar.select v47 v48 v42
  let c64_i32_42 : BitVec 32 := 64#32
  let v63 : BitVec 32 := Scalar.muli v49 c64_i32_42
  let v64 : BitVec 32 := Scalar.addi c2048_i32 v63
  let c0_i32_58 : BitVec 32 := 0#32
  ![v64.toNat, 0]
def k0_dev4 (v2 : BitVec 32) : Nat :=
  let c0_i32_55 : BitVec 32 := 0#32
  let c1_i32_54 : BitVec 32 := 1#32
  let v74 : BitVec 32 := Scalar.muli v2 c1_i32_54
  let v75 : BitVec 32 := Scalar.addi c0_i32_55 v74
  v75.toNat
def k0_off3 (v0 : BitVec 32) (c0_i32_19 : BitVec 32) : Fin 2 → Nat :=
  let v27 : BitVec 32 := Scalar.subi v0 c0_i32_19
  let c1_i32_20 : BitVec 32 := 1#32
  let v28 : BitVec 32 := Scalar.subi v27 c1_i32_20
  let c32_i32_21 : BitVec 32 := 32#32
  let c0_i32_22 : BitVec 32 := 0#32
  let v29 : BitVec 1 := Scalar.cmpi .eq c32_i32_21 c0_i32_22
  let c1_i32_23 : BitVec 32 := 1#32
  let v30 : BitVec 32 := Scalar.select v29 c1_i32_23 c32_i32_21
  let v31 : BitVec 32 := Scalar.remsi v28 v30
  let c0_i32_25 : BitVec 32 := 0#32
  let v33 : BitVec 1 := Scalar.cmpi .slt v31 c0_i32_25
  let c0_i32_26 : BitVec 32 := 0#32
  let v34 : BitVec 1 := Scalar.cmpi .slt v30 c0_i32_26
  let v35 : BitVec 1 := Scalar.xori v33 v34
  let c0_i32_24 : BitVec 32 := 0#32
  let v32 : BitVec 1 := Scalar.cmpi .ne v31 c0_i32_24
  let v36 : BitVec 1 := Scalar.andi v35 v32
  let v37 : BitVec 32 := Scalar.addi v31 v30
  let v38 : BitVec 32 := Scalar.select v36 v37 v31
  let c64_i32_75 : BitVec 32 := 64#32
  let v97 : BitVec 32 := Scalar.muli v38 c64_i32_75
  let v98 : Index := Scalar.indexCast v97
  let c0_76 : Index := 0#32
  ![v98.toNat, 0]
def k0_off4 (v0 : BitVec 32) (c0_i32_34 : BitVec 32) : Fin 2 → Nat :=
  let c2048_i32_83 : BitVec 32 := 2048#32
  let v50 : BitVec 32 := Scalar.addi v0 c0_i32_34
  let c1_i32_35 : BitVec 32 := 1#32
  let v51 : BitVec 32 := Scalar.addi v50 c1_i32_35
  let c32_i32_36 : BitVec 32 := 32#32
  let c0_i32_37 : BitVec 32 := 0#32
  let v52 : BitVec 1 := Scalar.cmpi .eq c32_i32_36 c0_i32_37
  let c1_i32_38 : BitVec 32 := 1#32
  let v53 : BitVec 32 := Scalar.select v52 c1_i32_38 c32_i32_36
  let v54 : BitVec 32 := Scalar.remsi v51 v53
  let c0_i32_40 : BitVec 32 := 0#32
  let v56 : BitVec 1 := Scalar.cmpi .slt v54 c0_i32_40
  let c0_i32_41 : BitVec 32 := 0#32
  let v57 : BitVec 1 := Scalar.cmpi .slt v53 c0_i32_41
  let v58 : BitVec 1 := Scalar.xori v56 v57
  let c0_i32_39 : BitVec 32 := 0#32
  let v55 : BitVec 1 := Scalar.cmpi .ne v54 c0_i32_39
  let v59 : BitVec 1 := Scalar.andi v58 v55
  let v60 : BitVec 32 := Scalar.addi v54 v53
  let v61 : BitVec 32 := Scalar.select v59 v60 v54
  let c64_i32_82 : BitVec 32 := 64#32
  let v107 : BitVec 32 := Scalar.muli v61 c64_i32_82
  let v108 : BitVec 32 := Scalar.addi c2048_i32_83 v107
  let v109 : Index := Scalar.indexCast v108
  let c0_84 : Index := 0#32
  ![v109.toNat, 0]
def k0_dev5 (v2 : BitVec 32) : Nat :=
  let c0_i32_93 : BitVec 32 := 0#32
  let c1_i32_92 : BitVec 32 := 1#32
  let v119 : BitVec 32 := Scalar.muli v2 c1_i32_92
  let v120 : BitVec 32 := Scalar.addi c0_i32_93 v119
  v120.toNat
def k0_dev6 (v1 : BitVec 32) : Nat :=
  let c0_i32_96 : BitVec 32 := 0#32
  let c1_i32_95 : BitVec 32 := 1#32
  let v121 : BitVec 32 := Scalar.muli v1 c1_i32_95
  let v122 : BitVec 32 := Scalar.addi c0_i32_96 v121
  v122.toNat
def k0_dev7 (v1 : BitVec 32) : Nat :=
  let c0_i32_134 : BitVec 32 := 0#32
  let c1_i32_133 : BitVec 32 := 1#32
  let v172 : BitVec 32 := Scalar.muli v1 c1_i32_133
  let v173 : BitVec 32 := Scalar.addi c0_i32_134 v172
  v173.toNat
def k0_dev8 (v2 : BitVec 32) : Nat :=
  let c0_i32_142 : BitVec 32 := 0#32
  let c1_i32_141 : BitVec 32 := 1#32
  let v181 : BitVec 32 := Scalar.muli v2 c1_i32_141
  let v182 : BitVec 32 := Scalar.addi c0_i32_142 v181
  v182.toNat
def k0_dev9 (v2 : BitVec 32) : Nat :=
  let c0_i32_180 : BitVec 32 := 0#32
  let c1_i32_179 : BitVec 32 := 1#32
  let v226 : BitVec 32 := Scalar.muli v2 c1_i32_179
  let v227 : BitVec 32 := Scalar.addi c0_i32_180 v226
  v227.toNat
def k0_dev10 (v1 : BitVec 32) : Nat :=
  let c0_i32_183 : BitVec 32 := 0#32
  let c1_i32_182 : BitVec 32 := 1#32
  let v228 : BitVec 32 := Scalar.muli v1 c1_i32_182
  let v229 : BitVec 32 := Scalar.addi c0_i32_183 v228
  v229.toNat
def k0_dev11 (v1 : BitVec 32) : Nat :=
  let c0_i32_239 : BitVec 32 := 0#32
  let c1_i32_238 : BitVec 32 := 1#32
  let v289 : BitVec 32 := Scalar.muli v1 c1_i32_238
  let v290 : BitVec 32 := Scalar.addi c0_i32_239 v289
  v290.toNat
def k0_dev12 (v2 : BitVec 32) : Nat :=
  let c0_i32_247 : BitVec 32 := 0#32
  let c1_i32_246 : BitVec 32 := 1#32
  let v298 : BitVec 32 := Scalar.muli v2 c1_i32_246
  let v299 : BitVec 32 := Scalar.addi c0_i32_247 v298
  v299.toNat
def k0_dev13 (v2 : BitVec 32) : Nat :=
  let c0_i32_285 : BitVec 32 := 0#32
  let c1_i32_284 : BitVec 32 := 1#32
  let v343 : BitVec 32 := Scalar.muli v2 c1_i32_284
  let v344 : BitVec 32 := Scalar.addi c0_i32_285 v343
  v344.toNat
def k0_dev14 (v1 : BitVec 32) : Nat :=
  let c0_i32_288 : BitVec 32 := 0#32
  let c1_i32_287 : BitVec 32 := 1#32
  let v345 : BitVec 32 := Scalar.muli v1 c1_i32_287
  let v346 : BitVec 32 := Scalar.addi c0_i32_288 v345
  v346.toNat
def k0_dev15 (v1 : BitVec 32) : Nat :=
  let c0_i32_343 : BitVec 32 := 0#32
  let c1_i32_342 : BitVec 32 := 1#32
  let v406 : BitVec 32 := Scalar.muli v1 c1_i32_342
  let v407 : BitVec 32 := Scalar.addi c0_i32_343 v406
  v407.toNat
def k0_dev16 (v2 : BitVec 32) : Nat :=
  let c0_i32_351 : BitVec 32 := 0#32
  let c1_i32_350 : BitVec 32 := 1#32
  let v415 : BitVec 32 := Scalar.muli v2 c1_i32_350
  let v416 : BitVec 32 := Scalar.addi c0_i32_351 v415
  v416.toNat
def k0_dev17 (v2 : BitVec 32) : Nat :=
  let c0_i32_389 : BitVec 32 := 0#32
  let c1_i32_388 : BitVec 32 := 1#32
  let v460 : BitVec 32 := Scalar.muli v2 c1_i32_388
  let v461 : BitVec 32 := Scalar.addi c0_i32_389 v460
  v461.toNat
def k0_dev18 (v1 : BitVec 32) : Nat :=
  let c0_i32_392 : BitVec 32 := 0#32
  let c1_i32_391 : BitVec 32 := 1#32
  let v462 : BitVec 32 := Scalar.muli v1 c1_i32_391
  let v463 : BitVec 32 := Scalar.addi c0_i32_392 v462
  v463.toNat
def k0_dev19 (v1 : BitVec 32) : Nat :=
  let c0_i32_447 : BitVec 32 := 0#32
  let c1_i32_446 : BitVec 32 := 1#32
  let v523 : BitVec 32 := Scalar.muli v1 c1_i32_446
  let v524 : BitVec 32 := Scalar.addi c0_i32_447 v523
  v524.toNat
def k0_dev20 (v2 : BitVec 32) : Nat :=
  let c0_i32_455 : BitVec 32 := 0#32
  let c1_i32_454 : BitVec 32 := 1#32
  let v532 : BitVec 32 := Scalar.muli v2 c1_i32_454
  let v533 : BitVec 32 := Scalar.addi c0_i32_455 v532
  v533.toNat
def k0_dev21 (v2 : BitVec 32) : Nat :=
  let c0_i32_493 : BitVec 32 := 0#32
  let c1_i32_492 : BitVec 32 := 1#32
  let v577 : BitVec 32 := Scalar.muli v2 c1_i32_492
  let v578 : BitVec 32 := Scalar.addi c0_i32_493 v577
  v578.toNat
def k0_dev22 (v1 : BitVec 32) : Nat :=
  let c0_i32_496 : BitVec 32 := 0#32
  let c1_i32_495 : BitVec 32 := 1#32
  let v579 : BitVec 32 := Scalar.muli v1 c1_i32_495
  let v580 : BitVec 32 := Scalar.addi c0_i32_496 v579
  v580.toNat
def k0_dev23 (v1 : BitVec 32) : Nat :=
  let c0_i32_551 : BitVec 32 := 0#32
  let c1_i32_550 : BitVec 32 := 1#32
  let v640 : BitVec 32 := Scalar.muli v1 c1_i32_550
  let v641 : BitVec 32 := Scalar.addi c0_i32_551 v640
  v641.toNat
def k0_dev24 (v2 : BitVec 32) : Nat :=
  let c0_i32_559 : BitVec 32 := 0#32
  let c1_i32_558 : BitVec 32 := 1#32
  let v649 : BitVec 32 := Scalar.muli v2 c1_i32_558
  let v650 : BitVec 32 := Scalar.addi c0_i32_559 v649
  v650.toNat
def k0_dev25 (v2 : BitVec 32) : Nat :=
  let c0_i32_597 : BitVec 32 := 0#32
  let c1_i32_596 : BitVec 32 := 1#32
  let v694 : BitVec 32 := Scalar.muli v2 c1_i32_596
  let v695 : BitVec 32 := Scalar.addi c0_i32_597 v694
  v695.toNat
def k0_dev26 (v1 : BitVec 32) : Nat :=
  let c0_i32_600 : BitVec 32 := 0#32
  let c1_i32_599 : BitVec 32 := 1#32
  let v696 : BitVec 32 := Scalar.muli v1 c1_i32_599
  let v697 : BitVec 32 := Scalar.addi c0_i32_600 v696
  v697.toNat
def k0_dev27 (v1 : BitVec 32) : Nat :=
  let c0_i32_655 : BitVec 32 := 0#32
  let c1_i32_654 : BitVec 32 := 1#32
  let v757 : BitVec 32 := Scalar.muli v1 c1_i32_654
  let v758 : BitVec 32 := Scalar.addi c0_i32_655 v757
  v758.toNat
def k0_dev28 (v2 : BitVec 32) : Nat :=
  let c0_i32_663 : BitVec 32 := 0#32
  let c1_i32_662 : BitVec 32 := 1#32
  let v766 : BitVec 32 := Scalar.muli v2 c1_i32_662
  let v767 : BitVec 32 := Scalar.addi c0_i32_663 v766
  v767.toNat
def k0_dev29 (v2 : BitVec 32) : Nat :=
  let c0_i32_701 : BitVec 32 := 0#32
  let c1_i32_700 : BitVec 32 := 1#32
  let v811 : BitVec 32 := Scalar.muli v2 c1_i32_700
  let v812 : BitVec 32 := Scalar.addi c0_i32_701 v811
  v812.toNat
def k0_dev30 (v1 : BitVec 32) : Nat :=
  let c0_i32_704 : BitVec 32 := 0#32
  let c1_i32_703 : BitVec 32 := 1#32
  let v813 : BitVec 32 := Scalar.muli v1 c1_i32_703
  let v814 : BitVec 32 := Scalar.addi c0_i32_704 v813
  v814.toNat
def k0_dev31 (v1 : BitVec 32) : Nat :=
  let c0_i32_759 : BitVec 32 := 0#32
  let c1_i32_758 : BitVec 32 := 1#32
  let v874 : BitVec 32 := Scalar.muli v1 c1_i32_758
  let v875 : BitVec 32 := Scalar.addi c0_i32_759 v874
  v875.toNat
def k0_dev32 (v2 : BitVec 32) : Nat :=
  let c0_i32_767 : BitVec 32 := 0#32
  let c1_i32_766 : BitVec 32 := 1#32
  let v883 : BitVec 32 := Scalar.muli v2 c1_i32_766
  let v884 : BitVec 32 := Scalar.addi c0_i32_767 v883
  v884.toNat
def k0_dev33 (v2 : BitVec 32) : Nat :=
  let c0_i32_805 : BitVec 32 := 0#32
  let c1_i32_804 : BitVec 32 := 1#32
  let v928 : BitVec 32 := Scalar.muli v2 c1_i32_804
  let v929 : BitVec 32 := Scalar.addi c0_i32_805 v928
  v929.toNat
def k0_dev34 (v1 : BitVec 32) : Nat :=
  let c0_i32_808 : BitVec 32 := 0#32
  let c1_i32_807 : BitVec 32 := 1#32
  let v930 : BitVec 32 := Scalar.muli v1 c1_i32_807
  let v931 : BitVec 32 := Scalar.addi c0_i32_808 v930
  v931.toNat
def k0_dev35 (v1 : BitVec 32) : Nat :=
  let c0_i32_863 : BitVec 32 := 0#32
  let c1_i32_862 : BitVec 32 := 1#32
  let v991 : BitVec 32 := Scalar.muli v1 c1_i32_862
  let v992 : BitVec 32 := Scalar.addi c0_i32_863 v991
  v992.toNat
def k0_dev36 (v2 : BitVec 32) : Nat :=
  let c0_i32_871 : BitVec 32 := 0#32
  let c1_i32_870 : BitVec 32 := 1#32
  let v1000 : BitVec 32 := Scalar.muli v2 c1_i32_870
  let v1001 : BitVec 32 := Scalar.addi c0_i32_871 v1000
  v1001.toNat
def k0_dev37 (v2 : BitVec 32) : Nat :=
  let c0_i32_909 : BitVec 32 := 0#32
  let c1_i32_908 : BitVec 32 := 1#32
  let v1045 : BitVec 32 := Scalar.muli v2 c1_i32_908
  let v1046 : BitVec 32 := Scalar.addi c0_i32_909 v1045
  v1046.toNat
def k0_dev38 (v1 : BitVec 32) : Nat :=
  let c0_i32_912 : BitVec 32 := 0#32
  let c1_i32_911 : BitVec 32 := 1#32
  let v1047 : BitVec 32 := Scalar.muli v1 c1_i32_911
  let v1048 : BitVec 32 := Scalar.addi c0_i32_912 v1047
  v1048.toNat
def k0_dev39 (v1 : BitVec 32) : Nat :=
  let c0_i32_967 : BitVec 32 := 0#32
  let c1_i32_966 : BitVec 32 := 1#32
  let v1108 : BitVec 32 := Scalar.muli v1 c1_i32_966
  let v1109 : BitVec 32 := Scalar.addi c0_i32_967 v1108
  v1109.toNat
def k0_dev40 (v2 : BitVec 32) : Nat :=
  let c0_i32_975 : BitVec 32 := 0#32
  let c1_i32_974 : BitVec 32 := 1#32
  let v1117 : BitVec 32 := Scalar.muli v2 c1_i32_974
  let v1118 : BitVec 32 := Scalar.addi c0_i32_975 v1117
  v1118.toNat
def k0_dev41 (v2 : BitVec 32) : Nat :=
  let c0_i32_1013 : BitVec 32 := 0#32
  let c1_i32_1012 : BitVec 32 := 1#32
  let v1162 : BitVec 32 := Scalar.muli v2 c1_i32_1012
  let v1163 : BitVec 32 := Scalar.addi c0_i32_1013 v1162
  v1163.toNat
def k0_dev42 (v1 : BitVec 32) : Nat :=
  let c0_i32_1016 : BitVec 32 := 0#32
  let c1_i32_1015 : BitVec 32 := 1#32
  let v1164 : BitVec 32 := Scalar.muli v1 c1_i32_1015
  let v1165 : BitVec 32 := Scalar.addi c0_i32_1016 v1164
  v1165.toNat
def k0_dev43 (v1 : BitVec 32) : Nat :=
  let c0_i32_1071 : BitVec 32 := 0#32
  let c1_i32_1070 : BitVec 32 := 1#32
  let v1225 : BitVec 32 := Scalar.muli v1 c1_i32_1070
  let v1226 : BitVec 32 := Scalar.addi c0_i32_1071 v1225
  v1226.toNat
def k0_dev44 (v2 : BitVec 32) : Nat :=
  let c0_i32_1079 : BitVec 32 := 0#32
  let c1_i32_1078 : BitVec 32 := 1#32
  let v1234 : BitVec 32 := Scalar.muli v2 c1_i32_1078
  let v1235 : BitVec 32 := Scalar.addi c0_i32_1079 v1234
  v1235.toNat
def k0_dev45 (v2 : BitVec 32) : Nat :=
  let c0_i32_1117 : BitVec 32 := 0#32
  let c1_i32_1116 : BitVec 32 := 1#32
  let v1279 : BitVec 32 := Scalar.muli v2 c1_i32_1116
  let v1280 : BitVec 32 := Scalar.addi c0_i32_1117 v1279
  v1280.toNat
def k0_dev46 (v1 : BitVec 32) : Nat :=
  let c0_i32_1120 : BitVec 32 := 0#32
  let c1_i32_1119 : BitVec 32 := 1#32
  let v1281 : BitVec 32 := Scalar.muli v1 c1_i32_1119
  let v1282 : BitVec 32 := Scalar.addi c0_i32_1120 v1281
  v1282.toNat
def k0_dev47 (v1 : BitVec 32) : Nat :=
  let c0_i32_1175 : BitVec 32 := 0#32
  let c1_i32_1174 : BitVec 32 := 1#32
  let v1342 : BitVec 32 := Scalar.muli v1 c1_i32_1174
  let v1343 : BitVec 32 := Scalar.addi c0_i32_1175 v1342
  v1343.toNat
def k0_dev48 (v2 : BitVec 32) : Nat :=
  let c0_i32_1183 : BitVec 32 := 0#32
  let c1_i32_1182 : BitVec 32 := 1#32
  let v1351 : BitVec 32 := Scalar.muli v2 c1_i32_1182
  let v1352 : BitVec 32 := Scalar.addi c0_i32_1183 v1351
  v1352.toNat
def k0_dev49 (v2 : BitVec 32) : Nat :=
  let c0_i32_1221 : BitVec 32 := 0#32
  let c1_i32_1220 : BitVec 32 := 1#32
  let v1396 : BitVec 32 := Scalar.muli v2 c1_i32_1220
  let v1397 : BitVec 32 := Scalar.addi c0_i32_1221 v1396
  v1397.toNat
def k0_dev50 (v1 : BitVec 32) : Nat :=
  let c0_i32_1224 : BitVec 32 := 0#32
  let c1_i32_1223 : BitVec 32 := 1#32
  let v1398 : BitVec 32 := Scalar.muli v1 c1_i32_1223
  let v1399 : BitVec 32 := Scalar.addi c0_i32_1224 v1398
  v1399.toNat
def k0_dev51 (v1 : BitVec 32) : Nat :=
  let c0_i32_1279 : BitVec 32 := 0#32
  let c1_i32_1278 : BitVec 32 := 1#32
  let v1459 : BitVec 32 := Scalar.muli v1 c1_i32_1278
  let v1460 : BitVec 32 := Scalar.addi c0_i32_1279 v1459
  v1460.toNat
def k0_dev52 (v2 : BitVec 32) : Nat :=
  let c0_i32_1287 : BitVec 32 := 0#32
  let c1_i32_1286 : BitVec 32 := 1#32
  let v1468 : BitVec 32 := Scalar.muli v2 c1_i32_1286
  let v1469 : BitVec 32 := Scalar.addi c0_i32_1287 v1468
  v1469.toNat
def k0_dev53 (v2 : BitVec 32) : Nat :=
  let c0_i32_1325 : BitVec 32 := 0#32
  let c1_i32_1324 : BitVec 32 := 1#32
  let v1513 : BitVec 32 := Scalar.muli v2 c1_i32_1324
  let v1514 : BitVec 32 := Scalar.addi c0_i32_1325 v1513
  v1514.toNat
def k0_dev54 (v1 : BitVec 32) : Nat :=
  let c0_i32_1328 : BitVec 32 := 0#32
  let c1_i32_1327 : BitVec 32 := 1#32
  let v1515 : BitVec 32 := Scalar.muli v1 c1_i32_1327
  let v1516 : BitVec 32 := Scalar.addi c0_i32_1328 v1515
  v1516.toNat
def k0_dev55 (v1 : BitVec 32) : Nat :=
  let c0_i32_1383 : BitVec 32 := 0#32
  let c1_i32_1382 : BitVec 32 := 1#32
  let v1576 : BitVec 32 := Scalar.muli v1 c1_i32_1382
  let v1577 : BitVec 32 := Scalar.addi c0_i32_1383 v1576
  v1577.toNat
def k0_dev56 (v2 : BitVec 32) : Nat :=
  let c0_i32_1391 : BitVec 32 := 0#32
  let c1_i32_1390 : BitVec 32 := 1#32
  let v1585 : BitVec 32 := Scalar.muli v2 c1_i32_1390
  let v1586 : BitVec 32 := Scalar.addi c0_i32_1391 v1585
  v1586.toNat
def k0_dev57 (v2 : BitVec 32) : Nat :=
  let c0_i32_1429 : BitVec 32 := 0#32
  let c1_i32_1428 : BitVec 32 := 1#32
  let v1630 : BitVec 32 := Scalar.muli v2 c1_i32_1428
  let v1631 : BitVec 32 := Scalar.addi c0_i32_1429 v1630
  v1631.toNat
def k0_dev58 (v1 : BitVec 32) : Nat :=
  let c0_i32_1432 : BitVec 32 := 0#32
  let c1_i32_1431 : BitVec 32 := 1#32
  let v1632 : BitVec 32 := Scalar.muli v1 c1_i32_1431
  let v1633 : BitVec 32 := Scalar.addi c0_i32_1432 v1632
  v1633.toNat
def k0_dev59 (v1 : BitVec 32) : Nat :=
  let c0_i32_1487 : BitVec 32 := 0#32
  let c1_i32_1486 : BitVec 32 := 1#32
  let v1693 : BitVec 32 := Scalar.muli v1 c1_i32_1486
  let v1694 : BitVec 32 := Scalar.addi c0_i32_1487 v1693
  v1694.toNat
def k0_dev60 (v2 : BitVec 32) : Nat :=
  let c0_i32_1495 : BitVec 32 := 0#32
  let c1_i32_1494 : BitVec 32 := 1#32
  let v1702 : BitVec 32 := Scalar.muli v2 c1_i32_1494
  let v1703 : BitVec 32 := Scalar.addi c0_i32_1495 v1702
  v1703.toNat
def k0_dev61 (v2 : BitVec 32) : Nat :=
  let c0_i32_1533 : BitVec 32 := 0#32
  let c1_i32_1532 : BitVec 32 := 1#32
  let v1747 : BitVec 32 := Scalar.muli v2 c1_i32_1532
  let v1748 : BitVec 32 := Scalar.addi c0_i32_1533 v1747
  v1748.toNat
def k0_dev62 (v1 : BitVec 32) : Nat :=
  let c0_i32_1536 : BitVec 32 := 0#32
  let c1_i32_1535 : BitVec 32 := 1#32
  let v1749 : BitVec 32 := Scalar.muli v1 c1_i32_1535
  let v1750 : BitVec 32 := Scalar.addi c0_i32_1536 v1749
  v1750.toNat
def k0_dev63 (v1 : BitVec 32) : Nat :=
  let c0_i32_1591 : BitVec 32 := 0#32
  let c1_i32_1590 : BitVec 32 := 1#32
  let v1810 : BitVec 32 := Scalar.muli v1 c1_i32_1590
  let v1811 : BitVec 32 := Scalar.addi c0_i32_1591 v1810
  v1811.toNat
def k0_dev64 (v2 : BitVec 32) : Nat :=
  let c0_i32_1599 : BitVec 32 := 0#32
  let c1_i32_1598 : BitVec 32 := 1#32
  let v1819 : BitVec 32 := Scalar.muli v2 c1_i32_1598
  let v1820 : BitVec 32 := Scalar.addi c0_i32_1599 v1819
  v1820.toNat
def k0_dev65 (v2 : BitVec 32) : Nat :=
  let c0_i32_1637 : BitVec 32 := 0#32
  let c1_i32_1636 : BitVec 32 := 1#32
  let v1864 : BitVec 32 := Scalar.muli v2 c1_i32_1636
  let v1865 : BitVec 32 := Scalar.addi c0_i32_1637 v1864
  v1865.toNat
def k0_dev66 (v1 : BitVec 32) : Nat :=
  let c0_i32_1640 : BitVec 32 := 0#32
  let c1_i32_1639 : BitVec 32 := 1#32
  let v1866 : BitVec 32 := Scalar.muli v1 c1_i32_1639
  let v1867 : BitVec 32 := Scalar.addi c0_i32_1640 v1866
  v1867.toNat
def k0_dev67 (v1 : BitVec 32) : Nat :=
  let c0_i32_1695 : BitVec 32 := 0#32
  let c1_i32_1694 : BitVec 32 := 1#32
  let v1927 : BitVec 32 := Scalar.muli v1 c1_i32_1694
  let v1928 : BitVec 32 := Scalar.addi c0_i32_1695 v1927
  v1928.toNat
def k0_dev68 (v2 : BitVec 32) : Nat :=
  let c0_i32_1703 : BitVec 32 := 0#32
  let c1_i32_1702 : BitVec 32 := 1#32
  let v1936 : BitVec 32 := Scalar.muli v2 c1_i32_1702
  let v1937 : BitVec 32 := Scalar.addi c0_i32_1703 v1936
  v1937.toNat
def k0_dev69 (v2 : BitVec 32) : Nat :=
  let c0_i32_1741 : BitVec 32 := 0#32
  let c1_i32_1740 : BitVec 32 := 1#32
  let v1981 : BitVec 32 := Scalar.muli v2 c1_i32_1740
  let v1982 : BitVec 32 := Scalar.addi c0_i32_1741 v1981
  v1982.toNat
def k0_dev70 (v1 : BitVec 32) : Nat :=
  let c0_i32_1744 : BitVec 32 := 0#32
  let c1_i32_1743 : BitVec 32 := 1#32
  let v1983 : BitVec 32 := Scalar.muli v1 c1_i32_1743
  let v1984 : BitVec 32 := Scalar.addi c0_i32_1744 v1983
  v1984.toNat
def k0_dev71 (v1 : BitVec 32) : Nat :=
  let c0_i32_1799 : BitVec 32 := 0#32
  let c1_i32_1798 : BitVec 32 := 1#32
  let v2044 : BitVec 32 := Scalar.muli v1 c1_i32_1798
  let v2045 : BitVec 32 := Scalar.addi c0_i32_1799 v2044
  v2045.toNat
def k0_dev72 (v2 : BitVec 32) : Nat :=
  let c0_i32_1807 : BitVec 32 := 0#32
  let c1_i32_1806 : BitVec 32 := 1#32
  let v2053 : BitVec 32 := Scalar.muli v2 c1_i32_1806
  let v2054 : BitVec 32 := Scalar.addi c0_i32_1807 v2053
  v2054.toNat
def k0_dev73 (v2 : BitVec 32) : Nat :=
  let c0_i32_1845 : BitVec 32 := 0#32
  let c1_i32_1844 : BitVec 32 := 1#32
  let v2098 : BitVec 32 := Scalar.muli v2 c1_i32_1844
  let v2099 : BitVec 32 := Scalar.addi c0_i32_1845 v2098
  v2099.toNat
def k0_dev74 (v1 : BitVec 32) : Nat :=
  let c0_i32_1848 : BitVec 32 := 0#32
  let c1_i32_1847 : BitVec 32 := 1#32
  let v2100 : BitVec 32 := Scalar.muli v1 c1_i32_1847
  let v2101 : BitVec 32 := Scalar.addi c0_i32_1848 v2100
  v2101.toNat
def k0_dev75 (v1 : BitVec 32) : Nat :=
  let c0_i32_1903 : BitVec 32 := 0#32
  let c1_i32_1902 : BitVec 32 := 1#32
  let v2161 : BitVec 32 := Scalar.muli v1 c1_i32_1902
  let v2162 : BitVec 32 := Scalar.addi c0_i32_1903 v2161
  v2162.toNat
def k0_dev76 (v2 : BitVec 32) : Nat :=
  let c0_i32_1911 : BitVec 32 := 0#32
  let c1_i32_1910 : BitVec 32 := 1#32
  let v2170 : BitVec 32 := Scalar.muli v2 c1_i32_1910
  let v2171 : BitVec 32 := Scalar.addi c0_i32_1911 v2170
  v2171.toNat
def k0_dev77 (v2 : BitVec 32) : Nat :=
  let c0_i32_1949 : BitVec 32 := 0#32
  let c1_i32_1948 : BitVec 32 := 1#32
  let v2215 : BitVec 32 := Scalar.muli v2 c1_i32_1948
  let v2216 : BitVec 32 := Scalar.addi c0_i32_1949 v2215
  v2216.toNat
def k0_dev78 (v1 : BitVec 32) : Nat :=
  let c0_i32_1952 : BitVec 32 := 0#32
  let c1_i32_1951 : BitVec 32 := 1#32
  let v2217 : BitVec 32 := Scalar.muli v1 c1_i32_1951
  let v2218 : BitVec 32 := Scalar.addi c0_i32_1952 v2217
  v2218.toNat
def k0_dev79 (v1 : BitVec 32) : Nat :=
  let c0_i32_2007 : BitVec 32 := 0#32
  let c1_i32_2006 : BitVec 32 := 1#32
  let v2278 : BitVec 32 := Scalar.muli v1 c1_i32_2006
  let v2279 : BitVec 32 := Scalar.addi c0_i32_2007 v2278
  v2279.toNat
def k0_dev80 (v2 : BitVec 32) : Nat :=
  let c0_i32_2015 : BitVec 32 := 0#32
  let c1_i32_2014 : BitVec 32 := 1#32
  let v2287 : BitVec 32 := Scalar.muli v2 c1_i32_2014
  let v2288 : BitVec 32 := Scalar.addi c0_i32_2015 v2287
  v2288.toNat
def k0_dev81 (v2 : BitVec 32) : Nat :=
  let c0_i32_2053 : BitVec 32 := 0#32
  let c1_i32_2052 : BitVec 32 := 1#32
  let v2332 : BitVec 32 := Scalar.muli v2 c1_i32_2052
  let v2333 : BitVec 32 := Scalar.addi c0_i32_2053 v2332
  v2333.toNat
def k0_dev82 (v1 : BitVec 32) : Nat :=
  let c0_i32_2056 : BitVec 32 := 0#32
  let c1_i32_2055 : BitVec 32 := 1#32
  let v2334 : BitVec 32 := Scalar.muli v1 c1_i32_2055
  let v2335 : BitVec 32 := Scalar.addi c0_i32_2056 v2334
  v2335.toNat
def k0_dev83 (v1 : BitVec 32) : Nat :=
  let c0_i32_2111 : BitVec 32 := 0#32
  let c1_i32_2110 : BitVec 32 := 1#32
  let v2395 : BitVec 32 := Scalar.muli v1 c1_i32_2110
  let v2396 : BitVec 32 := Scalar.addi c0_i32_2111 v2395
  v2396.toNat
def k0_dev84 (v2 : BitVec 32) : Nat :=
  let c0_i32_2119 : BitVec 32 := 0#32
  let c1_i32_2118 : BitVec 32 := 1#32
  let v2404 : BitVec 32 := Scalar.muli v2 c1_i32_2118
  let v2405 : BitVec 32 := Scalar.addi c0_i32_2119 v2404
  v2405.toNat
def k0_dev85 (v2 : BitVec 32) : Nat :=
  let c0_i32_2157 : BitVec 32 := 0#32
  let c1_i32_2156 : BitVec 32 := 1#32
  let v2449 : BitVec 32 := Scalar.muli v2 c1_i32_2156
  let v2450 : BitVec 32 := Scalar.addi c0_i32_2157 v2449
  v2450.toNat
def k0_dev86 (v1 : BitVec 32) : Nat :=
  let c0_i32_2160 : BitVec 32 := 0#32
  let c1_i32_2159 : BitVec 32 := 1#32
  let v2451 : BitVec 32 := Scalar.muli v1 c1_i32_2159
  let v2452 : BitVec 32 := Scalar.addi c0_i32_2160 v2451
  v2452.toNat
def k0_dev87 (v1 : BitVec 32) : Nat :=
  let c0_i32_2215 : BitVec 32 := 0#32
  let c1_i32_2214 : BitVec 32 := 1#32
  let v2512 : BitVec 32 := Scalar.muli v1 c1_i32_2214
  let v2513 : BitVec 32 := Scalar.addi c0_i32_2215 v2512
  v2513.toNat
def k0_dev88 (v2 : BitVec 32) : Nat :=
  let c0_i32_2223 : BitVec 32 := 0#32
  let c1_i32_2222 : BitVec 32 := 1#32
  let v2521 : BitVec 32 := Scalar.muli v2 c1_i32_2222
  let v2522 : BitVec 32 := Scalar.addi c0_i32_2223 v2521
  v2522.toNat
def k0_dev89 (v2 : BitVec 32) : Nat :=
  let c0_i32_2261 : BitVec 32 := 0#32
  let c1_i32_2260 : BitVec 32 := 1#32
  let v2566 : BitVec 32 := Scalar.muli v2 c1_i32_2260
  let v2567 : BitVec 32 := Scalar.addi c0_i32_2261 v2566
  v2567.toNat
def k0_dev90 (v1 : BitVec 32) : Nat :=
  let c0_i32_2264 : BitVec 32 := 0#32
  let c1_i32_2263 : BitVec 32 := 1#32
  let v2568 : BitVec 32 := Scalar.muli v1 c1_i32_2263
  let v2569 : BitVec 32 := Scalar.addi c0_i32_2264 v2568
  v2569.toNat
def k0_dev91 (v1 : BitVec 32) : Nat :=
  let c0_i32_2319 : BitVec 32 := 0#32
  let c1_i32_2318 : BitVec 32 := 1#32
  let v2629 : BitVec 32 := Scalar.muli v1 c1_i32_2318
  let v2630 : BitVec 32 := Scalar.addi c0_i32_2319 v2629
  v2630.toNat
def k0_dev92 (v2 : BitVec 32) : Nat :=
  let c0_i32_2327 : BitVec 32 := 0#32
  let c1_i32_2326 : BitVec 32 := 1#32
  let v2638 : BitVec 32 := Scalar.muli v2 c1_i32_2326
  let v2639 : BitVec 32 := Scalar.addi c0_i32_2327 v2638
  v2639.toNat
def k0_dev93 (v2 : BitVec 32) : Nat :=
  let c0_i32_2365 : BitVec 32 := 0#32
  let c1_i32_2364 : BitVec 32 := 1#32
  let v2683 : BitVec 32 := Scalar.muli v2 c1_i32_2364
  let v2684 : BitVec 32 := Scalar.addi c0_i32_2365 v2683
  v2684.toNat
def k0_dev94 (v1 : BitVec 32) : Nat :=
  let c0_i32_2368 : BitVec 32 := 0#32
  let c1_i32_2367 : BitVec 32 := 1#32
  let v2685 : BitVec 32 := Scalar.muli v1 c1_i32_2367
  let v2686 : BitVec 32 := Scalar.addi c0_i32_2368 v2685
  v2686.toNat
def k0_dev95 (v1 : BitVec 32) : Nat :=
  let c0_i32_2423 : BitVec 32 := 0#32
  let c1_i32_2422 : BitVec 32 := 1#32
  let v2746 : BitVec 32 := Scalar.muli v1 c1_i32_2422
  let v2747 : BitVec 32 := Scalar.addi c0_i32_2423 v2746
  v2747.toNat
def k0_dev96 (v2 : BitVec 32) : Nat :=
  let c0_i32_2431 : BitVec 32 := 0#32
  let c1_i32_2430 : BitVec 32 := 1#32
  let v2755 : BitVec 32 := Scalar.muli v2 c1_i32_2430
  let v2756 : BitVec 32 := Scalar.addi c0_i32_2431 v2755
  v2756.toNat
def k0_dev97 (v2 : BitVec 32) : Nat :=
  let c0_i32_2469 : BitVec 32 := 0#32
  let c1_i32_2468 : BitVec 32 := 1#32
  let v2800 : BitVec 32 := Scalar.muli v2 c1_i32_2468
  let v2801 : BitVec 32 := Scalar.addi c0_i32_2469 v2800
  v2801.toNat
def k0_dev98 (v1 : BitVec 32) : Nat :=
  let c0_i32_2472 : BitVec 32 := 0#32
  let c1_i32_2471 : BitVec 32 := 1#32
  let v2802 : BitVec 32 := Scalar.muli v1 c1_i32_2471
  let v2803 : BitVec 32 := Scalar.addi c0_i32_2472 v2802
  v2803.toNat
def k0_dev99 (v1 : BitVec 32) : Nat :=
  let c0_i32_2527 : BitVec 32 := 0#32
  let c1_i32_2526 : BitVec 32 := 1#32
  let v2863 : BitVec 32 := Scalar.muli v1 c1_i32_2526
  let v2864 : BitVec 32 := Scalar.addi c0_i32_2527 v2863
  v2864.toNat
def k0_dev100 (v2 : BitVec 32) : Nat :=
  let c0_i32_2535 : BitVec 32 := 0#32
  let c1_i32_2534 : BitVec 32 := 1#32
  let v2872 : BitVec 32 := Scalar.muli v2 c1_i32_2534
  let v2873 : BitVec 32 := Scalar.addi c0_i32_2535 v2872
  v2873.toNat
def k0_dev101 (v2 : BitVec 32) : Nat :=
  let c0_i32_2573 : BitVec 32 := 0#32
  let c1_i32_2572 : BitVec 32 := 1#32
  let v2917 : BitVec 32 := Scalar.muli v2 c1_i32_2572
  let v2918 : BitVec 32 := Scalar.addi c0_i32_2573 v2917
  v2918.toNat
def k0_dev102 (v1 : BitVec 32) : Nat :=
  let c0_i32_2576 : BitVec 32 := 0#32
  let c1_i32_2575 : BitVec 32 := 1#32
  let v2919 : BitVec 32 := Scalar.muli v1 c1_i32_2575
  let v2920 : BitVec 32 := Scalar.addi c0_i32_2576 v2919
  v2920.toNat
def k0_dev103 (v1 : BitVec 32) : Nat :=
  let c0_i32_2631 : BitVec 32 := 0#32
  let c1_i32_2630 : BitVec 32 := 1#32
  let v2980 : BitVec 32 := Scalar.muli v1 c1_i32_2630
  let v2981 : BitVec 32 := Scalar.addi c0_i32_2631 v2980
  v2981.toNat
def k0_dev104 (v2 : BitVec 32) : Nat :=
  let c0_i32_2639 : BitVec 32 := 0#32
  let c1_i32_2638 : BitVec 32 := 1#32
  let v2989 : BitVec 32 := Scalar.muli v2 c1_i32_2638
  let v2990 : BitVec 32 := Scalar.addi c0_i32_2639 v2989
  v2990.toNat
def k0_dev105 (v2 : BitVec 32) : Nat :=
  let c0_i32_2677 : BitVec 32 := 0#32
  let c1_i32_2676 : BitVec 32 := 1#32
  let v3034 : BitVec 32 := Scalar.muli v2 c1_i32_2676
  let v3035 : BitVec 32 := Scalar.addi c0_i32_2677 v3034
  v3035.toNat
def k0_dev106 (v1 : BitVec 32) : Nat :=
  let c0_i32_2680 : BitVec 32 := 0#32
  let c1_i32_2679 : BitVec 32 := 1#32
  let v3036 : BitVec 32 := Scalar.muli v1 c1_i32_2679
  let v3037 : BitVec 32 := Scalar.addi c0_i32_2680 v3036
  v3037.toNat
def k0_dev107 (v1 : BitVec 32) : Nat :=
  let c0_i32_2735 : BitVec 32 := 0#32
  let c1_i32_2734 : BitVec 32 := 1#32
  let v3097 : BitVec 32 := Scalar.muli v1 c1_i32_2734
  let v3098 : BitVec 32 := Scalar.addi c0_i32_2735 v3097
  v3098.toNat
def k0_dev108 (v2 : BitVec 32) : Nat :=
  let c0_i32_2743 : BitVec 32 := 0#32
  let c1_i32_2742 : BitVec 32 := 1#32
  let v3106 : BitVec 32 := Scalar.muli v2 c1_i32_2742
  let v3107 : BitVec 32 := Scalar.addi c0_i32_2743 v3106
  v3107.toNat
def k0_dev109 (v2 : BitVec 32) : Nat :=
  let c0_i32_2781 : BitVec 32 := 0#32
  let c1_i32_2780 : BitVec 32 := 1#32
  let v3151 : BitVec 32 := Scalar.muli v2 c1_i32_2780
  let v3152 : BitVec 32 := Scalar.addi c0_i32_2781 v3151
  v3152.toNat
def k0_dev110 (v1 : BitVec 32) : Nat :=
  let c0_i32_2784 : BitVec 32 := 0#32
  let c1_i32_2783 : BitVec 32 := 1#32
  let v3153 : BitVec 32 := Scalar.muli v1 c1_i32_2783
  let v3154 : BitVec 32 := Scalar.addi c0_i32_2784 v3153
  v3154.toNat
def k0_dev111 (v1 : BitVec 32) : Nat :=
  let c0_i32_2839 : BitVec 32 := 0#32
  let c1_i32_2838 : BitVec 32 := 1#32
  let v3214 : BitVec 32 := Scalar.muli v1 c1_i32_2838
  let v3215 : BitVec 32 := Scalar.addi c0_i32_2839 v3214
  v3215.toNat
def k0_dev112 (v2 : BitVec 32) : Nat :=
  let c0_i32_2847 : BitVec 32 := 0#32
  let c1_i32_2846 : BitVec 32 := 1#32
  let v3223 : BitVec 32 := Scalar.muli v2 c1_i32_2846
  let v3224 : BitVec 32 := Scalar.addi c0_i32_2847 v3223
  v3224.toNat
def k0_dev113 (v2 : BitVec 32) : Nat :=
  let c0_i32_2885 : BitVec 32 := 0#32
  let c1_i32_2884 : BitVec 32 := 1#32
  let v3268 : BitVec 32 := Scalar.muli v2 c1_i32_2884
  let v3269 : BitVec 32 := Scalar.addi c0_i32_2885 v3268
  v3269.toNat
def k0_dev114 (v1 : BitVec 32) : Nat :=
  let c0_i32_2888 : BitVec 32 := 0#32
  let c1_i32_2887 : BitVec 32 := 1#32
  let v3270 : BitVec 32 := Scalar.muli v1 c1_i32_2887
  let v3271 : BitVec 32 := Scalar.addi c0_i32_2888 v3270
  v3271.toNat
def k0_dev115 (v1 : BitVec 32) : Nat :=
  let c0_i32_2943 : BitVec 32 := 0#32
  let c1_i32_2942 : BitVec 32 := 1#32
  let v3331 : BitVec 32 := Scalar.muli v1 c1_i32_2942
  let v3332 : BitVec 32 := Scalar.addi c0_i32_2943 v3331
  v3332.toNat
def k0_dev116 (v2 : BitVec 32) : Nat :=
  let c0_i32_2951 : BitVec 32 := 0#32
  let c1_i32_2950 : BitVec 32 := 1#32
  let v3340 : BitVec 32 := Scalar.muli v2 c1_i32_2950
  let v3341 : BitVec 32 := Scalar.addi c0_i32_2951 v3340
  v3341.toNat
def k0_dev117 (v2 : BitVec 32) : Nat :=
  let c0_i32_2989 : BitVec 32 := 0#32
  let c1_i32_2988 : BitVec 32 := 1#32
  let v3385 : BitVec 32 := Scalar.muli v2 c1_i32_2988
  let v3386 : BitVec 32 := Scalar.addi c0_i32_2989 v3385
  v3386.toNat
def k0_dev118 (v1 : BitVec 32) : Nat :=
  let c0_i32_2992 : BitVec 32 := 0#32
  let c1_i32_2991 : BitVec 32 := 1#32
  let v3387 : BitVec 32 := Scalar.muli v1 c1_i32_2991
  let v3388 : BitVec 32 := Scalar.addi c0_i32_2992 v3387
  v3388.toNat
def k0_dev119 (v1 : BitVec 32) : Nat :=
  let c0_i32_3047 : BitVec 32 := 0#32
  let c1_i32_3046 : BitVec 32 := 1#32
  let v3448 : BitVec 32 := Scalar.muli v1 c1_i32_3046
  let v3449 : BitVec 32 := Scalar.addi c0_i32_3047 v3448
  v3449.toNat
def k0_dev120 (v2 : BitVec 32) : Nat :=
  let c0_i32_3055 : BitVec 32 := 0#32
  let c1_i32_3054 : BitVec 32 := 1#32
  let v3457 : BitVec 32 := Scalar.muli v2 c1_i32_3054
  let v3458 : BitVec 32 := Scalar.addi c0_i32_3055 v3457
  v3458.toNat
def k0_dev121 (v2 : BitVec 32) : Nat :=
  let c0_i32_3093 : BitVec 32 := 0#32
  let c1_i32_3092 : BitVec 32 := 1#32
  let v3502 : BitVec 32 := Scalar.muli v2 c1_i32_3092
  let v3503 : BitVec 32 := Scalar.addi c0_i32_3093 v3502
  v3503.toNat
def k0_dev122 (v1 : BitVec 32) : Nat :=
  let c0_i32_3096 : BitVec 32 := 0#32
  let c1_i32_3095 : BitVec 32 := 1#32
  let v3504 : BitVec 32 := Scalar.muli v1 c1_i32_3095
  let v3505 : BitVec 32 := Scalar.addi c0_i32_3096 v3504
  v3505.toNat
def k0_dev123 (v1 : BitVec 32) : Nat :=
  let c0_i32_3151 : BitVec 32 := 0#32
  let c1_i32_3150 : BitVec 32 := 1#32
  let v3565 : BitVec 32 := Scalar.muli v1 c1_i32_3150
  let v3566 : BitVec 32 := Scalar.addi c0_i32_3151 v3565
  v3566.toNat
def k0_dev124 (v2 : BitVec 32) : Nat :=
  let c0_i32_3159 : BitVec 32 := 0#32
  let c1_i32_3158 : BitVec 32 := 1#32
  let v3574 : BitVec 32 := Scalar.muli v2 c1_i32_3158
  let v3575 : BitVec 32 := Scalar.addi c0_i32_3159 v3574
  v3575.toNat
def k0_dev125 (v2 : BitVec 32) : Nat :=
  let c0_i32_3197 : BitVec 32 := 0#32
  let c1_i32_3196 : BitVec 32 := 1#32
  let v3619 : BitVec 32 := Scalar.muli v2 c1_i32_3196
  let v3620 : BitVec 32 := Scalar.addi c0_i32_3197 v3619
  v3620.toNat
def k0_dev126 (v1 : BitVec 32) : Nat :=
  let c0_i32_3200 : BitVec 32 := 0#32
  let c1_i32_3199 : BitVec 32 := 1#32
  let v3621 : BitVec 32 := Scalar.muli v1 c1_i32_3199
  let v3622 : BitVec 32 := Scalar.addi c0_i32_3200 v3621
  v3622.toNat
def k0_off5 (v0 : BitVec 32) : Fin 2 → Nat :=
  let c1_i32_3203 : BitVec 32 := 1#32
  let v3624 : BitVec 32 := Scalar.addi v0 c1_i32_3203
  let c32_i32_3204 : BitVec 32 := 32#32
  let c0_i32_3205 : BitVec 32 := 0#32
  let v3625 : BitVec 1 := Scalar.cmpi .eq c32_i32_3204 c0_i32_3205
  let c1_i32_3206 : BitVec 32 := 1#32
  let v3626 : BitVec 32 := Scalar.select v3625 c1_i32_3206 c32_i32_3204
  let v3627 : BitVec 32 := Scalar.remsi v3624 v3626
  let c0_i32_3208 : BitVec 32 := 0#32
  let v3629 : BitVec 1 := Scalar.cmpi .slt v3627 c0_i32_3208
  let c0_i32_3209 : BitVec 32 := 0#32
  let v3630 : BitVec 1 := Scalar.cmpi .slt v3626 c0_i32_3209
  let v3631 : BitVec 1 := Scalar.xori v3629 v3630
  let c0_i32_3207 : BitVec 32 := 0#32
  let v3628 : BitVec 1 := Scalar.cmpi .ne v3627 c0_i32_3207
  let v3632 : BitVec 1 := Scalar.andi v3631 v3628
  let v3633 : BitVec 32 := Scalar.addi v3627 v3626
  let v3634 : BitVec 32 := Scalar.select v3632 v3633 v3627
  let c64_i32_3210 : BitVec 32 := 64#32
  let v3635 : BitVec 32 := Scalar.muli v3634 c64_i32_3210
  let v3636 : Index := Scalar.indexCast v3635
  let c0_3211 : Index := 0#32
  ![v3636.toNat, 0]
def k0_off6 (v0 : BitVec 32) : Fin 2 → Nat :=
  let c2048_i32_3226 : BitVec 32 := 2048#32
  let c1_i32_3218 : BitVec 32 := 1#32
  let v3654 : BitVec 32 := Scalar.subi v0 c1_i32_3218
  let c32_i32_3219 : BitVec 32 := 32#32
  let c0_i32_3220 : BitVec 32 := 0#32
  let v3655 : BitVec 1 := Scalar.cmpi .eq c32_i32_3219 c0_i32_3220
  let c1_i32_3221 : BitVec 32 := 1#32
  let v3656 : BitVec 32 := Scalar.select v3655 c1_i32_3221 c32_i32_3219
  let v3657 : BitVec 32 := Scalar.remsi v3654 v3656
  let c0_i32_3223 : BitVec 32 := 0#32
  let v3659 : BitVec 1 := Scalar.cmpi .slt v3657 c0_i32_3223
  let c0_i32_3224 : BitVec 32 := 0#32
  let v3660 : BitVec 1 := Scalar.cmpi .slt v3656 c0_i32_3224
  let v3661 : BitVec 1 := Scalar.xori v3659 v3660
  let c0_i32_3222 : BitVec 32 := 0#32
  let v3658 : BitVec 1 := Scalar.cmpi .ne v3657 c0_i32_3222
  let v3662 : BitVec 1 := Scalar.andi v3661 v3658
  let v3663 : BitVec 32 := Scalar.addi v3657 v3656
  let v3664 : BitVec 32 := Scalar.select v3662 v3663 v3657
  let c64_i32_3225 : BitVec 32 := 64#32
  let v3665 : BitVec 32 := Scalar.muli v3664 c64_i32_3225
  let v3666 : BitVec 32 := Scalar.addi c2048_i32_3226 v3665
  let v3667 : Index := Scalar.indexCast v3666
  let c0_3227 : Index := 0#32
  ![v3667.toNat, 0]

def k0_chk3 (v0 : BitVec 32) : Prop :=
  (∀ (r : Fin 62), ∀ a, (k0_off1 v0 (BitVec.ofNat 32 r.val)) a + S64x2048.size a ≤ S4096x2048.size a) ∧
  (∀ (r : Fin 62), ∀ a, (k0_off2 v0 (BitVec.ofNat 32 r.val)) a + S64x2048.size a ≤ S4096x2048.size a) ∧
  (∀ (r : Fin 62), ∀ a, (k0_off3 v0 (BitVec.ofNat 32 r.val)) a + S64x2048.size a ≤ S4096x2048.size a) ∧
  (∀ (r : Fin 62), ∀ a, (k0_off4 v0 (BitVec.ofNat 32 r.val)) a + S64x2048.size a ≤ S4096x2048.size a) ∧
  (∀ a, (k0_off5 v0) a + S64x2048.size a ≤ S4096x2048.size a) ∧
  (∀ a, (k0_off6 v0) a + S64x2048.size a ≤ S4096x2048.size a)
theorem k0_off1_inb : ∀ (v0 : BitVec 32) (k0_hw3 : k0_chk3 v0), ∀ (r : Fin 62), ∀ a, (k0_off1 v0 (BitVec.ofNat 32 r.val)) a + S64x2048.size a ≤ S4096x2048.size a := fun v0 k0_hw3 r => k0_hw3.1 r
theorem k0_off2_inb : ∀ (v0 : BitVec 32) (k0_hw3 : k0_chk3 v0), ∀ (r : Fin 62), ∀ a, (k0_off2 v0 (BitVec.ofNat 32 r.val)) a + S64x2048.size a ≤ S4096x2048.size a := fun v0 k0_hw3 r => k0_hw3.2.1 r
theorem k0_off3_inb : ∀ (v0 : BitVec 32) (k0_hw3 : k0_chk3 v0), ∀ (r : Fin 62), ∀ a, (k0_off3 v0 (BitVec.ofNat 32 r.val)) a + S64x2048.size a ≤ S4096x2048.size a := fun v0 k0_hw3 r => k0_hw3.2.2.1 r
theorem k0_off4_inb : ∀ (v0 : BitVec 32) (k0_hw3 : k0_chk3 v0), ∀ (r : Fin 62), ∀ a, (k0_off4 v0 (BitVec.ofNat 32 r.val)) a + S64x2048.size a ≤ S4096x2048.size a := fun v0 k0_hw3 r => k0_hw3.2.2.2.1 r
theorem k0_off5_inb : ∀ (v0 : BitVec 32) (k0_hw3 : k0_chk3 v0), ∀ a, (k0_off5 v0) a + S64x2048.size a ≤ S4096x2048.size a := fun v0 k0_hw3 => k0_hw3.2.2.2.2.1
theorem k0_off6_inb : ∀ (v0 : BitVec 32) (k0_hw3 : k0_chk3 v0), ∀ a, (k0_off6 v0) a + S64x2048.size a ≤ S4096x2048.size a := fun v0 k0_hw3 => k0_hw3.2.2.2.2.2

def k0_dev127 (v1 : BitVec 32) : Nat :=
  let c0_i32_3289 : BitVec 32 := 0#32
  let c1_i32_3288 : BitVec 32 := 1#32
  let v3745 : BitVec 32 := Scalar.muli v1 c1_i32_3288
  let v3746 : BitVec 32 := Scalar.addi c0_i32_3289 v3745
  v3746.toNat
def k0_dev128 (v2 : BitVec 32) : Nat :=
  let c0_i32_3297 : BitVec 32 := 0#32
  let c1_i32_3296 : BitVec 32 := 1#32
  let v3754 : BitVec 32 := Scalar.muli v2 c1_i32_3296
  let v3755 : BitVec 32 := Scalar.addi c0_i32_3297 v3754
  v3755.toNat
def k0_dev129 (v2 : BitVec 32) : Nat :=
  let c0_i32_3330 : BitVec 32 := 0#32
  let c1_i32_3329 : BitVec 32 := 1#32
  let v3788 : BitVec 32 := Scalar.muli v2 c1_i32_3329
  let v3789 : BitVec 32 := Scalar.addi c0_i32_3330 v3788
  v3789.toNat
def k0_dev130 (v1 : BitVec 32) : Nat :=
  let c0_i32_3333 : BitVec 32 := 0#32
  let c1_i32_3332 : BitVec 32 := 1#32
  let v3790 : BitVec 32 := Scalar.muli v1 c1_i32_3332
  let v3791 : BitVec 32 := Scalar.addi c0_i32_3333 v3790
  v3791.toNat
def k0_dev131 (v1 : BitVec 32) : Nat :=
  let c0_i32_3389 : BitVec 32 := 0#32
  let c1_i32_3388 : BitVec 32 := 1#32
  let v3851 : BitVec 32 := Scalar.muli v1 c1_i32_3388
  let v3852 : BitVec 32 := Scalar.addi c0_i32_3389 v3851
  v3852.toNat
def k0_dev132 (v2 : BitVec 32) : Nat :=
  let c0_i32_3397 : BitVec 32 := 0#32
  let c1_i32_3396 : BitVec 32 := 1#32
  let v3860 : BitVec 32 := Scalar.muli v2 c1_i32_3396
  let v3861 : BitVec 32 := Scalar.addi c0_i32_3397 v3860
  v3861.toNat
def k0_dev133 (v2 : BitVec 32) : Nat :=
  let c0_i32_3430 : BitVec 32 := 0#32
  let c1_i32_3429 : BitVec 32 := 1#32
  let v3894 : BitVec 32 := Scalar.muli v2 c1_i32_3429
  let v3895 : BitVec 32 := Scalar.addi c0_i32_3430 v3894
  v3895.toNat
def k0_dev134 (v1 : BitVec 32) : Nat :=
  let c0_i32_3433 : BitVec 32 := 0#32
  let c1_i32_3432 : BitVec 32 := 1#32
  let v3896 : BitVec 32 := Scalar.muli v1 c1_i32_3432
  let v3897 : BitVec 32 := Scalar.addi c0_i32_3433 v3896
  v3897.toNat
def k0_dev135 (v1 : BitVec 32) : Nat :=
  let c0_i32_3488 : BitVec 32 := 0#32
  let c1_i32_3487 : BitVec 32 := 1#32
  let v3957 : BitVec 32 := Scalar.muli v1 c1_i32_3487
  let v3958 : BitVec 32 := Scalar.addi c0_i32_3488 v3957
  v3958.toNat
def k0_dev136 (v2 : BitVec 32) : Nat :=
  let c0_i32_3496 : BitVec 32 := 0#32
  let c1_i32_3495 : BitVec 32 := 1#32
  let v3966 : BitVec 32 := Scalar.muli v2 c1_i32_3495
  let v3967 : BitVec 32 := Scalar.addi c0_i32_3496 v3966
  v3967.toNat
def k0_dev137 (v2 : BitVec 32) : Nat :=
  let c0_i32_3529 : BitVec 32 := 0#32
  let c1_i32_3528 : BitVec 32 := 1#32
  let v4000 : BitVec 32 := Scalar.muli v2 c1_i32_3528
  let v4001 : BitVec 32 := Scalar.addi c0_i32_3529 v4000
  v4001.toNat
def k0_dev138 (v1 : BitVec 32) : Nat :=
  let c0_i32_3532 : BitVec 32 := 0#32
  let c1_i32_3531 : BitVec 32 := 1#32
  let v4002 : BitVec 32 := Scalar.muli v1 c1_i32_3531
  let v4003 : BitVec 32 := Scalar.addi c0_i32_3532 v4002
  v4003.toNat
def k0_dev139 (v1 : BitVec 32) : Nat :=
  let c0_i32_3587 : BitVec 32 := 0#32
  let c1_i32_3586 : BitVec 32 := 1#32
  let v4063 : BitVec 32 := Scalar.muli v1 c1_i32_3586
  let v4064 : BitVec 32 := Scalar.addi c0_i32_3587 v4063
  v4064.toNat
def k0_dev140 (v2 : BitVec 32) : Nat :=
  let c0_i32_3595 : BitVec 32 := 0#32
  let c1_i32_3594 : BitVec 32 := 1#32
  let v4072 : BitVec 32 := Scalar.muli v2 c1_i32_3594
  let v4073 : BitVec 32 := Scalar.addi c0_i32_3595 v4072
  v4073.toNat
def k0_dev141 (v2 : BitVec 32) : Nat :=
  let c0_i32_3628 : BitVec 32 := 0#32
  let c1_i32_3627 : BitVec 32 := 1#32
  let v4106 : BitVec 32 := Scalar.muli v2 c1_i32_3627
  let v4107 : BitVec 32 := Scalar.addi c0_i32_3628 v4106
  v4107.toNat
def k0_dev142 (v1 : BitVec 32) : Nat :=
  let c0_i32_3631 : BitVec 32 := 0#32
  let c1_i32_3630 : BitVec 32 := 1#32
  let v4108 : BitVec 32 := Scalar.muli v1 c1_i32_3630
  let v4109 : BitVec 32 := Scalar.addi c0_i32_3631 v4108
  v4109.toNat
def k0_dev143 (v1 : BitVec 32) : Nat :=
  let c0_i32_3686 : BitVec 32 := 0#32
  let c1_i32_3685 : BitVec 32 := 1#32
  let v4169 : BitVec 32 := Scalar.muli v1 c1_i32_3685
  let v4170 : BitVec 32 := Scalar.addi c0_i32_3686 v4169
  v4170.toNat
def k0_dev144 (v2 : BitVec 32) : Nat :=
  let c0_i32_3694 : BitVec 32 := 0#32
  let c1_i32_3693 : BitVec 32 := 1#32
  let v4178 : BitVec 32 := Scalar.muli v2 c1_i32_3693
  let v4179 : BitVec 32 := Scalar.addi c0_i32_3694 v4178
  v4179.toNat
def k0_dev145 (v2 : BitVec 32) : Nat :=
  let c0_i32_3727 : BitVec 32 := 0#32
  let c1_i32_3726 : BitVec 32 := 1#32
  let v4212 : BitVec 32 := Scalar.muli v2 c1_i32_3726
  let v4213 : BitVec 32 := Scalar.addi c0_i32_3727 v4212
  v4213.toNat
def k0_dev146 (v1 : BitVec 32) : Nat :=
  let c0_i32_3730 : BitVec 32 := 0#32
  let c1_i32_3729 : BitVec 32 := 1#32
  let v4214 : BitVec 32 := Scalar.muli v1 c1_i32_3729
  let v4215 : BitVec 32 := Scalar.addi c0_i32_3730 v4214
  v4215.toNat
def k0_dev147 (v1 : BitVec 32) : Nat :=
  let c0_i32_3785 : BitVec 32 := 0#32
  let c1_i32_3784 : BitVec 32 := 1#32
  let v4275 : BitVec 32 := Scalar.muli v1 c1_i32_3784
  let v4276 : BitVec 32 := Scalar.addi c0_i32_3785 v4275
  v4276.toNat
def k0_dev148 (v2 : BitVec 32) : Nat :=
  let c0_i32_3793 : BitVec 32 := 0#32
  let c1_i32_3792 : BitVec 32 := 1#32
  let v4284 : BitVec 32 := Scalar.muli v2 c1_i32_3792
  let v4285 : BitVec 32 := Scalar.addi c0_i32_3793 v4284
  v4285.toNat
def k0_dev149 (v2 : BitVec 32) : Nat :=
  let c0_i32_3826 : BitVec 32 := 0#32
  let c1_i32_3825 : BitVec 32 := 1#32
  let v4318 : BitVec 32 := Scalar.muli v2 c1_i32_3825
  let v4319 : BitVec 32 := Scalar.addi c0_i32_3826 v4318
  v4319.toNat
def k0_dev150 (v1 : BitVec 32) : Nat :=
  let c0_i32_3829 : BitVec 32 := 0#32
  let c1_i32_3828 : BitVec 32 := 1#32
  let v4320 : BitVec 32 := Scalar.muli v1 c1_i32_3828
  let v4321 : BitVec 32 := Scalar.addi c0_i32_3829 v4320
  v4321.toNat
def k0_dev151 (v1 : BitVec 32) : Nat :=
  let c0_i32_3884 : BitVec 32 := 0#32
  let c1_i32_3883 : BitVec 32 := 1#32
  let v4381 : BitVec 32 := Scalar.muli v1 c1_i32_3883
  let v4382 : BitVec 32 := Scalar.addi c0_i32_3884 v4381
  v4382.toNat
def k0_dev152 (v2 : BitVec 32) : Nat :=
  let c0_i32_3892 : BitVec 32 := 0#32
  let c1_i32_3891 : BitVec 32 := 1#32
  let v4390 : BitVec 32 := Scalar.muli v2 c1_i32_3891
  let v4391 : BitVec 32 := Scalar.addi c0_i32_3892 v4390
  v4391.toNat
def k0_dev153 (v2 : BitVec 32) : Nat :=
  let c0_i32_3925 : BitVec 32 := 0#32
  let c1_i32_3924 : BitVec 32 := 1#32
  let v4424 : BitVec 32 := Scalar.muli v2 c1_i32_3924
  let v4425 : BitVec 32 := Scalar.addi c0_i32_3925 v4424
  v4425.toNat
def k0_dev154 (v1 : BitVec 32) : Nat :=
  let c0_i32_3928 : BitVec 32 := 0#32
  let c1_i32_3927 : BitVec 32 := 1#32
  let v4426 : BitVec 32 := Scalar.muli v1 c1_i32_3927
  let v4427 : BitVec 32 := Scalar.addi c0_i32_3928 v4426
  v4427.toNat
def k0_dev155 (v1 : BitVec 32) : Nat :=
  let c0_i32_3983 : BitVec 32 := 0#32
  let c1_i32_3982 : BitVec 32 := 1#32
  let v4487 : BitVec 32 := Scalar.muli v1 c1_i32_3982
  let v4488 : BitVec 32 := Scalar.addi c0_i32_3983 v4487
  v4488.toNat
def k0_dev156 (v2 : BitVec 32) : Nat :=
  let c0_i32_3991 : BitVec 32 := 0#32
  let c1_i32_3990 : BitVec 32 := 1#32
  let v4496 : BitVec 32 := Scalar.muli v2 c1_i32_3990
  let v4497 : BitVec 32 := Scalar.addi c0_i32_3991 v4496
  v4497.toNat
def k0_dev157 (v2 : BitVec 32) : Nat :=
  let c0_i32_4024 : BitVec 32 := 0#32
  let c1_i32_4023 : BitVec 32 := 1#32
  let v4530 : BitVec 32 := Scalar.muli v2 c1_i32_4023
  let v4531 : BitVec 32 := Scalar.addi c0_i32_4024 v4530
  v4531.toNat
def k0_dev158 (v1 : BitVec 32) : Nat :=
  let c0_i32_4027 : BitVec 32 := 0#32
  let c1_i32_4026 : BitVec 32 := 1#32
  let v4532 : BitVec 32 := Scalar.muli v1 c1_i32_4026
  let v4533 : BitVec 32 := Scalar.addi c0_i32_4027 v4532
  v4533.toNat
def k0_dev159 (v1 : BitVec 32) : Nat :=
  let c0_i32_4082 : BitVec 32 := 0#32
  let c1_i32_4081 : BitVec 32 := 1#32
  let v4593 : BitVec 32 := Scalar.muli v1 c1_i32_4081
  let v4594 : BitVec 32 := Scalar.addi c0_i32_4082 v4593
  v4594.toNat
def k0_dev160 (v2 : BitVec 32) : Nat :=
  let c0_i32_4090 : BitVec 32 := 0#32
  let c1_i32_4089 : BitVec 32 := 1#32
  let v4602 : BitVec 32 := Scalar.muli v2 c1_i32_4089
  let v4603 : BitVec 32 := Scalar.addi c0_i32_4090 v4602
  v4603.toNat
def k0_dev161 (v2 : BitVec 32) : Nat :=
  let c0_i32_4123 : BitVec 32 := 0#32
  let c1_i32_4122 : BitVec 32 := 1#32
  let v4636 : BitVec 32 := Scalar.muli v2 c1_i32_4122
  let v4637 : BitVec 32 := Scalar.addi c0_i32_4123 v4636
  v4637.toNat
def k0_dev162 (v1 : BitVec 32) : Nat :=
  let c0_i32_4126 : BitVec 32 := 0#32
  let c1_i32_4125 : BitVec 32 := 1#32
  let v4638 : BitVec 32 := Scalar.muli v1 c1_i32_4125
  let v4639 : BitVec 32 := Scalar.addi c0_i32_4126 v4638
  v4639.toNat
def k0_dev163 (v1 : BitVec 32) : Nat :=
  let c0_i32_4181 : BitVec 32 := 0#32
  let c1_i32_4180 : BitVec 32 := 1#32
  let v4699 : BitVec 32 := Scalar.muli v1 c1_i32_4180
  let v4700 : BitVec 32 := Scalar.addi c0_i32_4181 v4699
  v4700.toNat
def k0_dev164 (v2 : BitVec 32) : Nat :=
  let c0_i32_4189 : BitVec 32 := 0#32
  let c1_i32_4188 : BitVec 32 := 1#32
  let v4708 : BitVec 32 := Scalar.muli v2 c1_i32_4188
  let v4709 : BitVec 32 := Scalar.addi c0_i32_4189 v4708
  v4709.toNat
def k0_dev165 (v2 : BitVec 32) : Nat :=
  let c0_i32_4222 : BitVec 32 := 0#32
  let c1_i32_4221 : BitVec 32 := 1#32
  let v4742 : BitVec 32 := Scalar.muli v2 c1_i32_4221
  let v4743 : BitVec 32 := Scalar.addi c0_i32_4222 v4742
  v4743.toNat
def k0_dev166 (v1 : BitVec 32) : Nat :=
  let c0_i32_4225 : BitVec 32 := 0#32
  let c1_i32_4224 : BitVec 32 := 1#32
  let v4744 : BitVec 32 := Scalar.muli v1 c1_i32_4224
  let v4745 : BitVec 32 := Scalar.addi c0_i32_4225 v4744
  v4745.toNat
def k0_dev167 (v1 : BitVec 32) : Nat :=
  let c0_i32_4280 : BitVec 32 := 0#32
  let c1_i32_4279 : BitVec 32 := 1#32
  let v4805 : BitVec 32 := Scalar.muli v1 c1_i32_4279
  let v4806 : BitVec 32 := Scalar.addi c0_i32_4280 v4805
  v4806.toNat
def k0_dev168 (v2 : BitVec 32) : Nat :=
  let c0_i32_4288 : BitVec 32 := 0#32
  let c1_i32_4287 : BitVec 32 := 1#32
  let v4814 : BitVec 32 := Scalar.muli v2 c1_i32_4287
  let v4815 : BitVec 32 := Scalar.addi c0_i32_4288 v4814
  v4815.toNat
def k0_dev169 (v2 : BitVec 32) : Nat :=
  let c0_i32_4321 : BitVec 32 := 0#32
  let c1_i32_4320 : BitVec 32 := 1#32
  let v4848 : BitVec 32 := Scalar.muli v2 c1_i32_4320
  let v4849 : BitVec 32 := Scalar.addi c0_i32_4321 v4848
  v4849.toNat
def k0_dev170 (v1 : BitVec 32) : Nat :=
  let c0_i32_4324 : BitVec 32 := 0#32
  let c1_i32_4323 : BitVec 32 := 1#32
  let v4850 : BitVec 32 := Scalar.muli v1 c1_i32_4323
  let v4851 : BitVec 32 := Scalar.addi c0_i32_4324 v4850
  v4851.toNat
def k0_dev171 (v1 : BitVec 32) : Nat :=
  let c0_i32_4379 : BitVec 32 := 0#32
  let c1_i32_4378 : BitVec 32 := 1#32
  let v4911 : BitVec 32 := Scalar.muli v1 c1_i32_4378
  let v4912 : BitVec 32 := Scalar.addi c0_i32_4379 v4911
  v4912.toNat
def k0_dev172 (v2 : BitVec 32) : Nat :=
  let c0_i32_4387 : BitVec 32 := 0#32
  let c1_i32_4386 : BitVec 32 := 1#32
  let v4920 : BitVec 32 := Scalar.muli v2 c1_i32_4386
  let v4921 : BitVec 32 := Scalar.addi c0_i32_4387 v4920
  v4921.toNat
def k0_dev173 (v2 : BitVec 32) : Nat :=
  let c0_i32_4420 : BitVec 32 := 0#32
  let c1_i32_4419 : BitVec 32 := 1#32
  let v4954 : BitVec 32 := Scalar.muli v2 c1_i32_4419
  let v4955 : BitVec 32 := Scalar.addi c0_i32_4420 v4954
  v4955.toNat
def k0_dev174 (v1 : BitVec 32) : Nat :=
  let c0_i32_4423 : BitVec 32 := 0#32
  let c1_i32_4422 : BitVec 32 := 1#32
  let v4956 : BitVec 32 := Scalar.muli v1 c1_i32_4422
  let v4957 : BitVec 32 := Scalar.addi c0_i32_4423 v4956
  v4957.toNat
def k0_dev175 (v1 : BitVec 32) : Nat :=
  let c0_i32_4478 : BitVec 32 := 0#32
  let c1_i32_4477 : BitVec 32 := 1#32
  let v5017 : BitVec 32 := Scalar.muli v1 c1_i32_4477
  let v5018 : BitVec 32 := Scalar.addi c0_i32_4478 v5017
  v5018.toNat
def k0_dev176 (v2 : BitVec 32) : Nat :=
  let c0_i32_4486 : BitVec 32 := 0#32
  let c1_i32_4485 : BitVec 32 := 1#32
  let v5026 : BitVec 32 := Scalar.muli v2 c1_i32_4485
  let v5027 : BitVec 32 := Scalar.addi c0_i32_4486 v5026
  v5027.toNat
def k0_dev177 (v2 : BitVec 32) : Nat :=
  let c0_i32_4519 : BitVec 32 := 0#32
  let c1_i32_4518 : BitVec 32 := 1#32
  let v5060 : BitVec 32 := Scalar.muli v2 c1_i32_4518
  let v5061 : BitVec 32 := Scalar.addi c0_i32_4519 v5060
  v5061.toNat
def k0_dev178 (v1 : BitVec 32) : Nat :=
  let c0_i32_4522 : BitVec 32 := 0#32
  let c1_i32_4521 : BitVec 32 := 1#32
  let v5062 : BitVec 32 := Scalar.muli v1 c1_i32_4521
  let v5063 : BitVec 32 := Scalar.addi c0_i32_4522 v5062
  v5063.toNat
def k0_dev179 (v1 : BitVec 32) : Nat :=
  let c0_i32_4577 : BitVec 32 := 0#32
  let c1_i32_4576 : BitVec 32 := 1#32
  let v5123 : BitVec 32 := Scalar.muli v1 c1_i32_4576
  let v5124 : BitVec 32 := Scalar.addi c0_i32_4577 v5123
  v5124.toNat
def k0_dev180 (v2 : BitVec 32) : Nat :=
  let c0_i32_4585 : BitVec 32 := 0#32
  let c1_i32_4584 : BitVec 32 := 1#32
  let v5132 : BitVec 32 := Scalar.muli v2 c1_i32_4584
  let v5133 : BitVec 32 := Scalar.addi c0_i32_4585 v5132
  v5133.toNat
def k0_dev181 (v2 : BitVec 32) : Nat :=
  let c0_i32_4618 : BitVec 32 := 0#32
  let c1_i32_4617 : BitVec 32 := 1#32
  let v5166 : BitVec 32 := Scalar.muli v2 c1_i32_4617
  let v5167 : BitVec 32 := Scalar.addi c0_i32_4618 v5166
  v5167.toNat
def k0_dev182 (v1 : BitVec 32) : Nat :=
  let c0_i32_4621 : BitVec 32 := 0#32
  let c1_i32_4620 : BitVec 32 := 1#32
  let v5168 : BitVec 32 := Scalar.muli v1 c1_i32_4620
  let v5169 : BitVec 32 := Scalar.addi c0_i32_4621 v5168
  v5169.toNat
def k0_dev183 (v1 : BitVec 32) : Nat :=
  let c0_i32_4676 : BitVec 32 := 0#32
  let c1_i32_4675 : BitVec 32 := 1#32
  let v5229 : BitVec 32 := Scalar.muli v1 c1_i32_4675
  let v5230 : BitVec 32 := Scalar.addi c0_i32_4676 v5229
  v5230.toNat
def k0_dev184 (v2 : BitVec 32) : Nat :=
  let c0_i32_4684 : BitVec 32 := 0#32
  let c1_i32_4683 : BitVec 32 := 1#32
  let v5238 : BitVec 32 := Scalar.muli v2 c1_i32_4683
  let v5239 : BitVec 32 := Scalar.addi c0_i32_4684 v5238
  v5239.toNat
def k0_dev185 (v2 : BitVec 32) : Nat :=
  let c0_i32_4717 : BitVec 32 := 0#32
  let c1_i32_4716 : BitVec 32 := 1#32
  let v5272 : BitVec 32 := Scalar.muli v2 c1_i32_4716
  let v5273 : BitVec 32 := Scalar.addi c0_i32_4717 v5272
  v5273.toNat
def k0_dev186 (v1 : BitVec 32) : Nat :=
  let c0_i32_4720 : BitVec 32 := 0#32
  let c1_i32_4719 : BitVec 32 := 1#32
  let v5274 : BitVec 32 := Scalar.muli v1 c1_i32_4719
  let v5275 : BitVec 32 := Scalar.addi c0_i32_4720 v5274
  v5275.toNat
def k0_dev187 (v1 : BitVec 32) : Nat :=
  let c0_i32_4775 : BitVec 32 := 0#32
  let c1_i32_4774 : BitVec 32 := 1#32
  let v5335 : BitVec 32 := Scalar.muli v1 c1_i32_4774
  let v5336 : BitVec 32 := Scalar.addi c0_i32_4775 v5335
  v5336.toNat
def k0_dev188 (v2 : BitVec 32) : Nat :=
  let c0_i32_4783 : BitVec 32 := 0#32
  let c1_i32_4782 : BitVec 32 := 1#32
  let v5344 : BitVec 32 := Scalar.muli v2 c1_i32_4782
  let v5345 : BitVec 32 := Scalar.addi c0_i32_4783 v5344
  v5345.toNat
def k0_dev189 (v2 : BitVec 32) : Nat :=
  let c0_i32_4816 : BitVec 32 := 0#32
  let c1_i32_4815 : BitVec 32 := 1#32
  let v5378 : BitVec 32 := Scalar.muli v2 c1_i32_4815
  let v5379 : BitVec 32 := Scalar.addi c0_i32_4816 v5378
  v5379.toNat
def k0_dev190 (v1 : BitVec 32) : Nat :=
  let c0_i32_4819 : BitVec 32 := 0#32
  let c1_i32_4818 : BitVec 32 := 1#32
  let v5380 : BitVec 32 := Scalar.muli v1 c1_i32_4818
  let v5381 : BitVec 32 := Scalar.addi c0_i32_4819 v5380
  v5381.toNat
def k0_dev191 (v1 : BitVec 32) : Nat :=
  let c0_i32_4874 : BitVec 32 := 0#32
  let c1_i32_4873 : BitVec 32 := 1#32
  let v5441 : BitVec 32 := Scalar.muli v1 c1_i32_4873
  let v5442 : BitVec 32 := Scalar.addi c0_i32_4874 v5441
  v5442.toNat
def k0_dev192 (v2 : BitVec 32) : Nat :=
  let c0_i32_4882 : BitVec 32 := 0#32
  let c1_i32_4881 : BitVec 32 := 1#32
  let v5450 : BitVec 32 := Scalar.muli v2 c1_i32_4881
  let v5451 : BitVec 32 := Scalar.addi c0_i32_4882 v5450
  v5451.toNat
def k0_dev193 (v2 : BitVec 32) : Nat :=
  let c0_i32_4915 : BitVec 32 := 0#32
  let c1_i32_4914 : BitVec 32 := 1#32
  let v5484 : BitVec 32 := Scalar.muli v2 c1_i32_4914
  let v5485 : BitVec 32 := Scalar.addi c0_i32_4915 v5484
  v5485.toNat
def k0_dev194 (v1 : BitVec 32) : Nat :=
  let c0_i32_4918 : BitVec 32 := 0#32
  let c1_i32_4917 : BitVec 32 := 1#32
  let v5486 : BitVec 32 := Scalar.muli v1 c1_i32_4917
  let v5487 : BitVec 32 := Scalar.addi c0_i32_4918 v5486
  v5487.toNat
def k0_dev195 (v1 : BitVec 32) : Nat :=
  let c0_i32_4973 : BitVec 32 := 0#32
  let c1_i32_4972 : BitVec 32 := 1#32
  let v5547 : BitVec 32 := Scalar.muli v1 c1_i32_4972
  let v5548 : BitVec 32 := Scalar.addi c0_i32_4973 v5547
  v5548.toNat
def k0_dev196 (v2 : BitVec 32) : Nat :=
  let c0_i32_4981 : BitVec 32 := 0#32
  let c1_i32_4980 : BitVec 32 := 1#32
  let v5556 : BitVec 32 := Scalar.muli v2 c1_i32_4980
  let v5557 : BitVec 32 := Scalar.addi c0_i32_4981 v5556
  v5557.toNat
def k0_dev197 (v2 : BitVec 32) : Nat :=
  let c0_i32_5014 : BitVec 32 := 0#32
  let c1_i32_5013 : BitVec 32 := 1#32
  let v5590 : BitVec 32 := Scalar.muli v2 c1_i32_5013
  let v5591 : BitVec 32 := Scalar.addi c0_i32_5014 v5590
  v5591.toNat
def k0_dev198 (v1 : BitVec 32) : Nat :=
  let c0_i32_5017 : BitVec 32 := 0#32
  let c1_i32_5016 : BitVec 32 := 1#32
  let v5592 : BitVec 32 := Scalar.muli v1 c1_i32_5016
  let v5593 : BitVec 32 := Scalar.addi c0_i32_5017 v5592
  v5593.toNat
def k0_dev199 (v1 : BitVec 32) : Nat :=
  let c0_i32_5072 : BitVec 32 := 0#32
  let c1_i32_5071 : BitVec 32 := 1#32
  let v5653 : BitVec 32 := Scalar.muli v1 c1_i32_5071
  let v5654 : BitVec 32 := Scalar.addi c0_i32_5072 v5653
  v5654.toNat
def k0_dev200 (v2 : BitVec 32) : Nat :=
  let c0_i32_5080 : BitVec 32 := 0#32
  let c1_i32_5079 : BitVec 32 := 1#32
  let v5662 : BitVec 32 := Scalar.muli v2 c1_i32_5079
  let v5663 : BitVec 32 := Scalar.addi c0_i32_5080 v5662
  v5663.toNat
def k0_dev201 (v2 : BitVec 32) : Nat :=
  let c0_i32_5113 : BitVec 32 := 0#32
  let c1_i32_5112 : BitVec 32 := 1#32
  let v5696 : BitVec 32 := Scalar.muli v2 c1_i32_5112
  let v5697 : BitVec 32 := Scalar.addi c0_i32_5113 v5696
  v5697.toNat
def k0_dev202 (v1 : BitVec 32) : Nat :=
  let c0_i32_5116 : BitVec 32 := 0#32
  let c1_i32_5115 : BitVec 32 := 1#32
  let v5698 : BitVec 32 := Scalar.muli v1 c1_i32_5115
  let v5699 : BitVec 32 := Scalar.addi c0_i32_5116 v5698
  v5699.toNat
def k0_dev203 (v1 : BitVec 32) : Nat :=
  let c0_i32_5171 : BitVec 32 := 0#32
  let c1_i32_5170 : BitVec 32 := 1#32
  let v5759 : BitVec 32 := Scalar.muli v1 c1_i32_5170
  let v5760 : BitVec 32 := Scalar.addi c0_i32_5171 v5759
  v5760.toNat
def k0_dev204 (v2 : BitVec 32) : Nat :=
  let c0_i32_5179 : BitVec 32 := 0#32
  let c1_i32_5178 : BitVec 32 := 1#32
  let v5768 : BitVec 32 := Scalar.muli v2 c1_i32_5178
  let v5769 : BitVec 32 := Scalar.addi c0_i32_5179 v5768
  v5769.toNat
def k0_dev205 (v2 : BitVec 32) : Nat :=
  let c0_i32_5212 : BitVec 32 := 0#32
  let c1_i32_5211 : BitVec 32 := 1#32
  let v5802 : BitVec 32 := Scalar.muli v2 c1_i32_5211
  let v5803 : BitVec 32 := Scalar.addi c0_i32_5212 v5802
  v5803.toNat
def k0_dev206 (v1 : BitVec 32) : Nat :=
  let c0_i32_5215 : BitVec 32 := 0#32
  let c1_i32_5214 : BitVec 32 := 1#32
  let v5804 : BitVec 32 := Scalar.muli v1 c1_i32_5214
  let v5805 : BitVec 32 := Scalar.addi c0_i32_5215 v5804
  v5805.toNat
def k0_dev207 (v1 : BitVec 32) : Nat :=
  let c0_i32_5270 : BitVec 32 := 0#32
  let c1_i32_5269 : BitVec 32 := 1#32
  let v5865 : BitVec 32 := Scalar.muli v1 c1_i32_5269
  let v5866 : BitVec 32 := Scalar.addi c0_i32_5270 v5865
  v5866.toNat
def k0_dev208 (v2 : BitVec 32) : Nat :=
  let c0_i32_5278 : BitVec 32 := 0#32
  let c1_i32_5277 : BitVec 32 := 1#32
  let v5874 : BitVec 32 := Scalar.muli v2 c1_i32_5277
  let v5875 : BitVec 32 := Scalar.addi c0_i32_5278 v5874
  v5875.toNat
def k0_dev209 (v2 : BitVec 32) : Nat :=
  let c0_i32_5311 : BitVec 32 := 0#32
  let c1_i32_5310 : BitVec 32 := 1#32
  let v5908 : BitVec 32 := Scalar.muli v2 c1_i32_5310
  let v5909 : BitVec 32 := Scalar.addi c0_i32_5311 v5908
  v5909.toNat
def k0_dev210 (v1 : BitVec 32) : Nat :=
  let c0_i32_5314 : BitVec 32 := 0#32
  let c1_i32_5313 : BitVec 32 := 1#32
  let v5910 : BitVec 32 := Scalar.muli v1 c1_i32_5313
  let v5911 : BitVec 32 := Scalar.addi c0_i32_5314 v5910
  v5911.toNat
def k0_dev211 (v1 : BitVec 32) : Nat :=
  let c0_i32_5369 : BitVec 32 := 0#32
  let c1_i32_5368 : BitVec 32 := 1#32
  let v5971 : BitVec 32 := Scalar.muli v1 c1_i32_5368
  let v5972 : BitVec 32 := Scalar.addi c0_i32_5369 v5971
  v5972.toNat
def k0_dev212 (v2 : BitVec 32) : Nat :=
  let c0_i32_5377 : BitVec 32 := 0#32
  let c1_i32_5376 : BitVec 32 := 1#32
  let v5980 : BitVec 32 := Scalar.muli v2 c1_i32_5376
  let v5981 : BitVec 32 := Scalar.addi c0_i32_5377 v5980
  v5981.toNat
def k0_dev213 (v2 : BitVec 32) : Nat :=
  let c0_i32_5410 : BitVec 32 := 0#32
  let c1_i32_5409 : BitVec 32 := 1#32
  let v6014 : BitVec 32 := Scalar.muli v2 c1_i32_5409
  let v6015 : BitVec 32 := Scalar.addi c0_i32_5410 v6014
  v6015.toNat
def k0_dev214 (v1 : BitVec 32) : Nat :=
  let c0_i32_5413 : BitVec 32 := 0#32
  let c1_i32_5412 : BitVec 32 := 1#32
  let v6016 : BitVec 32 := Scalar.muli v1 c1_i32_5412
  let v6017 : BitVec 32 := Scalar.addi c0_i32_5413 v6016
  v6017.toNat
def k0_dev215 (v1 : BitVec 32) : Nat :=
  let c0_i32_5468 : BitVec 32 := 0#32
  let c1_i32_5467 : BitVec 32 := 1#32
  let v6077 : BitVec 32 := Scalar.muli v1 c1_i32_5467
  let v6078 : BitVec 32 := Scalar.addi c0_i32_5468 v6077
  v6078.toNat
def k0_dev216 (v2 : BitVec 32) : Nat :=
  let c0_i32_5476 : BitVec 32 := 0#32
  let c1_i32_5475 : BitVec 32 := 1#32
  let v6086 : BitVec 32 := Scalar.muli v2 c1_i32_5475
  let v6087 : BitVec 32 := Scalar.addi c0_i32_5476 v6086
  v6087.toNat
def k0_dev217 (v2 : BitVec 32) : Nat :=
  let c0_i32_5509 : BitVec 32 := 0#32
  let c1_i32_5508 : BitVec 32 := 1#32
  let v6120 : BitVec 32 := Scalar.muli v2 c1_i32_5508
  let v6121 : BitVec 32 := Scalar.addi c0_i32_5509 v6120
  v6121.toNat
def k0_dev218 (v1 : BitVec 32) : Nat :=
  let c0_i32_5512 : BitVec 32 := 0#32
  let c1_i32_5511 : BitVec 32 := 1#32
  let v6122 : BitVec 32 := Scalar.muli v1 c1_i32_5511
  let v6123 : BitVec 32 := Scalar.addi c0_i32_5512 v6122
  v6123.toNat
def k0_dev219 (v1 : BitVec 32) : Nat :=
  let c0_i32_5567 : BitVec 32 := 0#32
  let c1_i32_5566 : BitVec 32 := 1#32
  let v6183 : BitVec 32 := Scalar.muli v1 c1_i32_5566
  let v6184 : BitVec 32 := Scalar.addi c0_i32_5567 v6183
  v6184.toNat
def k0_dev220 (v2 : BitVec 32) : Nat :=
  let c0_i32_5575 : BitVec 32 := 0#32
  let c1_i32_5574 : BitVec 32 := 1#32
  let v6192 : BitVec 32 := Scalar.muli v2 c1_i32_5574
  let v6193 : BitVec 32 := Scalar.addi c0_i32_5575 v6192
  v6193.toNat
def k0_dev221 (v2 : BitVec 32) : Nat :=
  let c0_i32_5608 : BitVec 32 := 0#32
  let c1_i32_5607 : BitVec 32 := 1#32
  let v6226 : BitVec 32 := Scalar.muli v2 c1_i32_5607
  let v6227 : BitVec 32 := Scalar.addi c0_i32_5608 v6226
  v6227.toNat
def k0_dev222 (v1 : BitVec 32) : Nat :=
  let c0_i32_5611 : BitVec 32 := 0#32
  let c1_i32_5610 : BitVec 32 := 1#32
  let v6228 : BitVec 32 := Scalar.muli v1 c1_i32_5610
  let v6229 : BitVec 32 := Scalar.addi c0_i32_5611 v6228
  v6229.toNat
def k0_dev223 (v1 : BitVec 32) : Nat :=
  let c0_i32_5666 : BitVec 32 := 0#32
  let c1_i32_5665 : BitVec 32 := 1#32
  let v6289 : BitVec 32 := Scalar.muli v1 c1_i32_5665
  let v6290 : BitVec 32 := Scalar.addi c0_i32_5666 v6289
  v6290.toNat
def k0_dev224 (v2 : BitVec 32) : Nat :=
  let c0_i32_5674 : BitVec 32 := 0#32
  let c1_i32_5673 : BitVec 32 := 1#32
  let v6298 : BitVec 32 := Scalar.muli v2 c1_i32_5673
  let v6299 : BitVec 32 := Scalar.addi c0_i32_5674 v6298
  v6299.toNat
def k0_dev225 (v2 : BitVec 32) : Nat :=
  let c0_i32_5707 : BitVec 32 := 0#32
  let c1_i32_5706 : BitVec 32 := 1#32
  let v6332 : BitVec 32 := Scalar.muli v2 c1_i32_5706
  let v6333 : BitVec 32 := Scalar.addi c0_i32_5707 v6332
  v6333.toNat
def k0_dev226 (v1 : BitVec 32) : Nat :=
  let c0_i32_5710 : BitVec 32 := 0#32
  let c1_i32_5709 : BitVec 32 := 1#32
  let v6334 : BitVec 32 := Scalar.muli v1 c1_i32_5709
  let v6335 : BitVec 32 := Scalar.addi c0_i32_5710 v6334
  v6335.toNat
def k0_dev227 (v1 : BitVec 32) : Nat :=
  let c0_i32_5765 : BitVec 32 := 0#32
  let c1_i32_5764 : BitVec 32 := 1#32
  let v6395 : BitVec 32 := Scalar.muli v1 c1_i32_5764
  let v6396 : BitVec 32 := Scalar.addi c0_i32_5765 v6395
  v6396.toNat
def k0_dev228 (v2 : BitVec 32) : Nat :=
  let c0_i32_5773 : BitVec 32 := 0#32
  let c1_i32_5772 : BitVec 32 := 1#32
  let v6404 : BitVec 32 := Scalar.muli v2 c1_i32_5772
  let v6405 : BitVec 32 := Scalar.addi c0_i32_5773 v6404
  v6405.toNat
def k0_dev229 (v2 : BitVec 32) : Nat :=
  let c0_i32_5806 : BitVec 32 := 0#32
  let c1_i32_5805 : BitVec 32 := 1#32
  let v6438 : BitVec 32 := Scalar.muli v2 c1_i32_5805
  let v6439 : BitVec 32 := Scalar.addi c0_i32_5806 v6438
  v6439.toNat
def k0_dev230 (v1 : BitVec 32) : Nat :=
  let c0_i32_5809 : BitVec 32 := 0#32
  let c1_i32_5808 : BitVec 32 := 1#32
  let v6440 : BitVec 32 := Scalar.muli v1 c1_i32_5808
  let v6441 : BitVec 32 := Scalar.addi c0_i32_5809 v6440
  v6441.toNat
def k0_dev231 (v1 : BitVec 32) : Nat :=
  let c0_i32_5864 : BitVec 32 := 0#32
  let c1_i32_5863 : BitVec 32 := 1#32
  let v6501 : BitVec 32 := Scalar.muli v1 c1_i32_5863
  let v6502 : BitVec 32 := Scalar.addi c0_i32_5864 v6501
  v6502.toNat
def k0_dev232 (v2 : BitVec 32) : Nat :=
  let c0_i32_5872 : BitVec 32 := 0#32
  let c1_i32_5871 : BitVec 32 := 1#32
  let v6510 : BitVec 32 := Scalar.muli v2 c1_i32_5871
  let v6511 : BitVec 32 := Scalar.addi c0_i32_5872 v6510
  v6511.toNat
def k0_dev233 (v2 : BitVec 32) : Nat :=
  let c0_i32_5905 : BitVec 32 := 0#32
  let c1_i32_5904 : BitVec 32 := 1#32
  let v6544 : BitVec 32 := Scalar.muli v2 c1_i32_5904
  let v6545 : BitVec 32 := Scalar.addi c0_i32_5905 v6544
  v6545.toNat
def k0_dev234 (v1 : BitVec 32) : Nat :=
  let c0_i32_5908 : BitVec 32 := 0#32
  let c1_i32_5907 : BitVec 32 := 1#32
  let v6546 : BitVec 32 := Scalar.muli v1 c1_i32_5907
  let v6547 : BitVec 32 := Scalar.addi c0_i32_5908 v6546
  v6547.toNat
def k0_dev235 (v1 : BitVec 32) : Nat :=
  let c0_i32_5963 : BitVec 32 := 0#32
  let c1_i32_5962 : BitVec 32 := 1#32
  let v6607 : BitVec 32 := Scalar.muli v1 c1_i32_5962
  let v6608 : BitVec 32 := Scalar.addi c0_i32_5963 v6607
  v6608.toNat
def k0_dev236 (v2 : BitVec 32) : Nat :=
  let c0_i32_5971 : BitVec 32 := 0#32
  let c1_i32_5970 : BitVec 32 := 1#32
  let v6616 : BitVec 32 := Scalar.muli v2 c1_i32_5970
  let v6617 : BitVec 32 := Scalar.addi c0_i32_5971 v6616
  v6617.toNat
def k0_dev237 (v2 : BitVec 32) : Nat :=
  let c0_i32_6004 : BitVec 32 := 0#32
  let c1_i32_6003 : BitVec 32 := 1#32
  let v6650 : BitVec 32 := Scalar.muli v2 c1_i32_6003
  let v6651 : BitVec 32 := Scalar.addi c0_i32_6004 v6650
  v6651.toNat
def k0_dev238 (v1 : BitVec 32) : Nat :=
  let c0_i32_6007 : BitVec 32 := 0#32
  let c1_i32_6006 : BitVec 32 := 1#32
  let v6652 : BitVec 32 := Scalar.muli v1 c1_i32_6006
  let v6653 : BitVec 32 := Scalar.addi c0_i32_6007 v6652
  v6653.toNat
def k0_dev239 (v1 : BitVec 32) : Nat :=
  let c0_i32_6062 : BitVec 32 := 0#32
  let c1_i32_6061 : BitVec 32 := 1#32
  let v6713 : BitVec 32 := Scalar.muli v1 c1_i32_6061
  let v6714 : BitVec 32 := Scalar.addi c0_i32_6062 v6713
  v6714.toNat
def k0_dev240 (v2 : BitVec 32) : Nat :=
  let c0_i32_6070 : BitVec 32 := 0#32
  let c1_i32_6069 : BitVec 32 := 1#32
  let v6722 : BitVec 32 := Scalar.muli v2 c1_i32_6069
  let v6723 : BitVec 32 := Scalar.addi c0_i32_6070 v6722
  v6723.toNat
def k0_dev241 (v2 : BitVec 32) : Nat :=
  let c0_i32_6103 : BitVec 32 := 0#32
  let c1_i32_6102 : BitVec 32 := 1#32
  let v6756 : BitVec 32 := Scalar.muli v2 c1_i32_6102
  let v6757 : BitVec 32 := Scalar.addi c0_i32_6103 v6756
  v6757.toNat
def k0_dev242 (v1 : BitVec 32) : Nat :=
  let c0_i32_6106 : BitVec 32 := 0#32
  let c1_i32_6105 : BitVec 32 := 1#32
  let v6758 : BitVec 32 := Scalar.muli v1 c1_i32_6105
  let v6759 : BitVec 32 := Scalar.addi c0_i32_6106 v6758
  v6759.toNat
def k0_dev243 (v1 : BitVec 32) : Nat :=
  let c0_i32_6161 : BitVec 32 := 0#32
  let c1_i32_6160 : BitVec 32 := 1#32
  let v6819 : BitVec 32 := Scalar.muli v1 c1_i32_6160
  let v6820 : BitVec 32 := Scalar.addi c0_i32_6161 v6819
  v6820.toNat
def k0_dev244 (v2 : BitVec 32) : Nat :=
  let c0_i32_6169 : BitVec 32 := 0#32
  let c1_i32_6168 : BitVec 32 := 1#32
  let v6828 : BitVec 32 := Scalar.muli v2 c1_i32_6168
  let v6829 : BitVec 32 := Scalar.addi c0_i32_6169 v6828
  v6829.toNat
def k0_dev245 (v1 : BitVec 32) : Nat :=
  let c0_i32_6254 : BitVec 32 := 0#32
  let c1_i32_6253 : BitVec 32 := 1#32
  let v6921 : BitVec 32 := Scalar.muli v1 c1_i32_6253
  let v6922 : BitVec 32 := Scalar.addi c0_i32_6254 v6921
  v6922.toNat

def k0_chk2_0 (v1 : BitVec 32) : Prop :=
  ((k0_dev2 v1) < nD) ∧
  ((k0_dev3 v1) < nD) ∧
  ((k0_dev6 v1) < nD) ∧
  ((k0_dev7 v1) < nD) ∧
  ((k0_dev10 v1) < nD) ∧
  ((k0_dev11 v1) < nD) ∧
  ((k0_dev14 v1) < nD) ∧
  ((k0_dev15 v1) < nD) ∧
  ((k0_dev18 v1) < nD) ∧
  ((k0_dev19 v1) < nD) ∧
  ((k0_dev22 v1) < nD) ∧
  ((k0_dev23 v1) < nD) ∧
  ((k0_dev26 v1) < nD) ∧
  ((k0_dev27 v1) < nD) ∧
  ((k0_dev30 v1) < nD) ∧
  ((k0_dev31 v1) < nD) ∧
  ((k0_dev34 v1) < nD) ∧
  ((k0_dev35 v1) < nD) ∧
  ((k0_dev38 v1) < nD) ∧
  ((k0_dev39 v1) < nD) ∧
  ((k0_dev42 v1) < nD) ∧
  ((k0_dev43 v1) < nD) ∧
  ((k0_dev46 v1) < nD) ∧
  ((k0_dev47 v1) < nD) ∧
  ((k0_dev50 v1) < nD) ∧
  ((k0_dev51 v1) < nD) ∧
  ((k0_dev54 v1) < nD) ∧
  ((k0_dev55 v1) < nD) ∧
  ((k0_dev58 v1) < nD) ∧
  ((k0_dev59 v1) < nD) ∧
  ((k0_dev62 v1) < nD) ∧
  ((k0_dev63 v1) < nD)
def k0_chk2_1 (v1 : BitVec 32) : Prop :=
  ((k0_dev66 v1) < nD) ∧
  ((k0_dev67 v1) < nD) ∧
  ((k0_dev70 v1) < nD) ∧
  ((k0_dev71 v1) < nD) ∧
  ((k0_dev74 v1) < nD) ∧
  ((k0_dev75 v1) < nD) ∧
  ((k0_dev78 v1) < nD) ∧
  ((k0_dev79 v1) < nD) ∧
  ((k0_dev82 v1) < nD) ∧
  ((k0_dev83 v1) < nD) ∧
  ((k0_dev86 v1) < nD) ∧
  ((k0_dev87 v1) < nD) ∧
  ((k0_dev90 v1) < nD) ∧
  ((k0_dev91 v1) < nD) ∧
  ((k0_dev94 v1) < nD) ∧
  ((k0_dev95 v1) < nD) ∧
  ((k0_dev98 v1) < nD) ∧
  ((k0_dev99 v1) < nD) ∧
  ((k0_dev102 v1) < nD) ∧
  ((k0_dev103 v1) < nD) ∧
  ((k0_dev106 v1) < nD) ∧
  ((k0_dev107 v1) < nD) ∧
  ((k0_dev110 v1) < nD) ∧
  ((k0_dev111 v1) < nD) ∧
  ((k0_dev114 v1) < nD) ∧
  ((k0_dev115 v1) < nD) ∧
  ((k0_dev118 v1) < nD) ∧
  ((k0_dev119 v1) < nD) ∧
  ((k0_dev122 v1) < nD) ∧
  ((k0_dev123 v1) < nD) ∧
  ((k0_dev126 v1) < nD) ∧
  ((k0_dev127 v1) < nD)
def k0_chk2_2 (v1 : BitVec 32) : Prop :=
  ((k0_dev130 v1) < nD) ∧
  ((k0_dev131 v1) < nD) ∧
  ((k0_dev134 v1) < nD) ∧
  ((k0_dev135 v1) < nD) ∧
  ((k0_dev138 v1) < nD) ∧
  ((k0_dev139 v1) < nD) ∧
  ((k0_dev142 v1) < nD) ∧
  ((k0_dev143 v1) < nD) ∧
  ((k0_dev146 v1) < nD) ∧
  ((k0_dev147 v1) < nD) ∧
  ((k0_dev150 v1) < nD) ∧
  ((k0_dev151 v1) < nD) ∧
  ((k0_dev154 v1) < nD) ∧
  ((k0_dev155 v1) < nD) ∧
  ((k0_dev158 v1) < nD) ∧
  ((k0_dev159 v1) < nD) ∧
  ((k0_dev162 v1) < nD) ∧
  ((k0_dev163 v1) < nD) ∧
  ((k0_dev166 v1) < nD) ∧
  ((k0_dev167 v1) < nD) ∧
  ((k0_dev170 v1) < nD) ∧
  ((k0_dev171 v1) < nD) ∧
  ((k0_dev174 v1) < nD) ∧
  ((k0_dev175 v1) < nD) ∧
  ((k0_dev178 v1) < nD) ∧
  ((k0_dev179 v1) < nD) ∧
  ((k0_dev182 v1) < nD) ∧
  ((k0_dev183 v1) < nD) ∧
  ((k0_dev186 v1) < nD) ∧
  ((k0_dev187 v1) < nD) ∧
  ((k0_dev190 v1) < nD) ∧
  ((k0_dev191 v1) < nD)
def k0_chk2_3 (v1 : BitVec 32) : Prop :=
  ((k0_dev194 v1) < nD) ∧
  ((k0_dev195 v1) < nD) ∧
  ((k0_dev198 v1) < nD) ∧
  ((k0_dev199 v1) < nD) ∧
  ((k0_dev202 v1) < nD) ∧
  ((k0_dev203 v1) < nD) ∧
  ((k0_dev206 v1) < nD) ∧
  ((k0_dev207 v1) < nD) ∧
  ((k0_dev210 v1) < nD) ∧
  ((k0_dev211 v1) < nD) ∧
  ((k0_dev214 v1) < nD) ∧
  ((k0_dev215 v1) < nD) ∧
  ((k0_dev218 v1) < nD) ∧
  ((k0_dev219 v1) < nD) ∧
  ((k0_dev222 v1) < nD) ∧
  ((k0_dev223 v1) < nD) ∧
  ((k0_dev226 v1) < nD) ∧
  ((k0_dev227 v1) < nD) ∧
  ((k0_dev230 v1) < nD) ∧
  ((k0_dev231 v1) < nD) ∧
  ((k0_dev234 v1) < nD) ∧
  ((k0_dev235 v1) < nD) ∧
  ((k0_dev238 v1) < nD) ∧
  ((k0_dev239 v1) < nD) ∧
  ((k0_dev242 v1) < nD) ∧
  ((k0_dev243 v1) < nD) ∧
  ((k0_dev245 v1) < nD)
def k0_chk2 (v1 : BitVec 32) : Prop :=
  k0_chk2_0 v1 ∧
  k0_chk2_1 v1 ∧
  k0_chk2_2 v1 ∧
  k0_chk2_3 v1
theorem k0_dev2_lt : ∀ (v1 : BitVec 32) (k0_hw2 : k0_chk2 v1), (k0_dev2 v1) < nD := fun v1 k0_hw2 => k0_hw2.1.1
theorem k0_dev3_lt : ∀ (v1 : BitVec 32) (k0_hw2 : k0_chk2 v1), (k0_dev3 v1) < nD := fun v1 k0_hw2 => k0_hw2.1.2.1
theorem k0_dev6_lt : ∀ (v1 : BitVec 32) (k0_hw2 : k0_chk2 v1), (k0_dev6 v1) < nD := fun v1 k0_hw2 => k0_hw2.1.2.2.1
theorem k0_dev7_lt : ∀ (v1 : BitVec 32) (k0_hw2 : k0_chk2 v1), (k0_dev7 v1) < nD := fun v1 k0_hw2 => k0_hw2.1.2.2.2.1
theorem k0_dev10_lt : ∀ (v1 : BitVec 32) (k0_hw2 : k0_chk2 v1), (k0_dev10 v1) < nD := fun v1 k0_hw2 => k0_hw2.1.2.2.2.2.1
theorem k0_dev11_lt : ∀ (v1 : BitVec 32) (k0_hw2 : k0_chk2 v1), (k0_dev11 v1) < nD := fun v1 k0_hw2 => k0_hw2.1.2.2.2.2.2.1
theorem k0_dev14_lt : ∀ (v1 : BitVec 32) (k0_hw2 : k0_chk2 v1), (k0_dev14 v1) < nD := fun v1 k0_hw2 => k0_hw2.1.2.2.2.2.2.2.1
theorem k0_dev15_lt : ∀ (v1 : BitVec 32) (k0_hw2 : k0_chk2 v1), (k0_dev15 v1) < nD := fun v1 k0_hw2 => k0_hw2.1.2.2.2.2.2.2.2.1
theorem k0_dev18_lt : ∀ (v1 : BitVec 32) (k0_hw2 : k0_chk2 v1), (k0_dev18 v1) < nD := fun v1 k0_hw2 => k0_hw2.1.2.2.2.2.2.2.2.2.1
theorem k0_dev19_lt : ∀ (v1 : BitVec 32) (k0_hw2 : k0_chk2 v1), (k0_dev19 v1) < nD := fun v1 k0_hw2 => k0_hw2.1.2.2.2.2.2.2.2.2.2.1
theorem k0_dev22_lt : ∀ (v1 : BitVec 32) (k0_hw2 : k0_chk2 v1), (k0_dev22 v1) < nD := fun v1 k0_hw2 => k0_hw2.1.2.2.2.2.2.2.2.2.2.2.1
theorem k0_dev23_lt : ∀ (v1 : BitVec 32) (k0_hw2 : k0_chk2 v1), (k0_dev23 v1) < nD := fun v1 k0_hw2 => k0_hw2.1.2.2.2.2.2.2.2.2.2.2.2.1
theorem k0_dev26_lt : ∀ (v1 : BitVec 32) (k0_hw2 : k0_chk2 v1), (k0_dev26 v1) < nD := fun v1 k0_hw2 => k0_hw2.1.2.2.2.2.2.2.2.2.2.2.2.2.1
theorem k0_dev27_lt : ∀ (v1 : BitVec 32) (k0_hw2 : k0_chk2 v1), (k0_dev27 v1) < nD := fun v1 k0_hw2 => k0_hw2.1.2.2.2.2.2.2.2.2.2.2.2.2.2.1
theorem k0_dev30_lt : ∀ (v1 : BitVec 32) (k0_hw2 : k0_chk2 v1), (k0_dev30 v1) < nD := fun v1 k0_hw2 => k0_hw2.1.2.2.2.2.2.2.2.2.2.2.2.2.2.2.1
theorem k0_dev31_lt : ∀ (v1 : BitVec 32) (k0_hw2 : k0_chk2 v1), (k0_dev31 v1) < nD := fun v1 k0_hw2 => k0_hw2.1.2.2.2.2.2.2.2.2.2.2.2.2.2.2.2.1
theorem k0_dev34_lt : ∀ (v1 : BitVec 32) (k0_hw2 : k0_chk2 v1), (k0_dev34 v1) < nD := fun v1 k0_hw2 => k0_hw2.1.2.2.2.2.2.2.2.2.2.2.2.2.2.2.2.2.1
theorem k0_dev35_lt : ∀ (v1 : BitVec 32) (k0_hw2 : k0_chk2 v1), (k0_dev35 v1) < nD := fun v1 k0_hw2 => k0_hw2.1.2.2.2.2.2.2.2.2.2.2.2.2.2.2.2.2.2.1
theorem k0_dev38_lt : ∀ (v1 : BitVec 32) (k0_hw2 : k0_chk2 v1), (k0_dev38 v1) < nD := fun v1 k0_hw2 => k0_hw2.1.2.2.2.2.2.2.2.2.2.2.2.2.2.2.2.2.2.2.1
theorem k0_dev39_lt : ∀ (v1 : BitVec 32) (k0_hw2 : k0_chk2 v1), (k0_dev39 v1) < nD := fun v1 k0_hw2 => k0_hw2.1.2.2.2.2.2.2.2.2.2.2.2.2.2.2.2.2.2.2.2.1
theorem k0_dev42_lt : ∀ (v1 : BitVec 32) (k0_hw2 : k0_chk2 v1), (k0_dev42 v1) < nD := fun v1 k0_hw2 => k0_hw2.1.2.2.2.2.2.2.2.2.2.2.2.2.2.2.2.2.2.2.2.2.1
theorem k0_dev43_lt : ∀ (v1 : BitVec 32) (k0_hw2 : k0_chk2 v1), (k0_dev43 v1) < nD := fun v1 k0_hw2 => k0_hw2.1.2.2.2.2.2.2.2.2.2.2.2.2.2.2.2.2.2.2.2.2.2.1
theorem k0_dev46_lt : ∀ (v1 : BitVec 32) (k0_hw2 : k0_chk2 v1), (k0_dev46 v1) < nD := fun v1 k0_hw2 => k0_hw2.1.2.2.2.2.2.2.2.2.2.2.2.2.2.2.2.2.2.2.2.2.2.2.1
theorem k0_dev47_lt : ∀ (v1 : BitVec 32) (k0_hw2 : k0_chk2 v1), (k0_dev47 v1) < nD := fun v1 k0_hw2 => k0_hw2.1.2.2.2.2.2.2.2.2.2.2.2.2.2.2.2.2.2.2.2.2.2.2.2.1
theorem k0_dev50_lt : ∀ (v1 : BitVec 32) (k0_hw2 : k0_chk2 v1), (k0_dev50 v1) < nD := fun v1 k0_hw2 => k0_hw2.1.2.2.2.2.2.2.2.2.2.2.2.2.2.2.2.2.2.2.2.2.2.2.2.2.1
theorem k0_dev51_lt : ∀ (v1 : BitVec 32) (k0_hw2 : k0_chk2 v1), (k0_dev51 v1) < nD := fun v1 k0_hw2 => k0_hw2.1.2.2.2.2.2.2.2.2.2.2.2.2.2.2.2.2.2.2.2.2.2.2.2.2.2.1
theorem k0_dev54_lt : ∀ (v1 : BitVec 32) (k0_hw2 : k0_chk2 v1), (k0_dev54 v1) < nD := fun v1 k0_hw2 => k0_hw2.1.2.2.2.2.2.2.2.2.2.2.2.2.2.2.2.2.2.2.2.2.2.2.2.2.2.2.1
theorem k0_dev55_lt : ∀ (v1 : BitVec 32) (k0_hw2 : k0_chk2 v1), (k0_dev55 v1) < nD := fun v1 k0_hw2 => k0_hw2.1.2.2.2.2.2.2.2.2.2.2.2.2.2.2.2.2.2.2.2.2.2.2.2.2.2.2.2.1
theorem k0_dev58_lt : ∀ (v1 : BitVec 32) (k0_hw2 : k0_chk2 v1), (k0_dev58 v1) < nD := fun v1 k0_hw2 => k0_hw2.1.2.2.2.2.2.2.2.2.2.2.2.2.2.2.2.2.2.2.2.2.2.2.2.2.2.2.2.2.1
theorem k0_dev59_lt : ∀ (v1 : BitVec 32) (k0_hw2 : k0_chk2 v1), (k0_dev59 v1) < nD := fun v1 k0_hw2 => k0_hw2.1.2.2.2.2.2.2.2.2.2.2.2.2.2.2.2.2.2.2.2.2.2.2.2.2.2.2.2.2.2.1
theorem k0_dev62_lt : ∀ (v1 : BitVec 32) (k0_hw2 : k0_chk2 v1), (k0_dev62 v1) < nD := fun v1 k0_hw2 => k0_hw2.1.2.2.2.2.2.2.2.2.2.2.2.2.2.2.2.2.2.2.2.2.2.2.2.2.2.2.2.2.2.2.1
theorem k0_dev63_lt : ∀ (v1 : BitVec 32) (k0_hw2 : k0_chk2 v1), (k0_dev63 v1) < nD := fun v1 k0_hw2 => k0_hw2.1.2.2.2.2.2.2.2.2.2.2.2.2.2.2.2.2.2.2.2.2.2.2.2.2.2.2.2.2.2.2.2
theorem k0_dev66_lt : ∀ (v1 : BitVec 32) (k0_hw2 : k0_chk2 v1), (k0_dev66 v1) < nD := fun v1 k0_hw2 => k0_hw2.2.1.1
theorem k0_dev67_lt : ∀ (v1 : BitVec 32) (k0_hw2 : k0_chk2 v1), (k0_dev67 v1) < nD := fun v1 k0_hw2 => k0_hw2.2.1.2.1
theorem k0_dev70_lt : ∀ (v1 : BitVec 32) (k0_hw2 : k0_chk2 v1), (k0_dev70 v1) < nD := fun v1 k0_hw2 => k0_hw2.2.1.2.2.1
theorem k0_dev71_lt : ∀ (v1 : BitVec 32) (k0_hw2 : k0_chk2 v1), (k0_dev71 v1) < nD := fun v1 k0_hw2 => k0_hw2.2.1.2.2.2.1
theorem k0_dev74_lt : ∀ (v1 : BitVec 32) (k0_hw2 : k0_chk2 v1), (k0_dev74 v1) < nD := fun v1 k0_hw2 => k0_hw2.2.1.2.2.2.2.1
theorem k0_dev75_lt : ∀ (v1 : BitVec 32) (k0_hw2 : k0_chk2 v1), (k0_dev75 v1) < nD := fun v1 k0_hw2 => k0_hw2.2.1.2.2.2.2.2.1
theorem k0_dev78_lt : ∀ (v1 : BitVec 32) (k0_hw2 : k0_chk2 v1), (k0_dev78 v1) < nD := fun v1 k0_hw2 => k0_hw2.2.1.2.2.2.2.2.2.1
theorem k0_dev79_lt : ∀ (v1 : BitVec 32) (k0_hw2 : k0_chk2 v1), (k0_dev79 v1) < nD := fun v1 k0_hw2 => k0_hw2.2.1.2.2.2.2.2.2.2.1
theorem k0_dev82_lt : ∀ (v1 : BitVec 32) (k0_hw2 : k0_chk2 v1), (k0_dev82 v1) < nD := fun v1 k0_hw2 => k0_hw2.2.1.2.2.2.2.2.2.2.2.1
theorem k0_dev83_lt : ∀ (v1 : BitVec 32) (k0_hw2 : k0_chk2 v1), (k0_dev83 v1) < nD := fun v1 k0_hw2 => k0_hw2.2.1.2.2.2.2.2.2.2.2.2.1
theorem k0_dev86_lt : ∀ (v1 : BitVec 32) (k0_hw2 : k0_chk2 v1), (k0_dev86 v1) < nD := fun v1 k0_hw2 => k0_hw2.2.1.2.2.2.2.2.2.2.2.2.2.1
theorem k0_dev87_lt : ∀ (v1 : BitVec 32) (k0_hw2 : k0_chk2 v1), (k0_dev87 v1) < nD := fun v1 k0_hw2 => k0_hw2.2.1.2.2.2.2.2.2.2.2.2.2.2.1
theorem k0_dev90_lt : ∀ (v1 : BitVec 32) (k0_hw2 : k0_chk2 v1), (k0_dev90 v1) < nD := fun v1 k0_hw2 => k0_hw2.2.1.2.2.2.2.2.2.2.2.2.2.2.2.1
theorem k0_dev91_lt : ∀ (v1 : BitVec 32) (k0_hw2 : k0_chk2 v1), (k0_dev91 v1) < nD := fun v1 k0_hw2 => k0_hw2.2.1.2.2.2.2.2.2.2.2.2.2.2.2.2.1
theorem k0_dev94_lt : ∀ (v1 : BitVec 32) (k0_hw2 : k0_chk2 v1), (k0_dev94 v1) < nD := fun v1 k0_hw2 => k0_hw2.2.1.2.2.2.2.2.2.2.2.2.2.2.2.2.2.1
theorem k0_dev95_lt : ∀ (v1 : BitVec 32) (k0_hw2 : k0_chk2 v1), (k0_dev95 v1) < nD := fun v1 k0_hw2 => k0_hw2.2.1.2.2.2.2.2.2.2.2.2.2.2.2.2.2.2.1
theorem k0_dev98_lt : ∀ (v1 : BitVec 32) (k0_hw2 : k0_chk2 v1), (k0_dev98 v1) < nD := fun v1 k0_hw2 => k0_hw2.2.1.2.2.2.2.2.2.2.2.2.2.2.2.2.2.2.2.1
theorem k0_dev99_lt : ∀ (v1 : BitVec 32) (k0_hw2 : k0_chk2 v1), (k0_dev99 v1) < nD := fun v1 k0_hw2 => k0_hw2.2.1.2.2.2.2.2.2.2.2.2.2.2.2.2.2.2.2.2.1
theorem k0_dev102_lt : ∀ (v1 : BitVec 32) (k0_hw2 : k0_chk2 v1), (k0_dev102 v1) < nD := fun v1 k0_hw2 => k0_hw2.2.1.2.2.2.2.2.2.2.2.2.2.2.2.2.2.2.2.2.2.1
theorem k0_dev103_lt : ∀ (v1 : BitVec 32) (k0_hw2 : k0_chk2 v1), (k0_dev103 v1) < nD := fun v1 k0_hw2 => k0_hw2.2.1.2.2.2.2.2.2.2.2.2.2.2.2.2.2.2.2.2.2.2.1
theorem k0_dev106_lt : ∀ (v1 : BitVec 32) (k0_hw2 : k0_chk2 v1), (k0_dev106 v1) < nD := fun v1 k0_hw2 => k0_hw2.2.1.2.2.2.2.2.2.2.2.2.2.2.2.2.2.2.2.2.2.2.2.1
theorem k0_dev107_lt : ∀ (v1 : BitVec 32) (k0_hw2 : k0_chk2 v1), (k0_dev107 v1) < nD := fun v1 k0_hw2 => k0_hw2.2.1.2.2.2.2.2.2.2.2.2.2.2.2.2.2.2.2.2.2.2.2.2.1
theorem k0_dev110_lt : ∀ (v1 : BitVec 32) (k0_hw2 : k0_chk2 v1), (k0_dev110 v1) < nD := fun v1 k0_hw2 => k0_hw2.2.1.2.2.2.2.2.2.2.2.2.2.2.2.2.2.2.2.2.2.2.2.2.2.1
theorem k0_dev111_lt : ∀ (v1 : BitVec 32) (k0_hw2 : k0_chk2 v1), (k0_dev111 v1) < nD := fun v1 k0_hw2 => k0_hw2.2.1.2.2.2.2.2.2.2.2.2.2.2.2.2.2.2.2.2.2.2.2.2.2.2.1
theorem k0_dev114_lt : ∀ (v1 : BitVec 32) (k0_hw2 : k0_chk2 v1), (k0_dev114 v1) < nD := fun v1 k0_hw2 => k0_hw2.2.1.2.2.2.2.2.2.2.2.2.2.2.2.2.2.2.2.2.2.2.2.2.2.2.2.1
theorem k0_dev115_lt : ∀ (v1 : BitVec 32) (k0_hw2 : k0_chk2 v1), (k0_dev115 v1) < nD := fun v1 k0_hw2 => k0_hw2.2.1.2.2.2.2.2.2.2.2.2.2.2.2.2.2.2.2.2.2.2.2.2.2.2.2.2.1
theorem k0_dev118_lt : ∀ (v1 : BitVec 32) (k0_hw2 : k0_chk2 v1), (k0_dev118 v1) < nD := fun v1 k0_hw2 => k0_hw2.2.1.2.2.2.2.2.2.2.2.2.2.2.2.2.2.2.2.2.2.2.2.2.2.2.2.2.2.1
theorem k0_dev119_lt : ∀ (v1 : BitVec 32) (k0_hw2 : k0_chk2 v1), (k0_dev119 v1) < nD := fun v1 k0_hw2 => k0_hw2.2.1.2.2.2.2.2.2.2.2.2.2.2.2.2.2.2.2.2.2.2.2.2.2.2.2.2.2.2.1
theorem k0_dev122_lt : ∀ (v1 : BitVec 32) (k0_hw2 : k0_chk2 v1), (k0_dev122 v1) < nD := fun v1 k0_hw2 => k0_hw2.2.1.2.2.2.2.2.2.2.2.2.2.2.2.2.2.2.2.2.2.2.2.2.2.2.2.2.2.2.2.1
theorem k0_dev123_lt : ∀ (v1 : BitVec 32) (k0_hw2 : k0_chk2 v1), (k0_dev123 v1) < nD := fun v1 k0_hw2 => k0_hw2.2.1.2.2.2.2.2.2.2.2.2.2.2.2.2.2.2.2.2.2.2.2.2.2.2.2.2.2.2.2.2.1
theorem k0_dev126_lt : ∀ (v1 : BitVec 32) (k0_hw2 : k0_chk2 v1), (k0_dev126 v1) < nD := fun v1 k0_hw2 => k0_hw2.2.1.2.2.2.2.2.2.2.2.2.2.2.2.2.2.2.2.2.2.2.2.2.2.2.2.2.2.2.2.2.2.1
theorem k0_dev127_lt : ∀ (v1 : BitVec 32) (k0_hw2 : k0_chk2 v1), (k0_dev127 v1) < nD := fun v1 k0_hw2 => k0_hw2.2.1.2.2.2.2.2.2.2.2.2.2.2.2.2.2.2.2.2.2.2.2.2.2.2.2.2.2.2.2.2.2.2
theorem k0_dev130_lt : ∀ (v1 : BitVec 32) (k0_hw2 : k0_chk2 v1), (k0_dev130 v1) < nD := fun v1 k0_hw2 => k0_hw2.2.2.1.1
theorem k0_dev131_lt : ∀ (v1 : BitVec 32) (k0_hw2 : k0_chk2 v1), (k0_dev131 v1) < nD := fun v1 k0_hw2 => k0_hw2.2.2.1.2.1
theorem k0_dev134_lt : ∀ (v1 : BitVec 32) (k0_hw2 : k0_chk2 v1), (k0_dev134 v1) < nD := fun v1 k0_hw2 => k0_hw2.2.2.1.2.2.1
theorem k0_dev135_lt : ∀ (v1 : BitVec 32) (k0_hw2 : k0_chk2 v1), (k0_dev135 v1) < nD := fun v1 k0_hw2 => k0_hw2.2.2.1.2.2.2.1
theorem k0_dev138_lt : ∀ (v1 : BitVec 32) (k0_hw2 : k0_chk2 v1), (k0_dev138 v1) < nD := fun v1 k0_hw2 => k0_hw2.2.2.1.2.2.2.2.1
theorem k0_dev139_lt : ∀ (v1 : BitVec 32) (k0_hw2 : k0_chk2 v1), (k0_dev139 v1) < nD := fun v1 k0_hw2 => k0_hw2.2.2.1.2.2.2.2.2.1
theorem k0_dev142_lt : ∀ (v1 : BitVec 32) (k0_hw2 : k0_chk2 v1), (k0_dev142 v1) < nD := fun v1 k0_hw2 => k0_hw2.2.2.1.2.2.2.2.2.2.1
theorem k0_dev143_lt : ∀ (v1 : BitVec 32) (k0_hw2 : k0_chk2 v1), (k0_dev143 v1) < nD := fun v1 k0_hw2 => k0_hw2.2.2.1.2.2.2.2.2.2.2.1
theorem k0_dev146_lt : ∀ (v1 : BitVec 32) (k0_hw2 : k0_chk2 v1), (k0_dev146 v1) < nD := fun v1 k0_hw2 => k0_hw2.2.2.1.2.2.2.2.2.2.2.2.1
theorem k0_dev147_lt : ∀ (v1 : BitVec 32) (k0_hw2 : k0_chk2 v1), (k0_dev147 v1) < nD := fun v1 k0_hw2 => k0_hw2.2.2.1.2.2.2.2.2.2.2.2.2.1
theorem k0_dev150_lt : ∀ (v1 : BitVec 32) (k0_hw2 : k0_chk2 v1), (k0_dev150 v1) < nD := fun v1 k0_hw2 => k0_hw2.2.2.1.2.2.2.2.2.2.2.2.2.2.1
theorem k0_dev151_lt : ∀ (v1 : BitVec 32) (k0_hw2 : k0_chk2 v1), (k0_dev151 v1) < nD := fun v1 k0_hw2 => k0_hw2.2.2.1.2.2.2.2.2.2.2.2.2.2.2.1
theorem k0_dev154_lt : ∀ (v1 : BitVec 32) (k0_hw2 : k0_chk2 v1), (k0_dev154 v1) < nD := fun v1 k0_hw2 => k0_hw2.2.2.1.2.2.2.2.2.2.2.2.2.2.2.2.1
theorem k0_dev155_lt : ∀ (v1 : BitVec 32) (k0_hw2 : k0_chk2 v1), (k0_dev155 v1) < nD := fun v1 k0_hw2 => k0_hw2.2.2.1.2.2.2.2.2.2.2.2.2.2.2.2.2.1
theorem k0_dev158_lt : ∀ (v1 : BitVec 32) (k0_hw2 : k0_chk2 v1), (k0_dev158 v1) < nD := fun v1 k0_hw2 => k0_hw2.2.2.1.2.2.2.2.2.2.2.2.2.2.2.2.2.2.1
theorem k0_dev159_lt : ∀ (v1 : BitVec 32) (k0_hw2 : k0_chk2 v1), (k0_dev159 v1) < nD := fun v1 k0_hw2 => k0_hw2.2.2.1.2.2.2.2.2.2.2.2.2.2.2.2.2.2.2.1
theorem k0_dev162_lt : ∀ (v1 : BitVec 32) (k0_hw2 : k0_chk2 v1), (k0_dev162 v1) < nD := fun v1 k0_hw2 => k0_hw2.2.2.1.2.2.2.2.2.2.2.2.2.2.2.2.2.2.2.2.1
theorem k0_dev163_lt : ∀ (v1 : BitVec 32) (k0_hw2 : k0_chk2 v1), (k0_dev163 v1) < nD := fun v1 k0_hw2 => k0_hw2.2.2.1.2.2.2.2.2.2.2.2.2.2.2.2.2.2.2.2.2.1
theorem k0_dev166_lt : ∀ (v1 : BitVec 32) (k0_hw2 : k0_chk2 v1), (k0_dev166 v1) < nD := fun v1 k0_hw2 => k0_hw2.2.2.1.2.2.2.2.2.2.2.2.2.2.2.2.2.2.2.2.2.2.1
theorem k0_dev167_lt : ∀ (v1 : BitVec 32) (k0_hw2 : k0_chk2 v1), (k0_dev167 v1) < nD := fun v1 k0_hw2 => k0_hw2.2.2.1.2.2.2.2.2.2.2.2.2.2.2.2.2.2.2.2.2.2.2.1
theorem k0_dev170_lt : ∀ (v1 : BitVec 32) (k0_hw2 : k0_chk2 v1), (k0_dev170 v1) < nD := fun v1 k0_hw2 => k0_hw2.2.2.1.2.2.2.2.2.2.2.2.2.2.2.2.2.2.2.2.2.2.2.2.1
theorem k0_dev171_lt : ∀ (v1 : BitVec 32) (k0_hw2 : k0_chk2 v1), (k0_dev171 v1) < nD := fun v1 k0_hw2 => k0_hw2.2.2.1.2.2.2.2.2.2.2.2.2.2.2.2.2.2.2.2.2.2.2.2.2.1
theorem k0_dev174_lt : ∀ (v1 : BitVec 32) (k0_hw2 : k0_chk2 v1), (k0_dev174 v1) < nD := fun v1 k0_hw2 => k0_hw2.2.2.1.2.2.2.2.2.2.2.2.2.2.2.2.2.2.2.2.2.2.2.2.2.2.1
theorem k0_dev175_lt : ∀ (v1 : BitVec 32) (k0_hw2 : k0_chk2 v1), (k0_dev175 v1) < nD := fun v1 k0_hw2 => k0_hw2.2.2.1.2.2.2.2.2.2.2.2.2.2.2.2.2.2.2.2.2.2.2.2.2.2.2.1
theorem k0_dev178_lt : ∀ (v1 : BitVec 32) (k0_hw2 : k0_chk2 v1), (k0_dev178 v1) < nD := fun v1 k0_hw2 => k0_hw2.2.2.1.2.2.2.2.2.2.2.2.2.2.2.2.2.2.2.2.2.2.2.2.2.2.2.2.1
theorem k0_dev179_lt : ∀ (v1 : BitVec 32) (k0_hw2 : k0_chk2 v1), (k0_dev179 v1) < nD := fun v1 k0_hw2 => k0_hw2.2.2.1.2.2.2.2.2.2.2.2.2.2.2.2.2.2.2.2.2.2.2.2.2.2.2.2.2.1
theorem k0_dev182_lt : ∀ (v1 : BitVec 32) (k0_hw2 : k0_chk2 v1), (k0_dev182 v1) < nD := fun v1 k0_hw2 => k0_hw2.2.2.1.2.2.2.2.2.2.2.2.2.2.2.2.2.2.2.2.2.2.2.2.2.2.2.2.2.2.1
theorem k0_dev183_lt : ∀ (v1 : BitVec 32) (k0_hw2 : k0_chk2 v1), (k0_dev183 v1) < nD := fun v1 k0_hw2 => k0_hw2.2.2.1.2.2.2.2.2.2.2.2.2.2.2.2.2.2.2.2.2.2.2.2.2.2.2.2.2.2.2.1
theorem k0_dev186_lt : ∀ (v1 : BitVec 32) (k0_hw2 : k0_chk2 v1), (k0_dev186 v1) < nD := fun v1 k0_hw2 => k0_hw2.2.2.1.2.2.2.2.2.2.2.2.2.2.2.2.2.2.2.2.2.2.2.2.2.2.2.2.2.2.2.2.1
theorem k0_dev187_lt : ∀ (v1 : BitVec 32) (k0_hw2 : k0_chk2 v1), (k0_dev187 v1) < nD := fun v1 k0_hw2 => k0_hw2.2.2.1.2.2.2.2.2.2.2.2.2.2.2.2.2.2.2.2.2.2.2.2.2.2.2.2.2.2.2.2.2.1
theorem k0_dev190_lt : ∀ (v1 : BitVec 32) (k0_hw2 : k0_chk2 v1), (k0_dev190 v1) < nD := fun v1 k0_hw2 => k0_hw2.2.2.1.2.2.2.2.2.2.2.2.2.2.2.2.2.2.2.2.2.2.2.2.2.2.2.2.2.2.2.2.2.2.1
theorem k0_dev191_lt : ∀ (v1 : BitVec 32) (k0_hw2 : k0_chk2 v1), (k0_dev191 v1) < nD := fun v1 k0_hw2 => k0_hw2.2.2.1.2.2.2.2.2.2.2.2.2.2.2.2.2.2.2.2.2.2.2.2.2.2.2.2.2.2.2.2.2.2.2
theorem k0_dev194_lt : ∀ (v1 : BitVec 32) (k0_hw2 : k0_chk2 v1), (k0_dev194 v1) < nD := fun v1 k0_hw2 => k0_hw2.2.2.2.1
theorem k0_dev195_lt : ∀ (v1 : BitVec 32) (k0_hw2 : k0_chk2 v1), (k0_dev195 v1) < nD := fun v1 k0_hw2 => k0_hw2.2.2.2.2.1
theorem k0_dev198_lt : ∀ (v1 : BitVec 32) (k0_hw2 : k0_chk2 v1), (k0_dev198 v1) < nD := fun v1 k0_hw2 => k0_hw2.2.2.2.2.2.1
theorem k0_dev199_lt : ∀ (v1 : BitVec 32) (k0_hw2 : k0_chk2 v1), (k0_dev199 v1) < nD := fun v1 k0_hw2 => k0_hw2.2.2.2.2.2.2.1
theorem k0_dev202_lt : ∀ (v1 : BitVec 32) (k0_hw2 : k0_chk2 v1), (k0_dev202 v1) < nD := fun v1 k0_hw2 => k0_hw2.2.2.2.2.2.2.2.1
theorem k0_dev203_lt : ∀ (v1 : BitVec 32) (k0_hw2 : k0_chk2 v1), (k0_dev203 v1) < nD := fun v1 k0_hw2 => k0_hw2.2.2.2.2.2.2.2.2.1
theorem k0_dev206_lt : ∀ (v1 : BitVec 32) (k0_hw2 : k0_chk2 v1), (k0_dev206 v1) < nD := fun v1 k0_hw2 => k0_hw2.2.2.2.2.2.2.2.2.2.1
theorem k0_dev207_lt : ∀ (v1 : BitVec 32) (k0_hw2 : k0_chk2 v1), (k0_dev207 v1) < nD := fun v1 k0_hw2 => k0_hw2.2.2.2.2.2.2.2.2.2.2.1
theorem k0_dev210_lt : ∀ (v1 : BitVec 32) (k0_hw2 : k0_chk2 v1), (k0_dev210 v1) < nD := fun v1 k0_hw2 => k0_hw2.2.2.2.2.2.2.2.2.2.2.2.1
theorem k0_dev211_lt : ∀ (v1 : BitVec 32) (k0_hw2 : k0_chk2 v1), (k0_dev211 v1) < nD := fun v1 k0_hw2 => k0_hw2.2.2.2.2.2.2.2.2.2.2.2.2.1
theorem k0_dev214_lt : ∀ (v1 : BitVec 32) (k0_hw2 : k0_chk2 v1), (k0_dev214 v1) < nD := fun v1 k0_hw2 => k0_hw2.2.2.2.2.2.2.2.2.2.2.2.2.2.1
theorem k0_dev215_lt : ∀ (v1 : BitVec 32) (k0_hw2 : k0_chk2 v1), (k0_dev215 v1) < nD := fun v1 k0_hw2 => k0_hw2.2.2.2.2.2.2.2.2.2.2.2.2.2.2.1
theorem k0_dev218_lt : ∀ (v1 : BitVec 32) (k0_hw2 : k0_chk2 v1), (k0_dev218 v1) < nD := fun v1 k0_hw2 => k0_hw2.2.2.2.2.2.2.2.2.2.2.2.2.2.2.2.1
theorem k0_dev219_lt : ∀ (v1 : BitVec 32) (k0_hw2 : k0_chk2 v1), (k0_dev219 v1) < nD := fun v1 k0_hw2 => k0_hw2.2.2.2.2.2.2.2.2.2.2.2.2.2.2.2.2.1
theorem k0_dev222_lt : ∀ (v1 : BitVec 32) (k0_hw2 : k0_chk2 v1), (k0_dev222 v1) < nD := fun v1 k0_hw2 => k0_hw2.2.2.2.2.2.2.2.2.2.2.2.2.2.2.2.2.2.1
theorem k0_dev223_lt : ∀ (v1 : BitVec 32) (k0_hw2 : k0_chk2 v1), (k0_dev223 v1) < nD := fun v1 k0_hw2 => k0_hw2.2.2.2.2.2.2.2.2.2.2.2.2.2.2.2.2.2.2.1
theorem k0_dev226_lt : ∀ (v1 : BitVec 32) (k0_hw2 : k0_chk2 v1), (k0_dev226 v1) < nD := fun v1 k0_hw2 => k0_hw2.2.2.2.2.2.2.2.2.2.2.2.2.2.2.2.2.2.2.2.1
theorem k0_dev227_lt : ∀ (v1 : BitVec 32) (k0_hw2 : k0_chk2 v1), (k0_dev227 v1) < nD := fun v1 k0_hw2 => k0_hw2.2.2.2.2.2.2.2.2.2.2.2.2.2.2.2.2.2.2.2.2.1
theorem k0_dev230_lt : ∀ (v1 : BitVec 32) (k0_hw2 : k0_chk2 v1), (k0_dev230 v1) < nD := fun v1 k0_hw2 => k0_hw2.2.2.2.2.2.2.2.2.2.2.2.2.2.2.2.2.2.2.2.2.2.1
theorem k0_dev231_lt : ∀ (v1 : BitVec 32) (k0_hw2 : k0_chk2 v1), (k0_dev231 v1) < nD := fun v1 k0_hw2 => k0_hw2.2.2.2.2.2.2.2.2.2.2.2.2.2.2.2.2.2.2.2.2.2.2.1
theorem k0_dev234_lt : ∀ (v1 : BitVec 32) (k0_hw2 : k0_chk2 v1), (k0_dev234 v1) < nD := fun v1 k0_hw2 => k0_hw2.2.2.2.2.2.2.2.2.2.2.2.2.2.2.2.2.2.2.2.2.2.2.2.1
theorem k0_dev235_lt : ∀ (v1 : BitVec 32) (k0_hw2 : k0_chk2 v1), (k0_dev235 v1) < nD := fun v1 k0_hw2 => k0_hw2.2.2.2.2.2.2.2.2.2.2.2.2.2.2.2.2.2.2.2.2.2.2.2.2.1
theorem k0_dev238_lt : ∀ (v1 : BitVec 32) (k0_hw2 : k0_chk2 v1), (k0_dev238 v1) < nD := fun v1 k0_hw2 => k0_hw2.2.2.2.2.2.2.2.2.2.2.2.2.2.2.2.2.2.2.2.2.2.2.2.2.2.1
theorem k0_dev239_lt : ∀ (v1 : BitVec 32) (k0_hw2 : k0_chk2 v1), (k0_dev239 v1) < nD := fun v1 k0_hw2 => k0_hw2.2.2.2.2.2.2.2.2.2.2.2.2.2.2.2.2.2.2.2.2.2.2.2.2.2.2.1
theorem k0_dev242_lt : ∀ (v1 : BitVec 32) (k0_hw2 : k0_chk2 v1), (k0_dev242 v1) < nD := fun v1 k0_hw2 => k0_hw2.2.2.2.2.2.2.2.2.2.2.2.2.2.2.2.2.2.2.2.2.2.2.2.2.2.2.2.1
theorem k0_dev243_lt : ∀ (v1 : BitVec 32) (k0_hw2 : k0_chk2 v1), (k0_dev243 v1) < nD := fun v1 k0_hw2 => k0_hw2.2.2.2.2.2.2.2.2.2.2.2.2.2.2.2.2.2.2.2.2.2.2.2.2.2.2.2.2.1
theorem k0_dev245_lt : ∀ (v1 : BitVec 32) (k0_hw2 : k0_chk2 v1), (k0_dev245 v1) < nD := fun v1 k0_hw2 => k0_hw2.2.2.2.2.2.2.2.2.2.2.2.2.2.2.2.2.2.2.2.2.2.2.2.2.2.2.2.2.2

def k0_dev246 (v2 : BitVec 32) : Nat :=
  let c0_i32_6262 : BitVec 32 := 0#32
  let c1_i32_6261 : BitVec 32 := 1#32
  let v6930 : BitVec 32 := Scalar.muli v2 c1_i32_6261
  let v6931 : BitVec 32 := Scalar.addi c0_i32_6262 v6930
  v6931.toNat

def k0_chk1_0 (v2 : BitVec 32) : Prop :=
  ((k0_dev1 v2) < nD) ∧
  ((k0_dev4 v2) < nD) ∧
  ((k0_dev5 v2) < nD) ∧
  ((k0_dev8 v2) < nD) ∧
  ((k0_dev9 v2) < nD) ∧
  ((k0_dev12 v2) < nD) ∧
  ((k0_dev13 v2) < nD) ∧
  ((k0_dev16 v2) < nD) ∧
  ((k0_dev17 v2) < nD) ∧
  ((k0_dev20 v2) < nD) ∧
  ((k0_dev21 v2) < nD) ∧
  ((k0_dev24 v2) < nD) ∧
  ((k0_dev25 v2) < nD) ∧
  ((k0_dev28 v2) < nD) ∧
  ((k0_dev29 v2) < nD) ∧
  ((k0_dev32 v2) < nD) ∧
  ((k0_dev33 v2) < nD) ∧
  ((k0_dev36 v2) < nD) ∧
  ((k0_dev37 v2) < nD) ∧
  ((k0_dev40 v2) < nD) ∧
  ((k0_dev41 v2) < nD) ∧
  ((k0_dev44 v2) < nD) ∧
  ((k0_dev45 v2) < nD) ∧
  ((k0_dev48 v2) < nD) ∧
  ((k0_dev49 v2) < nD) ∧
  ((k0_dev52 v2) < nD) ∧
  ((k0_dev53 v2) < nD) ∧
  ((k0_dev56 v2) < nD) ∧
  ((k0_dev57 v2) < nD) ∧
  ((k0_dev60 v2) < nD) ∧
  ((k0_dev61 v2) < nD) ∧
  ((k0_dev64 v2) < nD)
def k0_chk1_1 (v2 : BitVec 32) : Prop :=
  ((k0_dev65 v2) < nD) ∧
  ((k0_dev68 v2) < nD) ∧
  ((k0_dev69 v2) < nD) ∧
  ((k0_dev72 v2) < nD) ∧
  ((k0_dev73 v2) < nD) ∧
  ((k0_dev76 v2) < nD) ∧
  ((k0_dev77 v2) < nD) ∧
  ((k0_dev80 v2) < nD) ∧
  ((k0_dev81 v2) < nD) ∧
  ((k0_dev84 v2) < nD) ∧
  ((k0_dev85 v2) < nD) ∧
  ((k0_dev88 v2) < nD) ∧
  ((k0_dev89 v2) < nD) ∧
  ((k0_dev92 v2) < nD) ∧
  ((k0_dev93 v2) < nD) ∧
  ((k0_dev96 v2) < nD) ∧
  ((k0_dev97 v2) < nD) ∧
  ((k0_dev100 v2) < nD) ∧
  ((k0_dev101 v2) < nD) ∧
  ((k0_dev104 v2) < nD) ∧
  ((k0_dev105 v2) < nD) ∧
  ((k0_dev108 v2) < nD) ∧
  ((k0_dev109 v2) < nD) ∧
  ((k0_dev112 v2) < nD) ∧
  ((k0_dev113 v2) < nD) ∧
  ((k0_dev116 v2) < nD) ∧
  ((k0_dev117 v2) < nD) ∧
  ((k0_dev120 v2) < nD) ∧
  ((k0_dev121 v2) < nD) ∧
  ((k0_dev124 v2) < nD) ∧
  ((k0_dev125 v2) < nD) ∧
  ((k0_dev128 v2) < nD)
def k0_chk1_2 (v2 : BitVec 32) : Prop :=
  ((k0_dev129 v2) < nD) ∧
  ((k0_dev132 v2) < nD) ∧
  ((k0_dev133 v2) < nD) ∧
  ((k0_dev136 v2) < nD) ∧
  ((k0_dev137 v2) < nD) ∧
  ((k0_dev140 v2) < nD) ∧
  ((k0_dev141 v2) < nD) ∧
  ((k0_dev144 v2) < nD) ∧
  ((k0_dev145 v2) < nD) ∧
  ((k0_dev148 v2) < nD) ∧
  ((k0_dev149 v2) < nD) ∧
  ((k0_dev152 v2) < nD) ∧
  ((k0_dev153 v2) < nD) ∧
  ((k0_dev156 v2) < nD) ∧
  ((k0_dev157 v2) < nD) ∧
  ((k0_dev160 v2) < nD) ∧
  ((k0_dev161 v2) < nD) ∧
  ((k0_dev164 v2) < nD) ∧
  ((k0_dev165 v2) < nD) ∧
  ((k0_dev168 v2) < nD) ∧
  ((k0_dev169 v2) < nD) ∧
  ((k0_dev172 v2) < nD) ∧
  ((k0_dev173 v2) < nD) ∧
  ((k0_dev176 v2) < nD) ∧
  ((k0_dev177 v2) < nD) ∧
  ((k0_dev180 v2) < nD) ∧
  ((k0_dev181 v2) < nD) ∧
  ((k0_dev184 v2) < nD) ∧
  ((k0_dev185 v2) < nD) ∧
  ((k0_dev188 v2) < nD) ∧
  ((k0_dev189 v2) < nD) ∧
  ((k0_dev192 v2) < nD)
def k0_chk1_3 (v2 : BitVec 32) : Prop :=
  ((k0_dev193 v2) < nD) ∧
  ((k0_dev196 v2) < nD) ∧
  ((k0_dev197 v2) < nD) ∧
  ((k0_dev200 v2) < nD) ∧
  ((k0_dev201 v2) < nD) ∧
  ((k0_dev204 v2) < nD) ∧
  ((k0_dev205 v2) < nD) ∧
  ((k0_dev208 v2) < nD) ∧
  ((k0_dev209 v2) < nD) ∧
  ((k0_dev212 v2) < nD) ∧
  ((k0_dev213 v2) < nD) ∧
  ((k0_dev216 v2) < nD) ∧
  ((k0_dev217 v2) < nD) ∧
  ((k0_dev220 v2) < nD) ∧
  ((k0_dev221 v2) < nD) ∧
  ((k0_dev224 v2) < nD) ∧
  ((k0_dev225 v2) < nD) ∧
  ((k0_dev228 v2) < nD) ∧
  ((k0_dev229 v2) < nD) ∧
  ((k0_dev232 v2) < nD) ∧
  ((k0_dev233 v2) < nD) ∧
  ((k0_dev236 v2) < nD) ∧
  ((k0_dev237 v2) < nD) ∧
  ((k0_dev240 v2) < nD) ∧
  ((k0_dev241 v2) < nD) ∧
  ((k0_dev244 v2) < nD) ∧
  ((k0_dev246 v2) < nD)
def k0_chk1 (v2 : BitVec 32) : Prop :=
  k0_chk1_0 v2 ∧
  k0_chk1_1 v2 ∧
  k0_chk1_2 v2 ∧
  k0_chk1_3 v2
theorem k0_dev1_lt : ∀ (v2 : BitVec 32) (k0_hw1 : k0_chk1 v2), (k0_dev1 v2) < nD := fun v2 k0_hw1 => k0_hw1.1.1
theorem k0_dev4_lt : ∀ (v2 : BitVec 32) (k0_hw1 : k0_chk1 v2), (k0_dev4 v2) < nD := fun v2 k0_hw1 => k0_hw1.1.2.1
theorem k0_dev5_lt : ∀ (v2 : BitVec 32) (k0_hw1 : k0_chk1 v2), (k0_dev5 v2) < nD := fun v2 k0_hw1 => k0_hw1.1.2.2.1
theorem k0_dev8_lt : ∀ (v2 : BitVec 32) (k0_hw1 : k0_chk1 v2), (k0_dev8 v2) < nD := fun v2 k0_hw1 => k0_hw1.1.2.2.2.1
theorem k0_dev9_lt : ∀ (v2 : BitVec 32) (k0_hw1 : k0_chk1 v2), (k0_dev9 v2) < nD := fun v2 k0_hw1 => k0_hw1.1.2.2.2.2.1
theorem k0_dev12_lt : ∀ (v2 : BitVec 32) (k0_hw1 : k0_chk1 v2), (k0_dev12 v2) < nD := fun v2 k0_hw1 => k0_hw1.1.2.2.2.2.2.1
theorem k0_dev13_lt : ∀ (v2 : BitVec 32) (k0_hw1 : k0_chk1 v2), (k0_dev13 v2) < nD := fun v2 k0_hw1 => k0_hw1.1.2.2.2.2.2.2.1
theorem k0_dev16_lt : ∀ (v2 : BitVec 32) (k0_hw1 : k0_chk1 v2), (k0_dev16 v2) < nD := fun v2 k0_hw1 => k0_hw1.1.2.2.2.2.2.2.2.1
theorem k0_dev17_lt : ∀ (v2 : BitVec 32) (k0_hw1 : k0_chk1 v2), (k0_dev17 v2) < nD := fun v2 k0_hw1 => k0_hw1.1.2.2.2.2.2.2.2.2.1
theorem k0_dev20_lt : ∀ (v2 : BitVec 32) (k0_hw1 : k0_chk1 v2), (k0_dev20 v2) < nD := fun v2 k0_hw1 => k0_hw1.1.2.2.2.2.2.2.2.2.2.1
theorem k0_dev21_lt : ∀ (v2 : BitVec 32) (k0_hw1 : k0_chk1 v2), (k0_dev21 v2) < nD := fun v2 k0_hw1 => k0_hw1.1.2.2.2.2.2.2.2.2.2.2.1
theorem k0_dev24_lt : ∀ (v2 : BitVec 32) (k0_hw1 : k0_chk1 v2), (k0_dev24 v2) < nD := fun v2 k0_hw1 => k0_hw1.1.2.2.2.2.2.2.2.2.2.2.2.1
theorem k0_dev25_lt : ∀ (v2 : BitVec 32) (k0_hw1 : k0_chk1 v2), (k0_dev25 v2) < nD := fun v2 k0_hw1 => k0_hw1.1.2.2.2.2.2.2.2.2.2.2.2.2.1
theorem k0_dev28_lt : ∀ (v2 : BitVec 32) (k0_hw1 : k0_chk1 v2), (k0_dev28 v2) < nD := fun v2 k0_hw1 => k0_hw1.1.2.2.2.2.2.2.2.2.2.2.2.2.2.1
theorem k0_dev29_lt : ∀ (v2 : BitVec 32) (k0_hw1 : k0_chk1 v2), (k0_dev29 v2) < nD := fun v2 k0_hw1 => k0_hw1.1.2.2.2.2.2.2.2.2.2.2.2.2.2.2.1
theorem k0_dev32_lt : ∀ (v2 : BitVec 32) (k0_hw1 : k0_chk1 v2), (k0_dev32 v2) < nD := fun v2 k0_hw1 => k0_hw1.1.2.2.2.2.2.2.2.2.2.2.2.2.2.2.2.1
theorem k0_dev33_lt : ∀ (v2 : BitVec 32) (k0_hw1 : k0_chk1 v2), (k0_dev33 v2) < nD := fun v2 k0_hw1 => k0_hw1.1.2.2.2.2.2.2.2.2.2.2.2.2.2.2.2.2.1
theorem k0_dev36_lt : ∀ (v2 : BitVec 32) (k0_hw1 : k0_chk1 v2), (k0_dev36 v2) < nD := fun v2 k0_hw1 => k0_hw1.1.2.2.2.2.2.2.2.2.2.2.2.2.2.2.2.2.2.1
theorem k0_dev37_lt : ∀ (v2 : BitVec 32) (k0_hw1 : k0_chk1 v2), (k0_dev37 v2) < nD := fun v2 k0_hw1 => k0_hw1.1.2.2.2.2.2.2.2.2.2.2.2.2.2.2.2.2.2.2.1
theorem k0_dev40_lt : ∀ (v2 : BitVec 32) (k0_hw1 : k0_chk1 v2), (k0_dev40 v2) < nD := fun v2 k0_hw1 => k0_hw1.1.2.2.2.2.2.2.2.2.2.2.2.2.2.2.2.2.2.2.2.1
theorem k0_dev41_lt : ∀ (v2 : BitVec 32) (k0_hw1 : k0_chk1 v2), (k0_dev41 v2) < nD := fun v2 k0_hw1 => k0_hw1.1.2.2.2.2.2.2.2.2.2.2.2.2.2.2.2.2.2.2.2.2.1
theorem k0_dev44_lt : ∀ (v2 : BitVec 32) (k0_hw1 : k0_chk1 v2), (k0_dev44 v2) < nD := fun v2 k0_hw1 => k0_hw1.1.2.2.2.2.2.2.2.2.2.2.2.2.2.2.2.2.2.2.2.2.2.1
theorem k0_dev45_lt : ∀ (v2 : BitVec 32) (k0_hw1 : k0_chk1 v2), (k0_dev45 v2) < nD := fun v2 k0_hw1 => k0_hw1.1.2.2.2.2.2.2.2.2.2.2.2.2.2.2.2.2.2.2.2.2.2.2.1
theorem k0_dev48_lt : ∀ (v2 : BitVec 32) (k0_hw1 : k0_chk1 v2), (k0_dev48 v2) < nD := fun v2 k0_hw1 => k0_hw1.1.2.2.2.2.2.2.2.2.2.2.2.2.2.2.2.2.2.2.2.2.2.2.2.1
theorem k0_dev49_lt : ∀ (v2 : BitVec 32) (k0_hw1 : k0_chk1 v2), (k0_dev49 v2) < nD := fun v2 k0_hw1 => k0_hw1.1.2.2.2.2.2.2.2.2.2.2.2.2.2.2.2.2.2.2.2.2.2.2.2.2.1
theorem k0_dev52_lt : ∀ (v2 : BitVec 32) (k0_hw1 : k0_chk1 v2), (k0_dev52 v2) < nD := fun v2 k0_hw1 => k0_hw1.1.2.2.2.2.2.2.2.2.2.2.2.2.2.2.2.2.2.2.2.2.2.2.2.2.2.1
theorem k0_dev53_lt : ∀ (v2 : BitVec 32) (k0_hw1 : k0_chk1 v2), (k0_dev53 v2) < nD := fun v2 k0_hw1 => k0_hw1.1.2.2.2.2.2.2.2.2.2.2.2.2.2.2.2.2.2.2.2.2.2.2.2.2.2.2.1
theorem k0_dev56_lt : ∀ (v2 : BitVec 32) (k0_hw1 : k0_chk1 v2), (k0_dev56 v2) < nD := fun v2 k0_hw1 => k0_hw1.1.2.2.2.2.2.2.2.2.2.2.2.2.2.2.2.2.2.2.2.2.2.2.2.2.2.2.2.1
theorem k0_dev57_lt : ∀ (v2 : BitVec 32) (k0_hw1 : k0_chk1 v2), (k0_dev57 v2) < nD := fun v2 k0_hw1 => k0_hw1.1.2.2.2.2.2.2.2.2.2.2.2.2.2.2.2.2.2.2.2.2.2.2.2.2.2.2.2.2.1
theorem k0_dev60_lt : ∀ (v2 : BitVec 32) (k0_hw1 : k0_chk1 v2), (k0_dev60 v2) < nD := fun v2 k0_hw1 => k0_hw1.1.2.2.2.2.2.2.2.2.2.2.2.2.2.2.2.2.2.2.2.2.2.2.2.2.2.2.2.2.2.1
theorem k0_dev61_lt : ∀ (v2 : BitVec 32) (k0_hw1 : k0_chk1 v2), (k0_dev61 v2) < nD := fun v2 k0_hw1 => k0_hw1.1.2.2.2.2.2.2.2.2.2.2.2.2.2.2.2.2.2.2.2.2.2.2.2.2.2.2.2.2.2.2.1
theorem k0_dev64_lt : ∀ (v2 : BitVec 32) (k0_hw1 : k0_chk1 v2), (k0_dev64 v2) < nD := fun v2 k0_hw1 => k0_hw1.1.2.2.2.2.2.2.2.2.2.2.2.2.2.2.2.2.2.2.2.2.2.2.2.2.2.2.2.2.2.2.2
theorem k0_dev65_lt : ∀ (v2 : BitVec 32) (k0_hw1 : k0_chk1 v2), (k0_dev65 v2) < nD := fun v2 k0_hw1 => k0_hw1.2.1.1
theorem k0_dev68_lt : ∀ (v2 : BitVec 32) (k0_hw1 : k0_chk1 v2), (k0_dev68 v2) < nD := fun v2 k0_hw1 => k0_hw1.2.1.2.1
theorem k0_dev69_lt : ∀ (v2 : BitVec 32) (k0_hw1 : k0_chk1 v2), (k0_dev69 v2) < nD := fun v2 k0_hw1 => k0_hw1.2.1.2.2.1
theorem k0_dev72_lt : ∀ (v2 : BitVec 32) (k0_hw1 : k0_chk1 v2), (k0_dev72 v2) < nD := fun v2 k0_hw1 => k0_hw1.2.1.2.2.2.1
theorem k0_dev73_lt : ∀ (v2 : BitVec 32) (k0_hw1 : k0_chk1 v2), (k0_dev73 v2) < nD := fun v2 k0_hw1 => k0_hw1.2.1.2.2.2.2.1
theorem k0_dev76_lt : ∀ (v2 : BitVec 32) (k0_hw1 : k0_chk1 v2), (k0_dev76 v2) < nD := fun v2 k0_hw1 => k0_hw1.2.1.2.2.2.2.2.1
theorem k0_dev77_lt : ∀ (v2 : BitVec 32) (k0_hw1 : k0_chk1 v2), (k0_dev77 v2) < nD := fun v2 k0_hw1 => k0_hw1.2.1.2.2.2.2.2.2.1
theorem k0_dev80_lt : ∀ (v2 : BitVec 32) (k0_hw1 : k0_chk1 v2), (k0_dev80 v2) < nD := fun v2 k0_hw1 => k0_hw1.2.1.2.2.2.2.2.2.2.1
theorem k0_dev81_lt : ∀ (v2 : BitVec 32) (k0_hw1 : k0_chk1 v2), (k0_dev81 v2) < nD := fun v2 k0_hw1 => k0_hw1.2.1.2.2.2.2.2.2.2.2.1
theorem k0_dev84_lt : ∀ (v2 : BitVec 32) (k0_hw1 : k0_chk1 v2), (k0_dev84 v2) < nD := fun v2 k0_hw1 => k0_hw1.2.1.2.2.2.2.2.2.2.2.2.1
theorem k0_dev85_lt : ∀ (v2 : BitVec 32) (k0_hw1 : k0_chk1 v2), (k0_dev85 v2) < nD := fun v2 k0_hw1 => k0_hw1.2.1.2.2.2.2.2.2.2.2.2.2.1
theorem k0_dev88_lt : ∀ (v2 : BitVec 32) (k0_hw1 : k0_chk1 v2), (k0_dev88 v2) < nD := fun v2 k0_hw1 => k0_hw1.2.1.2.2.2.2.2.2.2.2.2.2.2.1
theorem k0_dev89_lt : ∀ (v2 : BitVec 32) (k0_hw1 : k0_chk1 v2), (k0_dev89 v2) < nD := fun v2 k0_hw1 => k0_hw1.2.1.2.2.2.2.2.2.2.2.2.2.2.2.1
theorem k0_dev92_lt : ∀ (v2 : BitVec 32) (k0_hw1 : k0_chk1 v2), (k0_dev92 v2) < nD := fun v2 k0_hw1 => k0_hw1.2.1.2.2.2.2.2.2.2.2.2.2.2.2.2.1
theorem k0_dev93_lt : ∀ (v2 : BitVec 32) (k0_hw1 : k0_chk1 v2), (k0_dev93 v2) < nD := fun v2 k0_hw1 => k0_hw1.2.1.2.2.2.2.2.2.2.2.2.2.2.2.2.2.1
theorem k0_dev96_lt : ∀ (v2 : BitVec 32) (k0_hw1 : k0_chk1 v2), (k0_dev96 v2) < nD := fun v2 k0_hw1 => k0_hw1.2.1.2.2.2.2.2.2.2.2.2.2.2.2.2.2.2.1
theorem k0_dev97_lt : ∀ (v2 : BitVec 32) (k0_hw1 : k0_chk1 v2), (k0_dev97 v2) < nD := fun v2 k0_hw1 => k0_hw1.2.1.2.2.2.2.2.2.2.2.2.2.2.2.2.2.2.2.1
theorem k0_dev100_lt : ∀ (v2 : BitVec 32) (k0_hw1 : k0_chk1 v2), (k0_dev100 v2) < nD := fun v2 k0_hw1 => k0_hw1.2.1.2.2.2.2.2.2.2.2.2.2.2.2.2.2.2.2.2.1
theorem k0_dev101_lt : ∀ (v2 : BitVec 32) (k0_hw1 : k0_chk1 v2), (k0_dev101 v2) < nD := fun v2 k0_hw1 => k0_hw1.2.1.2.2.2.2.2.2.2.2.2.2.2.2.2.2.2.2.2.2.1
theorem k0_dev104_lt : ∀ (v2 : BitVec 32) (k0_hw1 : k0_chk1 v2), (k0_dev104 v2) < nD := fun v2 k0_hw1 => k0_hw1.2.1.2.2.2.2.2.2.2.2.2.2.2.2.2.2.2.2.2.2.2.1
theorem k0_dev105_lt : ∀ (v2 : BitVec 32) (k0_hw1 : k0_chk1 v2), (k0_dev105 v2) < nD := fun v2 k0_hw1 => k0_hw1.2.1.2.2.2.2.2.2.2.2.2.2.2.2.2.2.2.2.2.2.2.2.1
theorem k0_dev108_lt : ∀ (v2 : BitVec 32) (k0_hw1 : k0_chk1 v2), (k0_dev108 v2) < nD := fun v2 k0_hw1 => k0_hw1.2.1.2.2.2.2.2.2.2.2.2.2.2.2.2.2.2.2.2.2.2.2.2.1
theorem k0_dev109_lt : ∀ (v2 : BitVec 32) (k0_hw1 : k0_chk1 v2), (k0_dev109 v2) < nD := fun v2 k0_hw1 => k0_hw1.2.1.2.2.2.2.2.2.2.2.2.2.2.2.2.2.2.2.2.2.2.2.2.2.1
theorem k0_dev112_lt : ∀ (v2 : BitVec 32) (k0_hw1 : k0_chk1 v2), (k0_dev112 v2) < nD := fun v2 k0_hw1 => k0_hw1.2.1.2.2.2.2.2.2.2.2.2.2.2.2.2.2.2.2.2.2.2.2.2.2.2.1
theorem k0_dev113_lt : ∀ (v2 : BitVec 32) (k0_hw1 : k0_chk1 v2), (k0_dev113 v2) < nD := fun v2 k0_hw1 => k0_hw1.2.1.2.2.2.2.2.2.2.2.2.2.2.2.2.2.2.2.2.2.2.2.2.2.2.2.1
theorem k0_dev116_lt : ∀ (v2 : BitVec 32) (k0_hw1 : k0_chk1 v2), (k0_dev116 v2) < nD := fun v2 k0_hw1 => k0_hw1.2.1.2.2.2.2.2.2.2.2.2.2.2.2.2.2.2.2.2.2.2.2.2.2.2.2.2.1
theorem k0_dev117_lt : ∀ (v2 : BitVec 32) (k0_hw1 : k0_chk1 v2), (k0_dev117 v2) < nD := fun v2 k0_hw1 => k0_hw1.2.1.2.2.2.2.2.2.2.2.2.2.2.2.2.2.2.2.2.2.2.2.2.2.2.2.2.2.1
theorem k0_dev120_lt : ∀ (v2 : BitVec 32) (k0_hw1 : k0_chk1 v2), (k0_dev120 v2) < nD := fun v2 k0_hw1 => k0_hw1.2.1.2.2.2.2.2.2.2.2.2.2.2.2.2.2.2.2.2.2.2.2.2.2.2.2.2.2.2.1
theorem k0_dev121_lt : ∀ (v2 : BitVec 32) (k0_hw1 : k0_chk1 v2), (k0_dev121 v2) < nD := fun v2 k0_hw1 => k0_hw1.2.1.2.2.2.2.2.2.2.2.2.2.2.2.2.2.2.2.2.2.2.2.2.2.2.2.2.2.2.2.1
theorem k0_dev124_lt : ∀ (v2 : BitVec 32) (k0_hw1 : k0_chk1 v2), (k0_dev124 v2) < nD := fun v2 k0_hw1 => k0_hw1.2.1.2.2.2.2.2.2.2.2.2.2.2.2.2.2.2.2.2.2.2.2.2.2.2.2.2.2.2.2.2.1
theorem k0_dev125_lt : ∀ (v2 : BitVec 32) (k0_hw1 : k0_chk1 v2), (k0_dev125 v2) < nD := fun v2 k0_hw1 => k0_hw1.2.1.2.2.2.2.2.2.2.2.2.2.2.2.2.2.2.2.2.2.2.2.2.2.2.2.2.2.2.2.2.2.1
theorem k0_dev128_lt : ∀ (v2 : BitVec 32) (k0_hw1 : k0_chk1 v2), (k0_dev128 v2) < nD := fun v2 k0_hw1 => k0_hw1.2.1.2.2.2.2.2.2.2.2.2.2.2.2.2.2.2.2.2.2.2.2.2.2.2.2.2.2.2.2.2.2.2
theorem k0_dev129_lt : ∀ (v2 : BitVec 32) (k0_hw1 : k0_chk1 v2), (k0_dev129 v2) < nD := fun v2 k0_hw1 => k0_hw1.2.2.1.1
theorem k0_dev132_lt : ∀ (v2 : BitVec 32) (k0_hw1 : k0_chk1 v2), (k0_dev132 v2) < nD := fun v2 k0_hw1 => k0_hw1.2.2.1.2.1
theorem k0_dev133_lt : ∀ (v2 : BitVec 32) (k0_hw1 : k0_chk1 v2), (k0_dev133 v2) < nD := fun v2 k0_hw1 => k0_hw1.2.2.1.2.2.1
theorem k0_dev136_lt : ∀ (v2 : BitVec 32) (k0_hw1 : k0_chk1 v2), (k0_dev136 v2) < nD := fun v2 k0_hw1 => k0_hw1.2.2.1.2.2.2.1
theorem k0_dev137_lt : ∀ (v2 : BitVec 32) (k0_hw1 : k0_chk1 v2), (k0_dev137 v2) < nD := fun v2 k0_hw1 => k0_hw1.2.2.1.2.2.2.2.1
theorem k0_dev140_lt : ∀ (v2 : BitVec 32) (k0_hw1 : k0_chk1 v2), (k0_dev140 v2) < nD := fun v2 k0_hw1 => k0_hw1.2.2.1.2.2.2.2.2.1
theorem k0_dev141_lt : ∀ (v2 : BitVec 32) (k0_hw1 : k0_chk1 v2), (k0_dev141 v2) < nD := fun v2 k0_hw1 => k0_hw1.2.2.1.2.2.2.2.2.2.1
theorem k0_dev144_lt : ∀ (v2 : BitVec 32) (k0_hw1 : k0_chk1 v2), (k0_dev144 v2) < nD := fun v2 k0_hw1 => k0_hw1.2.2.1.2.2.2.2.2.2.2.1
theorem k0_dev145_lt : ∀ (v2 : BitVec 32) (k0_hw1 : k0_chk1 v2), (k0_dev145 v2) < nD := fun v2 k0_hw1 => k0_hw1.2.2.1.2.2.2.2.2.2.2.2.1
theorem k0_dev148_lt : ∀ (v2 : BitVec 32) (k0_hw1 : k0_chk1 v2), (k0_dev148 v2) < nD := fun v2 k0_hw1 => k0_hw1.2.2.1.2.2.2.2.2.2.2.2.2.1
theorem k0_dev149_lt : ∀ (v2 : BitVec 32) (k0_hw1 : k0_chk1 v2), (k0_dev149 v2) < nD := fun v2 k0_hw1 => k0_hw1.2.2.1.2.2.2.2.2.2.2.2.2.2.1
theorem k0_dev152_lt : ∀ (v2 : BitVec 32) (k0_hw1 : k0_chk1 v2), (k0_dev152 v2) < nD := fun v2 k0_hw1 => k0_hw1.2.2.1.2.2.2.2.2.2.2.2.2.2.2.1
theorem k0_dev153_lt : ∀ (v2 : BitVec 32) (k0_hw1 : k0_chk1 v2), (k0_dev153 v2) < nD := fun v2 k0_hw1 => k0_hw1.2.2.1.2.2.2.2.2.2.2.2.2.2.2.2.1
theorem k0_dev156_lt : ∀ (v2 : BitVec 32) (k0_hw1 : k0_chk1 v2), (k0_dev156 v2) < nD := fun v2 k0_hw1 => k0_hw1.2.2.1.2.2.2.2.2.2.2.2.2.2.2.2.2.1
theorem k0_dev157_lt : ∀ (v2 : BitVec 32) (k0_hw1 : k0_chk1 v2), (k0_dev157 v2) < nD := fun v2 k0_hw1 => k0_hw1.2.2.1.2.2.2.2.2.2.2.2.2.2.2.2.2.2.1
theorem k0_dev160_lt : ∀ (v2 : BitVec 32) (k0_hw1 : k0_chk1 v2), (k0_dev160 v2) < nD := fun v2 k0_hw1 => k0_hw1.2.2.1.2.2.2.2.2.2.2.2.2.2.2.2.2.2.2.1
theorem k0_dev161_lt : ∀ (v2 : BitVec 32) (k0_hw1 : k0_chk1 v2), (k0_dev161 v2) < nD := fun v2 k0_hw1 => k0_hw1.2.2.1.2.2.2.2.2.2.2.2.2.2.2.2.2.2.2.2.1
theorem k0_dev164_lt : ∀ (v2 : BitVec 32) (k0_hw1 : k0_chk1 v2), (k0_dev164 v2) < nD := fun v2 k0_hw1 => k0_hw1.2.2.1.2.2.2.2.2.2.2.2.2.2.2.2.2.2.2.2.2.1
theorem k0_dev165_lt : ∀ (v2 : BitVec 32) (k0_hw1 : k0_chk1 v2), (k0_dev165 v2) < nD := fun v2 k0_hw1 => k0_hw1.2.2.1.2.2.2.2.2.2.2.2.2.2.2.2.2.2.2.2.2.2.1
theorem k0_dev168_lt : ∀ (v2 : BitVec 32) (k0_hw1 : k0_chk1 v2), (k0_dev168 v2) < nD := fun v2 k0_hw1 => k0_hw1.2.2.1.2.2.2.2.2.2.2.2.2.2.2.2.2.2.2.2.2.2.2.1
theorem k0_dev169_lt : ∀ (v2 : BitVec 32) (k0_hw1 : k0_chk1 v2), (k0_dev169 v2) < nD := fun v2 k0_hw1 => k0_hw1.2.2.1.2.2.2.2.2.2.2.2.2.2.2.2.2.2.2.2.2.2.2.2.1
theorem k0_dev172_lt : ∀ (v2 : BitVec 32) (k0_hw1 : k0_chk1 v2), (k0_dev172 v2) < nD := fun v2 k0_hw1 => k0_hw1.2.2.1.2.2.2.2.2.2.2.2.2.2.2.2.2.2.2.2.2.2.2.2.2.1
theorem k0_dev173_lt : ∀ (v2 : BitVec 32) (k0_hw1 : k0_chk1 v2), (k0_dev173 v2) < nD := fun v2 k0_hw1 => k0_hw1.2.2.1.2.2.2.2.2.2.2.2.2.2.2.2.2.2.2.2.2.2.2.2.2.2.1
theorem k0_dev176_lt : ∀ (v2 : BitVec 32) (k0_hw1 : k0_chk1 v2), (k0_dev176 v2) < nD := fun v2 k0_hw1 => k0_hw1.2.2.1.2.2.2.2.2.2.2.2.2.2.2.2.2.2.2.2.2.2.2.2.2.2.2.1
theorem k0_dev177_lt : ∀ (v2 : BitVec 32) (k0_hw1 : k0_chk1 v2), (k0_dev177 v2) < nD := fun v2 k0_hw1 => k0_hw1.2.2.1.2.2.2.2.2.2.2.2.2.2.2.2.2.2.2.2.2.2.2.2.2.2.2.2.1
theorem k0_dev180_lt : ∀ (v2 : BitVec 32) (k0_hw1 : k0_chk1 v2), (k0_dev180 v2) < nD := fun v2 k0_hw1 => k0_hw1.2.2.1.2.2.2.2.2.2.2.2.2.2.2.2.2.2.2.2.2.2.2.2.2.2.2.2.2.1
theorem k0_dev181_lt : ∀ (v2 : BitVec 32) (k0_hw1 : k0_chk1 v2), (k0_dev181 v2) < nD := fun v2 k0_hw1 => k0_hw1.2.2.1.2.2.2.2.2.2.2.2.2.2.2.2.2.2.2.2.2.2.2.2.2.2.2.2.2.2.1
theorem k0_dev184_lt : ∀ (v2 : BitVec 32) (k0_hw1 : k0_chk1 v2), (k0_dev184 v2) < nD := fun v2 k0_hw1 => k0_hw1.2.2.1.2.2.2.2.2.2.2.2.2.2.2.2.2.2.2.2.2.2.2.2.2.2.2.2.2.2.2.1
theorem k0_dev185_lt : ∀ (v2 : BitVec 32) (k0_hw1 : k0_chk1 v2), (k0_dev185 v2) < nD := fun v2 k0_hw1 => k0_hw1.2.2.1.2.2.2.2.2.2.2.2.2.2.2.2.2.2.2.2.2.2.2.2.2.2.2.2.2.2.2.2.1
theorem k0_dev188_lt : ∀ (v2 : BitVec 32) (k0_hw1 : k0_chk1 v2), (k0_dev188 v2) < nD := fun v2 k0_hw1 => k0_hw1.2.2.1.2.2.2.2.2.2.2.2.2.2.2.2.2.2.2.2.2.2.2.2.2.2.2.2.2.2.2.2.2.1
theorem k0_dev189_lt : ∀ (v2 : BitVec 32) (k0_hw1 : k0_chk1 v2), (k0_dev189 v2) < nD := fun v2 k0_hw1 => k0_hw1.2.2.1.2.2.2.2.2.2.2.2.2.2.2.2.2.2.2.2.2.2.2.2.2.2.2.2.2.2.2.2.2.2.1
theorem k0_dev192_lt : ∀ (v2 : BitVec 32) (k0_hw1 : k0_chk1 v2), (k0_dev192 v2) < nD := fun v2 k0_hw1 => k0_hw1.2.2.1.2.2.2.2.2.2.2.2.2.2.2.2.2.2.2.2.2.2.2.2.2.2.2.2.2.2.2.2.2.2.2
theorem k0_dev193_lt : ∀ (v2 : BitVec 32) (k0_hw1 : k0_chk1 v2), (k0_dev193 v2) < nD := fun v2 k0_hw1 => k0_hw1.2.2.2.1
theorem k0_dev196_lt : ∀ (v2 : BitVec 32) (k0_hw1 : k0_chk1 v2), (k0_dev196 v2) < nD := fun v2 k0_hw1 => k0_hw1.2.2.2.2.1
theorem k0_dev197_lt : ∀ (v2 : BitVec 32) (k0_hw1 : k0_chk1 v2), (k0_dev197 v2) < nD := fun v2 k0_hw1 => k0_hw1.2.2.2.2.2.1
theorem k0_dev200_lt : ∀ (v2 : BitVec 32) (k0_hw1 : k0_chk1 v2), (k0_dev200 v2) < nD := fun v2 k0_hw1 => k0_hw1.2.2.2.2.2.2.1
theorem k0_dev201_lt : ∀ (v2 : BitVec 32) (k0_hw1 : k0_chk1 v2), (k0_dev201 v2) < nD := fun v2 k0_hw1 => k0_hw1.2.2.2.2.2.2.2.1
theorem k0_dev204_lt : ∀ (v2 : BitVec 32) (k0_hw1 : k0_chk1 v2), (k0_dev204 v2) < nD := fun v2 k0_hw1 => k0_hw1.2.2.2.2.2.2.2.2.1
theorem k0_dev205_lt : ∀ (v2 : BitVec 32) (k0_hw1 : k0_chk1 v2), (k0_dev205 v2) < nD := fun v2 k0_hw1 => k0_hw1.2.2.2.2.2.2.2.2.2.1
theorem k0_dev208_lt : ∀ (v2 : BitVec 32) (k0_hw1 : k0_chk1 v2), (k0_dev208 v2) < nD := fun v2 k0_hw1 => k0_hw1.2.2.2.2.2.2.2.2.2.2.1
theorem k0_dev209_lt : ∀ (v2 : BitVec 32) (k0_hw1 : k0_chk1 v2), (k0_dev209 v2) < nD := fun v2 k0_hw1 => k0_hw1.2.2.2.2.2.2.2.2.2.2.2.1
theorem k0_dev212_lt : ∀ (v2 : BitVec 32) (k0_hw1 : k0_chk1 v2), (k0_dev212 v2) < nD := fun v2 k0_hw1 => k0_hw1.2.2.2.2.2.2.2.2.2.2.2.2.1
theorem k0_dev213_lt : ∀ (v2 : BitVec 32) (k0_hw1 : k0_chk1 v2), (k0_dev213 v2) < nD := fun v2 k0_hw1 => k0_hw1.2.2.2.2.2.2.2.2.2.2.2.2.2.1
theorem k0_dev216_lt : ∀ (v2 : BitVec 32) (k0_hw1 : k0_chk1 v2), (k0_dev216 v2) < nD := fun v2 k0_hw1 => k0_hw1.2.2.2.2.2.2.2.2.2.2.2.2.2.2.1
theorem k0_dev217_lt : ∀ (v2 : BitVec 32) (k0_hw1 : k0_chk1 v2), (k0_dev217 v2) < nD := fun v2 k0_hw1 => k0_hw1.2.2.2.2.2.2.2.2.2.2.2.2.2.2.2.1
theorem k0_dev220_lt : ∀ (v2 : BitVec 32) (k0_hw1 : k0_chk1 v2), (k0_dev220 v2) < nD := fun v2 k0_hw1 => k0_hw1.2.2.2.2.2.2.2.2.2.2.2.2.2.2.2.2.1
theorem k0_dev221_lt : ∀ (v2 : BitVec 32) (k0_hw1 : k0_chk1 v2), (k0_dev221 v2) < nD := fun v2 k0_hw1 => k0_hw1.2.2.2.2.2.2.2.2.2.2.2.2.2.2.2.2.2.1
theorem k0_dev224_lt : ∀ (v2 : BitVec 32) (k0_hw1 : k0_chk1 v2), (k0_dev224 v2) < nD := fun v2 k0_hw1 => k0_hw1.2.2.2.2.2.2.2.2.2.2.2.2.2.2.2.2.2.2.1
theorem k0_dev225_lt : ∀ (v2 : BitVec 32) (k0_hw1 : k0_chk1 v2), (k0_dev225 v2) < nD := fun v2 k0_hw1 => k0_hw1.2.2.2.2.2.2.2.2.2.2.2.2.2.2.2.2.2.2.2.1
theorem k0_dev228_lt : ∀ (v2 : BitVec 32) (k0_hw1 : k0_chk1 v2), (k0_dev228 v2) < nD := fun v2 k0_hw1 => k0_hw1.2.2.2.2.2.2.2.2.2.2.2.2.2.2.2.2.2.2.2.2.1
theorem k0_dev229_lt : ∀ (v2 : BitVec 32) (k0_hw1 : k0_chk1 v2), (k0_dev229 v2) < nD := fun v2 k0_hw1 => k0_hw1.2.2.2.2.2.2.2.2.2.2.2.2.2.2.2.2.2.2.2.2.2.1
theorem k0_dev232_lt : ∀ (v2 : BitVec 32) (k0_hw1 : k0_chk1 v2), (k0_dev232 v2) < nD := fun v2 k0_hw1 => k0_hw1.2.2.2.2.2.2.2.2.2.2.2.2.2.2.2.2.2.2.2.2.2.2.1
theorem k0_dev233_lt : ∀ (v2 : BitVec 32) (k0_hw1 : k0_chk1 v2), (k0_dev233 v2) < nD := fun v2 k0_hw1 => k0_hw1.2.2.2.2.2.2.2.2.2.2.2.2.2.2.2.2.2.2.2.2.2.2.2.1
theorem k0_dev236_lt : ∀ (v2 : BitVec 32) (k0_hw1 : k0_chk1 v2), (k0_dev236 v2) < nD := fun v2 k0_hw1 => k0_hw1.2.2.2.2.2.2.2.2.2.2.2.2.2.2.2.2.2.2.2.2.2.2.2.2.1
theorem k0_dev237_lt : ∀ (v2 : BitVec 32) (k0_hw1 : k0_chk1 v2), (k0_dev237 v2) < nD := fun v2 k0_hw1 => k0_hw1.2.2.2.2.2.2.2.2.2.2.2.2.2.2.2.2.2.2.2.2.2.2.2.2.2.1
theorem k0_dev240_lt : ∀ (v2 : BitVec 32) (k0_hw1 : k0_chk1 v2), (k0_dev240 v2) < nD := fun v2 k0_hw1 => k0_hw1.2.2.2.2.2.2.2.2.2.2.2.2.2.2.2.2.2.2.2.2.2.2.2.2.2.2.1
theorem k0_dev241_lt : ∀ (v2 : BitVec 32) (k0_hw1 : k0_chk1 v2), (k0_dev241 v2) < nD := fun v2 k0_hw1 => k0_hw1.2.2.2.2.2.2.2.2.2.2.2.2.2.2.2.2.2.2.2.2.2.2.2.2.2.2.2.1
theorem k0_dev244_lt : ∀ (v2 : BitVec 32) (k0_hw1 : k0_chk1 v2), (k0_dev244 v2) < nD := fun v2 k0_hw1 => k0_hw1.2.2.2.2.2.2.2.2.2.2.2.2.2.2.2.2.2.2.2.2.2.2.2.2.2.2.2.2.1
theorem k0_dev246_lt : ∀ (v2 : BitVec 32) (k0_hw1 : k0_chk1 v2), (k0_dev246 v2) < nD := fun v2 k0_hw1 => k0_hw1.2.2.2.2.2.2.2.2.2.2.2.2.2.2.2.2.2.2.2.2.2.2.2.2.2.2.2.2.2

abbrev stage0_0 : Fin 1 → Memref sig .tc .vmem S4096x128 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1x3 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e5m2⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e5m2⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.AllReduce.Hops.lean ====
/-
  The kernel body read as a ring: an opening part, sixty-two hops that differ only in their number, and a closing part.

  The printed body spells every hop out, cut into parts at places that have nothing to do with the hops. Here a hop is written
  once, as a function of its number and for both directions at once, and the body is proved equal to the hops in a row, by
  definitional unfolding. Everything later speaks of one hop of any number.

  `true` is the direction to the right (rows 0 … 2047 of the result, sent to the next device of the ring), `false` the
  direction to the left (rows 2048 … 4095, sent to the previous one).
-/
module

public import proofs.«01_k».proof.Proof.Gen.KernelIdeal.Skeleton

@[expose] public section

noncomputable section

namespace Cert.KernelIdeal.AllReduce

open Idealize Idealize.ShloMosaic Idealize.SL.Sem Cert.KernelIdeal.Gen

variable {F : FTy → Type} [FloatOps F]

/-- What the body is called with, the two directions' buffers and semaphores side by side. -/
structure Win where
  x : Memref sig .tc .vmem S4096x128 .fp8e5m2
  w : Memref sig .tc .vmem S128x2048 .fp8e5m2
  scale : Memref sig .tc .smem S1x1 .f32
  ring : Memref sig .tc .smem S1x3 .i32
  out : Memref sig .tc .vmem S4096x2048 .f32
  comm : Bool → Memref sig .tc .vmem S2x64x2048 .f32
  ss : Bool → DmaSems sig S2
  rs : Bool → DmaSems sig S2
  credit : Bool → Sems sig S_

/-- What the body has read of its place in the ring: its position and its two neighbours, with the side conditions. -/
structure Place where
  pos : BitVec 32
  hpos : k0_chk3 pos
  nxt : BitVec 32
  hnxt : k0_chk2 nxt
  prv : BitVec 32
  hprv : k0_chk1 prv

namespace Place
variable (p : Place)

/-- The device a direction sends to. -/
def dest : Bool → Dev nD
  | true => ⟨k0_dev2 p.nxt, k0_dev2_lt _ p.hnxt⟩
  | false => ⟨k0_dev1 p.prv, k0_dev1_lt _ p.hprv⟩
/-- The device a direction receives from. -/
def source (b : Bool) : Dev nD := p.dest (!b)

/-- Where the chunk that hop `t` sends lies in the result. -/
def sendOff : Bool → ℕ → Fin 2 → ℕ
  | true, t => k0_off1 p.pos (BitVec.ofNat 32 t)
  | false, t => k0_off2 p.pos (BitVec.ofNat 32 t)
/-- Where the chunk that hop `t` receives lies in the result. -/
def recvOff : Bool → ℕ → Fin 2 → ℕ
  | true, t => k0_off3 p.pos (BitVec.ofNat 32 t)
  | false, t => k0_off4 p.pos (BitVec.ofNat 32 t)
/-- Where the chunk that this device finishes lies in the result. -/
def doneOff : Bool → Fin 2 → ℕ
  | true => k0_off5 p.pos
  | false => k0_off6 p.pos

theorem sendOff_inb (b : Bool) (t : Fin 62) : ∀ a, p.sendOff b t.val a + S64x2048.size a ≤ S4096x2048.size a := by
  cases b
  · exact k0_off2_inb p.pos p.hpos t
  · exact k0_off1_inb p.pos p.hpos t
theorem recvOff_inb (b : Bool) (t : Fin 62) : ∀ a, p.recvOff b t.val a + S64x2048.size a ≤ S4096x2048.size a := by
  cases b
  · exact k0_off4_inb p.pos p.hpos t
  · exact k0_off3_inb p.pos p.hpos t
theorem doneOff_inb (b : Bool) : ∀ a, p.doneOff b a + S64x2048.size a ≤ S4096x2048.size a := by
  cases b
  · exact k0_off6_inb p.pos p.hpos
  · exact k0_off5_inb p.pos p.hpos

end Place

theorem slot_lt (t : ℕ) : ∀ a, (![t % 2, 0, 0] : Fin 3 → ℕ) a + S1x64x2048.size a ≤ S2x64x2048.size a := by
  have := Nat.mod_lt t (y := 2) (by decide)
  intro a; fin_cases a
  · show t % 2 + 1 ≤ 2; omega
  · exact Nat.le_refl _
  · exact Nat.le_refl _
theorem sem_lt (t : ℕ) : ∀ a, (![t % 2] : Fin 1 → ℕ) a + S1.size a ≤ S2.size a := by
  have := Nat.mod_lt t (y := 2) (by decide)
  intro a; fin_cases a
  show t % 2 + 1 ≤ 2; omega

/-- Programs of a core of this kernel. -/
abbrev P (F : FTy → Type) [FloatOps F] (α : Type) : Type 1 := Prog (TpuEff nD τ sig (Elt F) Λ₀ .tc) α

variable (W : Win) (p : Place)

/-- A rectangle of a chunk's extent in the result. -/
abbrev chunkRect (off : Fin 2 → ℕ) (h : ∀ a, off a + S64x2048.size a ≤ S4096x2048.size a) : Rect S4096x2048 :=
  Rect.unit (s := S4096x2048) off S64x2048.size h
/-- The receive slot of hop `t`, as a rectangle. -/
abbrev slotRect (t : ℕ) : Rect S2x64x2048 := Rect.unit (s := S2x64x2048) ![t % 2, 0, 0] S1x64x2048.size (slot_lt t)

/-- The chunk of the result that hop `t` sends. -/
abbrev srcRef (b : Bool) (t : Fin 62) : Memref sig .tc .vmem S64x2048 .f32 :=
  W.out.slice (chunkRect (p.sendOff b t.val) (p.sendOff_inb b t)) (fun _ => rfl)
/-- The receive slot of hop `t`. -/
abbrev slotRef (b : Bool) (t : ℕ) : Memref sig .tc .vmem S64x2048 .f32 :=
  ((W.comm b).slice (slotRect t) (fun _ => rfl)).squeeze S64x2048 squeezes_S1x64x2048_S64x2048
/-- The cell that a copy of hop `t` credits at its sender, and at its receiver. -/
abbrev sendSem (b : Bool) (t : ℕ) : DmaSem sig := (((W.ss b).slice (Rect.unit (s := S2) ![t % 2] S1.size (sem_lt t))).squeeze S_ squeezes_S1_S_).sem
abbrev recvSem (b : Bool) (t : ℕ) : DmaSem sig := (((W.rs b).slice (Rect.unit (s := S2) ![t % 2] S1.size (sem_lt t))).squeeze S_ squeezes_S1_S_).sem

/-- Wait for the receiver's word that it has read a slot. -/
def waitCredit (b : Bool) : P F PUnit := semWaitWord (W.credit b).sem 1#32
/-- Wait for the departure of hop `t`'s copy. -/
def waitSend (b : Bool) (t : Fin 62) : P F PUnit :=
  Prog.lift (.waitDma2 (sendSem W b t.val) (slotRef W b t.val) (srcRef W p b t) ((View.wordExact_bits rfl).reshape _ _) (View.wordExact_bits rfl))
/-- Start hop `t`'s copy. -/
def send (b : Bool) (t : Fin 62) : P F PUnit :=
  Prog.lift (.enqueueDma (srcRef W p b t) (.remote (Dev.tc (p.dest b)) (slotRef W b t.val) (.dma (sendSem W b t.val))) (.dma (recvSem W b t.val))
    (View.wordExact_bits rfl) ((View.wordExact_bits rfl).reshape _ _) ⟨⟨rfl, Or.inl rfl⟩, trivial⟩)
/-- Wait for the arrival of hop `t`'s copy. -/
def waitRecv (b : Bool) (t : Fin 62) : P F PUnit :=
  Prog.lift (.waitDma2 (recvSem W b t.val) (srcRef W p b t) (slotRef W b t.val) (View.wordExact_bits rfl) ((View.wordExact_bits rfl).reshape _ _))

/-- Read and write a chunk of the result; read a receive slot. -/
def loadChunk (off : Fin 2 → ℕ) (h : ∀ a, off a + S64x2048.size a ≤ S4096x2048.size a) : P F (Vec F S64x2048 .f32) :=
  Prog.lift (.load W.out (chunkRect off h).toLoadRect (View.loadsAt_vmem h_S64x2048))
def storeChunk (off : Fin 2 → ℕ) (h : ∀ a, off a + S64x2048.size a ≤ S4096x2048.size a) (v : FVec F S64x2048 .f32) : P F PUnit :=
  Prog.lift (.store W.out (chunkRect off h) v Finset.univ (View.stores_vmem_bits_univ h_S64x2048 rfl) (.inl rfl))
def loadSlot (b : Bool) (t : ℕ) : P F (Vec F S1x64x2048 .f32) :=
  Prog.lift (.load (W.comm b) (slotRect t).toLoadRect (View.loadsAt_vmem h_S1x64x2048))

/-- Add what hop `t` received to the own chunk. -/
def add (b : Bool) (t : Fin 62) : P F PUnit := do
  let own ← loadChunk (F := F) W (p.recvOff b t.val) (p.recvOff_inb b t)
  let got ← loadSlot W b t.val
  let _ ← loadChunk (F := F) W (p.recvOff b t.val) (p.recvOff_inb b t)
  storeChunk W (p.recvOff b t.val) (p.recvOff_inb b t) (k0_pay2 own got)
/-- Put what hop `t` received in place of the own chunk. -/
def put (b : Bool) (t : Fin 62) : P F PUnit := do
  let got ← loadSlot W b t.val
  let _ ← loadChunk (F := F) W (p.recvOff b t.val) (p.recvOff_inb b t)
  storeChunk W (p.recvOff b t.val) (p.recvOff_inb b t) (k0_pay74 got)
/-- Tell the sender that the slot has been read. -/
def giveCredit (b : Bool) : P F PUnit := semSignalWord (p.source b) (W.credit b).sem 1#32
/-- Scale the finished chunk and apply the activation. -/
def finish (b : Bool) (s : Elt F .f32) : P F PUnit := do
  let v ← loadChunk (F := F) W (p.doneOff b) (p.doneOff_inb b)
  let _ ← loadChunk (F := F) W (p.doneOff b) (p.doneOff_inb b)
  storeChunk W (p.doneOff b) (p.doneOff_inb b) (k0_pay70 s v)

/-- Do a thing for the right, then for the left. -/
def both (f : Bool → P F PUnit) : P F PUnit := do f true; f false

/-- From the third hop on a slot must have been read, and a departure seen, before the next copy. -/
def before (t : Fin 62) : P F PUnit :=
  if 2 ≤ t.val then
    (both fun b => waitCredit W b) >>= fun _ => both fun b => waitSend W p b ⟨t.val - 2, Nat.lt_of_le_of_lt (Nat.sub_le _ _) t.isLt⟩
  else pure ⟨⟩
/-- Through the first half of the journey a hop adds; then it puts. -/
def combine (t : Fin 62) : P F PUnit := if t.val < 31 then both fun b => add W p b t else both fun b => put W p b t
/-- All slots but the last two are given back. -/
def release (t : Fin 62) : P F PUnit := if t.val < 60 then both fun b => giveCredit W p b else pure ⟨⟩
/-- In the middle of the journey the finished chunk goes through the activation. -/
def activate (t : Fin 62) : P F PUnit :=
  if t.val = 30 then
    smemLoad (Val := Elt F) W.scale (Rect.unit (s := S1x1) ![0, 0] S1x1.size inb_S1x1_S1x1_0_0) numel1_S1x1 rfl >>= fun s => both fun b => finish W p b s
  else pure ⟨⟩

/-- Hop `t`. -/
def hop (t : Fin 62) : P F PUnit := do
  before W p t
  both fun b => send W p b t
  both fun b => waitRecv W p b t
  combine W p t
  release W p t
  activate W p t

/-- The hops from `t` on, `n` of them, and the last two departures. -/
def hops : (n t : ℕ) → t + n = 62 → P F PUnit
  | 0, _, _ => do
    both fun b => waitSend W p b 60
    both fun b => waitSend W p b 61
  | n + 1, t, h => do
    hop W p ⟨t, by omega⟩
    hops n (t + 1) (by omega)

/-- Read the place in the ring. -/
def readPlace : P F Place := do
  let v0 ← smemLoad (Val := Elt F) W.ring (Rect.unit (s := S1x3) ![0, 0] S1x1.size inb_S1x3_S1x1_0_0) numel1_S1x1 rfl
  let h0 ← Prog.lift (TpuEff.assume (k0_chk3 v0) (k0_chk3.dec v0))
  let v1 ← smemLoad (Val := Elt F) W.ring (Rect.unit (s := S1x3) ![0, 1] S1x1.size inb_S1x3_S1x1_0_1) numel1_S1x1 rfl
  let h1 ← Prog.lift (TpuEff.assume (k0_chk2 v1) (k0_chk2.dec v1))
  let v2 ← smemLoad (Val := Elt F) W.ring (Rect.unit (s := S1x3) ![0, 2] S1x1.size inb_S1x3_S1x1_0_2) numel1_S1x1 rfl
  let h2 ← Prog.lift (TpuEff.assume (k0_chk1 v2) (k0_chk1.dec v2))
  pure ⟨v0, h0.down, v1, h1.down, v2, h2.down⟩

/-- The local product, into the result. -/
def product : P F PUnit := do
  let x ← Prog.lift (.load W.x (Rect.unit (s := S4096x128) ![0, 0] S4096x128.size inb_S4096x128_S4096x128_0_0).toLoadRect (View.loadsAt_vmem h_S4096x128))
  let w ← Prog.lift (.load W.w (Rect.unit (s := S128x2048) ![0, 0] S128x2048.size inb_S128x2048_S128x2048_0_0).toLoadRect (View.loadsAt_vmem h_S128x2048))
  let _ ← Prog.lift (.load W.out (Rect.unit (s := S4096x2048) ![0, 0] S4096x2048.size inb_S4096x2048_S4096x2048_0_0).toLoadRect (View.loadsAt_vmem h_S4096x2048))
  Prog.lift (.store W.out (Rect.unit (s := S4096x2048) ![0, 0] S4096x2048.size inb_S4096x2048_S4096x2048_0_0) (k0_pay1 (F := F) x w) Finset.univ (View.stores_vmem_bits_univ h_S4096x2048 rfl) (.inl rfl))

/-- Meet both neighbours. -/
def meet : P F PUnit := do
  semSignalWord (p.dest false) (SemArray.scalar (sig.barrier 0 rfl) : Sems sig S_).sem 1#32
  semSignalWord (p.dest true) (SemArray.scalar (sig.barrier 0 rfl) : Sems sig S_).sem 1#32
  semWaitWord (SemArray.scalar (sig.barrier 0 rfl) : Sems sig S_).sem 2#32

/-- The body. -/
def body : P F PUnit := do
  let p ← readPlace (F := F) W
  product (F := F) W
  meet p
  hops W p 62 0 rfl

end Cert.KernelIdeal.AllReduce

end
-- ==== Proof.AllReduce.Ring.lean ====
/-
  The ring: where each device stands, who its neighbours are, and where the chunks of the result lie.

  The three tables of the kernel give each device a position on the ring and the devices after and before it. Read in the
  direction of travel the two directions look alike: `at b c` is the position of `c` counted along direction `b`, `nbr b c`
  is the device that `c` sends to, and chunk `j` of a direction is the one that starts its journey at position `j`. Hop `t`
  of a device sends the chunk `ck b c t` (`t` places behind its own) and receives into `ck b c (t + 1)`.
-/
module

public import proofs.«01_k».proof.Proof.AllReduce.Hops

@[expose] public section

noncomputable section

namespace Cert.KernelIdeal.AllReduce

open Idealize Idealize.ShloMosaic Idealize.SL.Sem Cert.KernelIdeal.Gen

/-- The side conditions hold of every device's words. -/
theorem chk3_lit : ∀ c : Fin 32, k0_chk3 (lit0 c) := by
  intro c; unfold k0_chk3; revert c; decide +kernel
theorem chk2_lit : ∀ c : Fin 32, k0_chk2 (lit1 c) := by
  decide +kernel
theorem chk1_lit : ∀ c : Fin 32, k0_chk1 (lit2 c) := by
  decide +kernel

/-- Device `c`'s place in the ring. -/
def place (c : Dev nD) : Place := ⟨lit0 c, chk3_lit c, lit1 c, chk2_lit c, lit2 c, chk1_lit c⟩

/-- The device `c` sends to, in each direction. -/
def nbr (b : Bool) (c : Dev nD) : Dev nD := (place c).dest b

/-- Device `c`'s position, counted in the direction of travel. -/
def pos (b : Bool) (c : Dev nD) : Fin 32 :=
  match b with
  | true => Fin.ofNat 32 (lit0 c).toNat
  | false => - Fin.ofNat 32 (lit0 c).toNat

/-- The device that sends to `nbr b c` in direction `b` is `c`. -/
theorem nbr_not_nbr : ∀ (b : Bool) (c : Dev nD), nbr (!b) (nbr b c) = c := by decide +kernel
theorem nbr_nbr_not (b : Bool) (c : Dev nD) : nbr b (nbr (!b) c) = c := by
  have := nbr_not_nbr (!b) c; rwa [Bool.not_not] at this
theorem nbr_inj (b : Bool) {c d : Dev nD} (h : nbr b c = nbr b d) : c = d := by
  rw [← nbr_not_nbr b c, h, nbr_not_nbr]
/-- A device's two neighbours differ from it. -/
theorem nbr_ne : ∀ (b : Bool) (c : Dev nD), nbr b c ≠ c := by decide +kernel
theorem nbr_ne_nbr : ∀ (c : Dev nD), nbr true c ≠ nbr false c := by decide +kernel

/-- One place further along. -/
theorem pos_nbr : ∀ (b : Bool) (c : Dev nD), pos b (nbr b c) = pos b c + 1 := by decide +kernel
theorem pos_nbr_not (b : Bool) (c : Dev nD) : pos b (nbr (!b) c) = pos b c - 1 := by
  have := pos_nbr b (nbr (!b) c); rw [nbr_nbr_not] at this; rw [this]
  apply Fin.ext; simp only [Fin.val_sub, Fin.val_add]; omega
/-- No two devices stand at one place. -/
theorem pos_inj : ∀ (b : Bool), Function.Injective (pos b) := by decide +kernel

/-- The first row of chunk `j`. -/
def chunkRow (b : Bool) (j : Fin 32) : ℕ :=
  match b with
  | true => 64 * j.val
  | false => 2048 + 64 * (-j : Fin 32).val

theorem chunkRow_lt (b : Bool) (j : Fin 32) : chunkRow b j + 64 ≤ 4096 := by
  cases b
  · have := (-j : Fin 32).isLt; show 2048 + 64 * (-j : Fin 32).val + 64 ≤ 4096; omega
  · have := j.isLt; show 64 * j.val + 64 ≤ 4096; omega

/-- Chunk `j`'s offsets. -/
def chunkOff (b : Bool) (j : Fin 32) : Fin 2 → ℕ := ![chunkRow b j, 0]
theorem chunkOff_inb (b : Bool) (j : Fin 32) : ∀ a, chunkOff b j a + S64x2048.size a ≤ S4096x2048.size a := by
  intro a; fin_cases a
  · exact chunkRow_lt b j
  · exact Nat.le_refl _

/-- The chunk `k` places behind device `c`'s own. -/
def ck (b : Bool) (c : Dev nD) (k : ℕ) : Fin 32 := pos b c - Fin.ofNat 32 k

theorem ck_nbr (b : Bool) (c : Dev nD) (k : ℕ) : ck b (nbr b c) (k + 1) = ck b c k := by
  unfold ck
  rw [pos_nbr]
  apply Fin.ext; simp only [Fin.val_sub, Fin.val_add, Fin.ofNat]; omega
/-- What arrives at hop `k` is the chunk one further behind, for the receiver. -/
theorem ck_nbr_not (b : Bool) (c : Dev nD) (k : ℕ) : ck b (nbr (!b) c) k = ck b c (k + 1) := by
  have := ck_nbr b (nbr (!b) c) k; rw [nbr_nbr_not] at this; exact this.symm
theorem ck_mod (b : Bool) (c : Dev nD) (k : ℕ) : ck b c (k % 32) = ck b c k := by
  unfold ck; congr 1; apply Fin.ext; simp [Fin.ofNat]
theorem ck_inj (b : Bool) (c : Dev nD) {k k' : ℕ} (hk : k < 32) (hk' : k' < 32) (h : ck b c k = ck b c k') : k = k' := by
  have h2 := congrArg Fin.val h
  have := (pos b c).isLt
  simp only [ck, Fin.val_sub, Fin.ofNat] at h2; omega

theorem dest_place (b : Bool) (c : Dev nD) : (place c).dest b = nbr b c := rfl
theorem source_place (b : Bool) (c : Dev nD) : (place c).source b = nbr (!b) c := rfl

theorem sendOff_place_all : ∀ (b : Bool) (t : Fin 62) (c : Fin 32), (place c).sendOff b t.val = chunkOff b (ck b c t.val) := by decide +kernel
theorem recvOff_place_all : ∀ (b : Bool) (t : Fin 62) (c : Fin 32), (place c).recvOff b t.val = chunkOff b (ck b c (t.val + 1)) := by decide +kernel
theorem doneOff_place_all : ∀ (b : Bool) (c : Fin 32), (place c).doneOff b = chunkOff b (ck b c 31) := by decide +kernel

end Cert.KernelIdeal.AllReduce

end
-- ==== Proof.AllReduce.Contents.lean ====
/-
  What the chunks hold while they travel, in any arithmetic.

  `part b j A` is chunk `j` of a whole result's contents `A`. `val A s b t c` is what device `c` sends at hop `t` of direction
  `b`: at first its own chunk; through the first half of the journey its own chunk plus what the device before it sent at the
  hop before; at the end of that half the sum, scaled and put through the activation; from there on what it received.
-/
module

public import proofs.«01_k».proof.Proof.AllReduce.Ring

@[expose] public section

noncomputable section

namespace Cert.KernelIdeal.AllReduce

open Idealize Idealize.ShloMosaic Idealize.SL.Sem Cert.KernelIdeal.Gen

variable {F : FTy → Type} [FloatOps F]

/-- Chunk `j`'s rectangle. -/
abbrev jRect (b : Bool) (j : Fin 32) : Rect S4096x2048 := chunkRect (chunkOff b j) (chunkOff_inb b j)

/-- Chunk `j` of `A`. -/
def part {α : Type} (b : Bool) (j : Fin 32) (A : S4096x2048.Idx → α) : S64x2048.Idx → α := fun i => A ((jRect b j).emb i)

/-- A chunk's contents with a leading axis of extent one: what a load of a receive slot gives. -/
def boxed (v : Vec F S64x2048 .f32) : Vec F S1x64x2048 .f32 :=
  fun x => v ((Shape.reshapeEquiv (Shape.Squeezes.numel_eq squeezes_S1x64x2048_S64x2048)).symm x)

section
variable (A : Dev nD → Vec F S4096x2048 .f32) (s : Dev nD → Elt F .f32)

/-- What device `c` sends at hop `t`. -/
def val (b : Bool) : ℕ → Dev nD → FVec F S64x2048 .f32
  | 0, c => part b (ck b c 0) (A c)
  | t + 1, c =>
    if t < 31 then
      let sum := k0_pay2 (F := F) (part b (ck b c (t + 1)) (A c)) (boxed (val b t (nbr (!b) c)))
      if t = 30 then k0_pay70 (s c) sum else sum
    else k0_pay74 (F := F) (boxed (val b t (nbr (!b) c)))

/-- What a hop's addition or replacement makes of the chunk it receives into. -/
def got (b : Bool) (t : ℕ) (c : Dev nD) : FVec F S64x2048 .f32 :=
  if t < 31 then k0_pay2 (F := F) (part b (ck b c (t + 1)) (A c)) (boxed (val A s b t (nbr (!b) c)))
  else k0_pay74 (F := F) (boxed (val A s b t (nbr (!b) c)))

theorem val_succ (b : Bool) (t : ℕ) (c : Dev nD) : val A s b (t + 1) c = if t = 30 then k0_pay70 (s c) (got A s b t c) else got A s b t c := by
  rw [val]; unfold got
  by_cases h : t < 31
  · rw [if_pos h, if_pos h]
  · rw [if_neg h, if_neg h, if_neg (by omega)]

/-- What is put is what came. -/
theorem put_boxed (v : FVec F S64x2048 .f32) : k0_pay74 (F := F) (boxed v) = v := by
  unfold k0_pay74 boxed
  funext i
  exact congrArg v (Equiv.symm_apply_apply _ _)

/-- Where in the ring chunk `j` is finished. -/
def owner (b : Bool) (j : Fin 32) : Dev nD := (Function.surjInv (Finite.injective_iff_surjective.mp (pos_inj b))) (j + 31)

theorem owner_ck (b : Bool) (c : Dev nD) : owner b (ck b c 31) = c := by
  refine pos_inj b ?_
  refine (Function.surjInv_eq (Finite.injective_iff_surjective.mp (pos_inj b)) _).trans ?_
  apply Fin.ext
  have := (pos b c).isLt
  simp only [ck, Fin.val_sub, Fin.val_add, Fin.ofNat]; omega

/-- Chunk `j`, finished. -/
def finished (b : Bool) (j : Fin 32) : FVec F S64x2048 .f32 := val A s b 31 (owner b j)

/-- From its end on the first half's result travels unchanged. -/
theorem val_late (b : Bool) (k : ℕ) : ∀ c : Dev nD, val A s b (31 + k) c = finished A s b (ck b c (31 + k)) := by
  induction k with
  | zero => intro c; unfold finished; rw [Nat.add_zero, owner_ck]
  | succ k ih =>
    intro c
    rw [← Nat.add_assoc, val_succ, if_neg (by omega)]
    unfold got
    rw [if_neg (by omega), put_boxed, ih, ck_nbr_not]

/-- What the chunk `u` places behind device `c`'s own holds while no hop is at it, `u` counted on around the ring. -/
def rest (b : Bool) (c : Dev nD) (u : ℕ) : FVec F S64x2048 .f32 :=
  if u < 32 then part b (ck b c u) (A c) else val A s b (u - 32) c

end

end Cert.KernelIdeal.AllReduce

end
-- ==== Proof.AllReduce.Cells.lean ====
/-
  The buffers and the semaphores the body is called with, and the names of the semaphores' cells.
-/
module

public import proofs.«01_k».proof.Proof.AllReduce.Contents

@[expose] public section

noncomputable section

namespace Cert.KernelIdeal.AllReduce

open Idealize Idealize.ShloMosaic Idealize.SL.Sem Cert.KernelIdeal.Gen

/-- What the body is called with. -/
def win : Win where
  x := Memref.whole cc0_stg0_0
  w := Memref.whole cc0_stg1_0
  scale := Memref.whole cc0_stg2_0
  ring := Memref.whole cc0_stg3_0
  out := Memref.whole cc0_stg4_0
  comm b := cond b (Memref.whole cc0_scratch0) (Memref.whole cc0_scratch1)
  ss b := cond b cc0_scratch2 cc0_scratch4
  rs b := cond b cc0_scratch3 cc0_scratch5
  credit b := cond b cc0_scratch6 cc0_scratch7

/-- The parity of a hop: which slot and which cells it uses. -/
def par (t : ℕ) : Fin 2 := ⟨t % 2, Nat.mod_lt _ (by decide)⟩

/-- The protocol's cells: the barrier; per direction and parity the cells that count departures and arrivals; per
    direction the cell that counts slots read. -/
inductive Cell
  | bar
  | ss (b : Bool) (s : Fin 2)
  | rs (b : Bool) (s : Fin 2)
  | cr (b : Bool)
deriving DecidableEq

instance : Fintype Cell where
  elems := {.bar, .ss true 0, .ss true 1, .ss false 0, .ss false 1, .rs true 0, .rs true 1, .rs false 0, .rs false 1, .cr true, .cr false}
  complete k := by
    rcases k with _ | ⟨b, s⟩ | ⟨b, s⟩ | b
    · decide
    all_goals first | (cases b <;> fin_cases s <;> decide) | (cases b <;> decide)

/-- The semaphore of a cell. -/
def Cell.sem : Cell → SemLoc sig
  | .bar => .reg 2
  | .ss true s => .dma ⟨5 + s.val, by show 5 + s.val < 13; omega⟩
  | .rs true s => .dma ⟨7 + s.val, by show 7 + s.val < 13; omega⟩
  | .ss false s => .dma ⟨9 + s.val, by show 9 + s.val < 13; omega⟩
  | .rs false s => .dma ⟨11 + s.val, by show 11 + s.val < 13; omega⟩
  | .cr true => .reg 0
  | .cr false => .reg 1

/-- The cell of a semaphore, if it is one of the protocol's. -/
def Cell.of : SemLoc sig → Option Cell
  | .reg i => some (if i.val = 2 then .bar else if i.val = 0 then .cr true else .cr false)
  | .dma i =>
    if i.val < 5 then none
    else if (i.val - 5) % 4 < 2 then some (.ss (decide (i.val < 9)) (par (i.val - 5)))
    else some (.rs (decide (i.val < 9)) (par (i.val - 5)))

theorem Cell.of_sem (k : Cell) : Cell.of k.sem = some k := by
  rcases k with _ | ⟨b, s⟩ | ⟨b, s⟩ | b
  · rfl
  all_goals first | (cases b <;> fin_cases s <;> rfl) | (cases b <;> rfl)

theorem Cell.sem_inj : Function.Injective Cell.sem := fun k k' h => by
  have := Cell.of_sem k; rw [h, Cell.of_sem] at this; exact (Option.some.inj this).symm

/-- A cell on a device. -/
abbrev Cell.on (k : Cell) (c : Dev nD) : GSem nD τ sig := ((Dev.tc c : Thread nD τ), k.sem)

theorem Cell.on_inj {k k' : Cell} {c c' : Dev nD} (h : k.on c = k'.on c') : k = k' ∧ c = c' :=
  ⟨Cell.sem_inj (congrArg Prod.snd h), congrArg (fun g : GSem nD τ sig => g.1.1) h⟩

/-- The semaphore of one entry of an array of two. -/
theorem entry_eq (a : DmaSems sig S2) {i j : ℕ} (hi) (hj) (h : i = j) :
    ((a.slice (Rect.unit (s := S2) ![i] S1.size hi)).squeeze S_ squeezes_S1_S_).sem = ((a.slice (Rect.unit (s := S2) ![j] S1.size hj)).squeeze S_ squeezes_S1_S_).sem := by
  subst h; rfl

theorem sendSem_eq (b : Bool) (t : ℕ) : (.dma (sendSem win b t) : SemLoc sig) = (Cell.ss b (par t)).sem := by
  rcases Nat.mod_two_eq_zero_or_one t with h | h
  · have hp : par t = 0 := Fin.ext h
    rw [hp]; unfold sendSem; rw [entry_eq (win.ss b) (sem_lt t) (sem_lt 0) h]; cases b <;> decide
  · have hp : par t = 1 := Fin.ext h
    rw [hp]; unfold sendSem; rw [entry_eq (win.ss b) (sem_lt t) (sem_lt 1) h]; cases b <;> decide
theorem recvSem_eq (b : Bool) (t : ℕ) : (.dma (recvSem win b t) : SemLoc sig) = (Cell.rs b (par t)).sem := by
  rcases Nat.mod_two_eq_zero_or_one t with h | h
  · have hp : par t = 0 := Fin.ext h
    rw [hp]; unfold recvSem; rw [entry_eq (win.rs b) (sem_lt t) (sem_lt 0) h]; cases b <;> decide
  · have hp : par t = 1 := Fin.ext h
    rw [hp]; unfold recvSem; rw [entry_eq (win.rs b) (sem_lt t) (sem_lt 1) h]; cases b <;> decide
theorem credit_eq (b : Bool) : (.reg (win.credit b).sem : SemLoc sig) = (Cell.cr b).sem := by cases b <;> decide
theorem barrier_eq : (.reg (SemArray.scalar (sig.barrier 0 rfl) : Sems sig S_).sem : SemLoc sig) = Cell.bar.sem := by decide

/-- The receive slot of a parity. -/
abbrev slotOf (b : Bool) (s : Fin 2) : Memref sig .tc .vmem S64x2048 .f32 := slotRef win b s.val
/-- Chunk `j` of the result. -/
abbrev chunkOf (b : Bool) (j : Fin 32) : Memref sig .tc .vmem S64x2048 .f32 := win.out.slice (jRect b j) (fun _ => rfl)

theorem slot_eq_of {b : Bool} {t t' : ℕ} (h : t % 2 = t' % 2) : slotRef win b t = slotRef win b t' := by
  have : slotRect t = slotRect t' := by unfold slotRect; congr 1; rw [h]
  unfold slotRef
  congr 1
  show (win.comm b).slice (slotRect t) _ = (win.comm b).slice (slotRect t') _
  congr 1
theorem slotRef_eq (b : Bool) (t : ℕ) : slotRef win b t = slotOf b (par t) := slot_eq_of (by simp [par])

theorem chunk_eq_of {off off' : Fin 2 → ℕ} (h h') (e : off = off') :
    win.out.slice (chunkRect off h) (fun _ => rfl) = win.out.slice (chunkRect off' h') (fun _ => rfl) := by subst e; rfl
theorem srcRef_eq (b : Bool) (c : Dev nD) (t : Fin 62) : srcRef win (place c) b t = chunkOf b (ck b c t.val) :=
  chunk_eq_of _ _ (sendOff_place_all b t c)

/-- What one chunk's copy credits. -/
def N : ℕ := RefSig.tileCredit S64x2048 .f32
theorem N_pos : 0 < N := RefSig.tileCredit_pos _ _ (by decide)
theorem credit_slot (b : Bool) (s : Fin 2) : (slotOf b s).view.dmaCredit = N := by cases b <;> rfl
theorem credit_chunk (b : Bool) (j : Fin 32) : (chunkOf b j).view.dmaCredit = N := rfl

end Cert.KernelIdeal.AllReduce

end
-- ==== Proof.AllReduce.Schedule.lean ====
/-
  What the devices agree on: who counts what, when, and what comes with it.

  A semaphore's cell is a succession of rounds. The cell `rs b s` of a device counts the arrivals in its receive slot `s` of
  direction `b`, one a round: round `r` is hop `2 r + s`, and its arrival brings the slot at what the sender sent. The cell
  `ss b s` counts the departures of the device's own copies in the same way and brings back the chunk. The barrier's cell
  has one round: each neighbour says that its slots are free. The cell `cr b` has one round of sixty: its `n`-th unit says
  that the receiver has read the slots of the hops up to `n`. Such a word (`ack`) only grows, so a device that has taken
  `m` of them in any order has heard at least what the `m`-th says.

  A slot itself travels outside the cells: its reader releases it, and the sender takes it on the strength of such a word.
-/
module

public import proofs.«01_k».proof.Proof.AllReduce.Cells
public import Idealize.ShloMosaic.Lib.Pipeline.Kit
public import Idealize.ShloMosaic.Lib.Release
public import Idealize.ShloMosaic.Lib.Ring
public import Idealize.ShloMosaic.Lib.Memref

@[expose] public section

noncomputable section

namespace Cert.KernelIdeal.AllReduce

open Idealize Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

/-- A receive slot: its device, its direction, its parity. -/
abbrev Key : Type := Dev nD × Bool × Fin 2
/-- The ghost state: the pipeline's rounds, the ring's, the slots'. -/
abbrev UU : Type := UR sig nD τ × (URounds (GSem nD τ sig) ℕ × USlots Key)

variable (F : FTy → Type) [FloatOps F]

abbrev Res : Type := MT nD τ sig ℕ (Elt F) ℕ UU ℕ
abbrev EP : Emb (UR sig nD τ) (Res F) := embL
abbrev ER : Emb (URounds (GSem nD τ sig) ℕ) (Res F) := (Emb.inl : Emb _ (URounds (GSem nD τ sig) ℕ × USlots Key)).trans embR
abbrev ES : Emb (USlots Key) (Res F) := (Emb.inr : Emb _ (URounds (GSem nD τ sig) ℕ × USlots Key)).trans embR

instance : (ER F).LandsIn (upEmb : UEmb _ (Res F)) := by unfold ER; infer_instance
instance : (ES F).LandsIn (upEmb : UEmb _ (Res F)) := by unfold ES; infer_instance

/-- How many of the hops before `n` have parity `s`. -/
def cnt (s : Fin 2) (n : ℕ) : ℕ := (n + 1 - s.val) / 2
/-- The hop that round `r` of a cell of parity `s` belongs to. -/
abbrev hopOf (s : Fin 2) (r : ℕ) : ℕ := 2 * r + s.val

theorem cnt_zero (s : Fin 2) : cnt s 0 = 0 := by unfold cnt; omega
theorem cnt_mono (s : Fin 2) {n n' : ℕ} (h : n ≤ n') : cnt s n ≤ cnt s n' := by unfold cnt; omega
theorem cnt_self (t : ℕ) : cnt (par t) t = t / 2 := by unfold cnt par; show (t + 1 - t % 2) / 2 = t / 2; omega
theorem cnt_pred (t : ℕ) : cnt (par t) (t - 1) = t / 2 := by unfold cnt par; show (t - 1 + 1 - t % 2) / 2 = t / 2; omega
theorem cnt_succ (t : ℕ) : cnt (par t) (t + 1) = t / 2 + 1 := by unfold cnt par; show (t + 1 + 1 - t % 2) / 2 = t / 2 + 1; omega
theorem cnt_succ_other {t : ℕ} {s : Fin 2} (h : s ≠ par t) : cnt s (t + 1) = cnt s t := by
  have h' : s.val ≠ t % 2 := fun e => h (Fin.ext e)
  have := s.isLt
  unfold cnt; omega
theorem hopOf_half (t : ℕ) : hopOf (par t) (t / 2) = t := by show 2 * (t / 2) + t % 2 = t; omega

/-- The word that device `c` has read the slots of direction `b` of all hops before `n`: each slot is released that many
    times and once more, and its cell has come that far. -/
def ack (b : Bool) (c : Dev nD) (n : ℕ) : sProp (Res F) :=
  iprop((released (ES F) (c, b, 0) (cnt 0 n + 1) ∗ reached (ER F) ((Cell.rs b 0).on c) (cnt 0 n))
    ∗ (released (ES F) (c, b, 1) (cnt 1 n + 1) ∗ reached (ER F) ((Cell.rs b 1).on c) (cnt 1 n)))

instance (b : Bool) (c : Dev nD) (n : ℕ) : BI.Persistent (ack F b c n) := by unfold ack; infer_instance
instance (b : Bool) (c : Dev nD) (n : ℕ) : BI.Storable (upEmb : UEmb _ (Res F)) (ack F b c n) := by unfold ack; infer_instance

theorem ack_of (b : Bool) (c : Dev nD) (n : ℕ) (s : Fin 2) :
    ack F b c n ⊢ iprop(released (ES F) (c, b, s) (cnt s n + 1) ∗ reached (ER F) ((Cell.rs b s).on c) (cnt s n)) := by
  unfold ack
  iintro ⟨H0, H1⟩
  fin_cases s
  · iexact H0
  · iexact H1

theorem ack_mk (b : Bool) (c : Dev nD) (n : ℕ) :
    bigSep Finset.univ (fun s : Fin 2 => iprop(released (ES F) (c, b, s) (cnt s n + 1) ∗ reached (ER F) ((Cell.rs b s).on c) (cnt s n))) ⊢ ack F b c n :=
  Entails.of_eq (BI.bigSep_fin_two _)

theorem ack_mono (b : Bool) (c : Dev nD) {n n' : ℕ} (h : n ≤ n') : ack F b c n' ⊢ ack F b c n := by
  unfold ack
  exact BIClass.sep_mono (BIClass.sep_mono (released_mono _ (Nat.succ_le_succ (cnt_mono 0 h))) (reached_mono _ (cnt_mono 0 h)))
    (BIClass.sep_mono (released_mono _ (Nat.succ_le_succ (cnt_mono 1 h))) (reached_mono _ (cnt_mono 1 h)))

/-- What device `c` says to the device that sends to it in direction `b` when they meet: its slots are free, and its cell
    for words in the other direction counts. -/
def hello (b : Bool) (c : Dev nD) : sProp (Res F) := iprop(ack F b c 0 ∗ reached (ER F) ((Cell.cr (!b)).on c) 0)

instance (b : Bool) (c : Dev nD) : BI.Persistent (hello F b c) := by unfold hello; infer_instance
instance (b : Bool) (c : Dev nD) : BI.Storable (upEmb : UEmb _ (Res F)) (hello F b c) := by unfold hello; infer_instance

/-- A receive slot, at any contents. -/
abbrev slotAny (k : Key) : sProp (Res F) :=
  slot ((slotOf k.2.1 k.2.2).view.loc (Dev.tc k.1 : Thread nD τ)) (slotOf k.2.1 k.2.2).view.set

variable {F}
variable (A : Dev nD → Vec F S4096x2048 .f32) (s : Dev nD → Elt F .f32)

/-- The duties of a round of a cell, their amounts, and what each brings. -/
def duts : Cell → ℕ → Finset ℕ
  | .bar, r => if r = 0 then {0, 1} else ∅
  | .ss _ _, r => if r < 31 then {0} else ∅
  | .rs _ _, r => if r < 31 then {0} else ∅
  | .cr _, r => if r = 0 then Finset.range 60 else ∅
def amt : Cell → ℕ
  | .bar => 1
  | .ss _ _ => N
  | .rs _ _ => N
  | .cr _ => 1
def pay : Cell → Dev nD → ℕ → ℕ → sProp (Res F)
  | .bar, c, _, d => hello F (decide (d = 0)) (nbr (decide (d = 0)) c)
  | .ss b p, c, r, _ => ownsTc c (chunkOf b (ck b c (hopOf p r))) fullShare (val A s b (hopOf p r) c)
  | .rs b p, c, r, _ => ownsTc c (slotOf b p) fullShare (val A s b (hopOf p r) (nbr (!b) c))
  | .cr b, c, _, d => ack F b (nbr b c) (d + 1)

theorem amt_pos (k : Cell) : 0 < amt k := by cases k <;> first | exact Nat.one_pos | exact N_pos

/-- The agreement. -/
def rd : Rounds.Schedule (GSem nD τ sig) ℕ (Res F) where
  duties g r := (Cell.of g.2).elim ∅ (fun k => duts k r)
  unitless _ := False
  amount g _ _ := (Cell.of g.2).elim 1 amt
  payload g r d := (Cell.of g.2).elim iprop(emp) (fun k => pay A s k g.1.1 r d)
  amount_pos g _ _ _ := by cases Cell.of g.2 <;> first | exact Nat.one_pos | exact amt_pos _

instance (g : GSem nD τ sig) (r d : ℕ) : BI.Storable (upEmb : UEmb _ (Res F)) ((rd A s).payload g r d) := by
  show BI.Storable upEmb ((Cell.of g.2).elim iprop(emp) (fun k => pay A s k g.1.1 r d))
  cases Cell.of g.2 with
  | none => exact (inferInstance : BI.Storable (upEmb : UEmb _ (Res F)) iprop(emp))
  | some k => cases k <;> (dsimp only [Option.elim, pay]; infer_instance)

theorem duties_on (k : Cell) (c : Dev nD) (r : ℕ) : (rd A s).duties (k.on c) r = duts k r := by
  show (Cell.of k.sem).elim ∅ (fun k => duts k r) = _
  rw [Cell.of_sem]; rfl
theorem amount_on (k : Cell) (c : Dev nD) (r d : ℕ) : (rd A s).amount (k.on c) r d = amt k := by
  show (Cell.of k.sem).elim 1 amt = _
  rw [Cell.of_sem]; rfl
theorem payload_on (k : Cell) (c : Dev nD) (r d : ℕ) : (rd A s).payload (k.on c) r d = pay A s k c r d := by
  show (Cell.of k.sem).elim _ _ = _
  rw [Cell.of_sem]; rfl
theorem expect_on (k : Cell) (c : Dev nD) (r : ℕ) : (rd A s).expect (k.on c) r = (duts k r).card * amt k := by
  unfold Schedule.expect Schedule.amountOf
  rw [duties_on, Finset.sum_congr rfl fun d _ => amount_on A s k c r d, Finset.sum_const, smul_eq_mul]

/-- After how many rounds a cell has no duty left. -/
def lastRound : Cell → ℕ
  | .bar => 1
  | .ss _ _ => 31
  | .rs _ _ => 31
  | .cr _ => 1
theorem duties_done (k : Cell) (c : Dev nD) : ∀ r, lastRound k ≤ r → (rd A s).duties (k.on c) r = ∅ := fun r h => by
  rw [duties_on]
  cases k <;> (dsimp only [lastRound] at h; dsimp only [duts]; rw [if_neg (by omega)])

/-! ### Levels, and what a device owes -/

/-- The indices at which units are owed and waited for: the hops. -/
def L (g : GSem nD τ sig) : Finset ℕ := if g.1.2 = .tc then Finset.range 62 else ∅
/-- The order in which waits are served. -/
def lvOf : Option Cell → ℕ → ℕ
  | some .bar, _ => 1
  | some (.rs _ _), t => 3 * t + 2
  | some (.cr _), n => 3 * n + 3
  | _, _ => 0
def lv (g : GSem nD τ sig) (ι : ℕ) : ℕ := lvOf (Cell.of g.2) ι

theorem L_tc (c : Dev nD) (sm : SemLoc sig) : L ((Dev.tc c : Thread nD τ), sm) = Finset.range 62 := if_pos rfl
theorem L_of_ne (g : GSem nD τ sig) (h : g.1.2 ≠ .tc) : L g = ∅ := if_neg h
theorem lv_on (k : Cell) (c : Dev nD) (ι : ℕ) : lv (k.on c) ι = lvOf (some k) ι := by
  show lvOf (Cell.of k.sem) ι = _; rw [Cell.of_sem]

/-- Everything that `O` owes lies above level `ℓ`. -/
def Above (ℓ : ℕ) (O : CellTallies nD τ sig ℕ) : Prop := ∀ g ι, 0 < O g ι → ι ∈ L g ∧ ℓ < lv g ι

theorem Above.add {ℓ : ℕ} {O O' : CellTallies nD τ sig ℕ} (h : Above ℓ O) (h' : Above ℓ O') : Above ℓ (O + O') := fun g ι hp => by
  rcases Nat.eq_zero_or_pos (O g ι) with h0 | h0
  · refine h' g ι ?_
    have : (O + O') g ι = O g ι + O' g ι := rfl
    omega
  · exact h g ι h0
theorem Above.zero (ℓ : ℕ) : Above ℓ 0 := fun _ _ h => absurd h (Nat.lt_irrefl 0)
theorem Above.sum {ℓ : ℕ} {S : Finset ℕ} {f : ℕ → CellTallies nD τ sig ℕ} (h : ∀ u ∈ S, Above ℓ (f u)) : Above ℓ (∑ u ∈ S, f u) := by
  classical
  induction S using Finset.induction_on with
  | empty => rw [Finset.sum_empty]; exact Above.zero ℓ
  | insert a S ha ih =>
    rw [Finset.sum_insert ha]
    exact (h a (Finset.mem_insert_self ..)).add (ih fun u hu => h u (Finset.mem_insert_of_mem hu))
theorem Above.tally {ℓ : ℕ} {k : Cell} {c : Dev nD} {ι n : ℕ} (hι : ι < 62) (h : ℓ < lvOf (some k) ι) : Above ℓ (tallyAt (k.on c) ι n) := fun g ι' hp => by
  rw [tallyAt_apply] at hp
  by_cases hg : g = k.on c ∧ ι' = ι
  · rw [hg.1, hg.2, L_tc, lv_on]; exact ⟨Finset.mem_range.mpr hι, h⟩
  · rw [if_neg hg] at hp; exact absurd hp (Nat.lt_irrefl 0)

variable (F) in
/-- The levels, known to all. -/
@[irreducible] def levels : sProp (Res F) := levAts L lv
theorem levels_eq : levels F = levAts L lv := by unfold levels; rfl
instance : BI.Persistent (levels F) := by rw [levels_eq]; infer_instance

theorem Above.mayWait {ℓ : ℕ} {O : CellTallies nD τ sig ℕ} (hO : Above ℓ O) {k : Cell} {c : Dev nD} {ι : ℕ} (hι : ι < 62)
    (hℓ : lvOf (some k) ι ≤ ℓ) : levels F ⊢ MayWait (Dev.tc c : Thread nD τ) k.sem ι O := by
  rw [levels_eq]
  exact MayOwe.of_cut (L := L) (lev := lv) ℓ (fun p hp => by rw [Finset.mem_singleton.mp hp, L_tc]; exact Finset.mem_range.mpr hι)
    (fun g u h => (hO g u h).1) (fun p hp => by rw [Finset.mem_singleton.mp hp]; exact (lv_on k c ι).trans_le hℓ)
    (fun g u h => (hO g u h).2)

/-- What device `c` owes from hop `t` on: the arrivals at the device it sends to, and the words to the device it receives
    from. -/
def oweR (b : Bool) (c : Dev nD) (t : ℕ) : CellTallies nD τ sig ℕ := ∑ u ∈ Finset.Ico t 62, tallyAt ((Cell.rs b (par u)).on (nbr b c)) u N
def oweC (b : Bool) (c : Dev nD) (t : ℕ) : CellTallies nD τ sig ℕ := ∑ n ∈ Finset.Ico t 60, tallyAt ((Cell.cr b).on (nbr (!b) c)) n 1

theorem oweR_peel (b : Bool) (c : Dev nD) {t : ℕ} (h : t < 62) : oweR b c t = oweR b c (t + 1) + tallyAt ((Cell.rs b (par t)).on (nbr b c)) t N := by
  unfold oweR; rw [Ring.sum_Ico_succ h, add_comm]
theorem oweC_peel (b : Bool) (c : Dev nD) {t : ℕ} (h : t < 60) : oweC b c t = oweC b c (t + 1) + tallyAt ((Cell.cr b).on (nbr (!b) c)) t 1 := by
  unfold oweC; rw [Ring.sum_Ico_succ h, add_comm]
theorem oweR_end (b : Bool) (c : Dev nD) {t : ℕ} (h : 62 ≤ t) : oweR b c t = 0 := by
  unfold oweR; rw [Finset.Ico_eq_empty (by omega), Finset.sum_empty]
theorem oweC_end (b : Bool) (c : Dev nD) {t : ℕ} (h : 60 ≤ t) : oweC b c t = 0 := by
  unfold oweC; rw [Finset.Ico_eq_empty (by omega), Finset.sum_empty]

theorem oweR_above (b : Bool) (c : Dev nD) {t ℓ : ℕ} (h : ℓ < 3 * t + 2) : Above ℓ (oweR b c t) :=
  Above.sum fun u hu => by
    have := Finset.mem_Ico.mp hu
    exact Above.tally this.2 (by show ℓ < 3 * u + 2; omega)
theorem oweC_above (b : Bool) (c : Dev nD) {t ℓ : ℕ} (h : ℓ < 3 * t + 3) : Above ℓ (oweC b c t) :=
  Above.sum fun u hu => by
    have := Finset.mem_Ico.mp hu
    exact Above.tally (by omega) (by show ℓ < 3 * u + 3; omega)

end Cert.KernelIdeal.AllReduce

end
-- ==== Proof.AllReduce.Access.lean ====
/-
  Reads and writes of a chunk and of a receive slot, on what the device owns of them.
-/
module

public import proofs.«01_k».proof.Proof.AllReduce.Schedule

@[expose] public section

noncomputable section

namespace Cert.KernelIdeal.AllReduce

open Idealize Idealize.ShloMosaic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

abbrev 𝒱₀ : Variants := Variants.none

/-- The weakest precondition of a program of device `c`. -/
abbrev wpc (c : Dev nD) {α : Type} (p : P F α) (Q : α → sProp (Res F)) : sProp (Res F) :=
  wp frame (wpE (Cert.KernelIdeal.defs₀ (F := F)) 𝒱₀ (Dev.tc c : Thread nD τ) none) Set.univ p Q

/-- Under the shared facts `I`, from `X` device `c` runs `p` and has `Y`. -/
def Does (I : sProp (Res F)) (c : Dev nD) (X : sProp (Res F)) (p : P F PUnit) (Y : sProp (Res F)) : Prop :=
  ∀ Q : sProp (Res F), iprop(I ∗ X) ⊢ iprop((Y -∗ Q) -∗ wpc c p (fun _ => Q))

section Does
variable {I : sProp (Res F)} [BI.Persistent I] {c : Dev nD}

theorem Does.seq {X Y Z : sProp (Res F)} {p q : P F PUnit} (hp : Does I c X p Y) (hq : Does I c Y q Z) :
    Does I c X (p >>= fun _ => q) Z := fun Q => by
  unfold wpc; rw [wp_bind]
  iintro ⟨#HI, HX⟩ HQ
  iapply (hp _) $$ [HX]
  · isplitr; · iexact HI
    iexact HX
  iintro HY
  iapply (hq _) $$ [HY]
  · isplitr; · iexact HI
    iexact HY
  iexact HQ

theorem Does.skip {X Y : sProp (Res F)} (h : iprop(I ∗ X) ⊢ Y) : Does I c X (pure ⟨⟩) Y := fun Q => by
  have e : wpc c (pure PUnit.unit : P F PUnit) (fun _ => Q) = iprop(|={Set.univ}=> Q) := wp_ret ..
  rw [e]
  iintro HX HQ
  imodintro
  iapply HQ
  iapply h; iexact HX

theorem Does.conseq {X X' Y Y' : sProp (Res F)} {p : P F PUnit} (hp : Does I c X p Y) (hX : iprop(I ∗ X') ⊢ X) (hY : iprop(I ∗ Y) ⊢ Y') :
    Does I c X' p Y' := fun Q => by
  iintro ⟨#HI, HX⟩ HQ
  ihave HX := hX $$ [HX]
  · isplitr; · iexact HI
    iexact HX
  iapply (hp _) $$ [HX]
  · isplitr; · iexact HI
    iexact HX
  iintro HY
  iapply HQ
  iapply hY
  isplitr; · iexact HI
  iexact HY

theorem Does.frame_right {X Y : sProp (Res F)} {p : P F PUnit} (hp : Does I c X p Y) (R : sProp (Res F)) :
    Does I c iprop(X ∗ R) p iprop(Y ∗ R) := fun Q => by
  iintro ⟨HI, HX, HR⟩ HQ
  iapply (hp _) $$ [HI HX]
  · isplitl [HI] <;> iassumption
  iintro HY
  iapply HQ
  isplitl [HY] <;> iassumption

end Does

section Generic
variable (c : Dev nD) {sh : Shape} {e : EltTy} (m : Memref sig .tc .vmem sh e) (r : Rect sh) (hr : ∀ a, r.stride a = 1)

theorem own_load {q : PosShare TreeShare} {hl : m.view.LoadsAt r.toLoadRect} (X : r.shape.Idx → Elt F e) (Q : (r.shape.Idx → Elt F e) → sProp (Res F)) :
    ownsTc c (m.slice r hr) q X
      ⊢ iprop((ownsTc c (m.slice r hr) q X -∗ Q X) -∗ wpc c (Prog.lift (.load m r.toLoadRect hl)) Q) := by
  unfold ownsTc owns
  iintro ⟨%f, %hf, H⟩ HQ
  iapply (wp_load_rect 𝒱₀ (Dev.tc c : Thread nD τ) none Set.univ (m := m) (r := r) (S := (m.slice r hr).view.set) (f := f) (Finset.Subset.refl _)) $$ [H]
  · iexact H
  iintro H
  rw [wp_ret]; imodintro
  have hr : (m.access r).read (Elt F) f = X := hf
  rw [hr]
  iapply HQ
  iexists f; isplitr; · ipureintro; exact hf
  iexact H

theorem own_store {hx : (m.access r).Stores Finset.univ} {hm : (Finset.univ : Finset r.shape.Idx) = Finset.univ ∨ ∀ a, r.stride a = 1}
    (X v : r.shape.Idx → Elt F e) (Q : PUnit → sProp (Res F)) :
    ownsTc c (m.slice r hr) fullShare X
      ⊢ iprop((ownsTc c (m.slice r hr) fullShare v -∗ Q ⟨⟩) -∗ wpc c (Prog.lift (.store m r v Finset.univ hx hm)) Q) := by
  unfold ownsTc owns
  iintro ⟨%f, %hf, H⟩ HQ
  iapply (wp_store 𝒱₀ (Dev.tc c : Thread nD τ) none Set.univ (m := m) (r := r) (S := (m.slice r hr).view.set) (f := f) (Mk := Finset.univ) (Finset.Subset.refl _)) $$ [H]
  · iexact H
  iintro H
  rw [wp_ret]; imodintro
  iapply HQ
  iexists ((m.access r).write (Elt F) f v Finset.univ); isplitr
  · ipureintro; exact View.read_write_univ f v
  iexact H

/-- A slice read through fewer axes is owned like the slice, its contents renumbered. -/
theorem owns_squeeze {sh' : Shape} (h : r.shape.Squeezes sh') (X : sh'.Idx → Elt F e) :
    (ownsTc c ((m.slice r hr).squeeze sh' h) fullShare X : sProp (Res F))
      ⊣⊢ ownsTc c (m.slice r hr) fullShare (fun x => X ((Shape.reshapeEquiv h.numel_eq).symm x)) := by
  have hset : ((m.slice r hr).squeeze sh' h).view.set = (m.slice r hr).view.set := View.set_reshape _ h.numel_eq
  unfold ownsTc owns
  constructor
  · iintro ⟨%f, %hf, H⟩
    iexists f; isplitr
    · ipureintro; subst hf; funext x
      show (m.slice r hr).view.read (Elt F) f x = (m.slice r hr).view.read (Elt F) f ((Shape.reshapeEquiv h.numel_eq) ((Shape.reshapeEquiv h.numel_eq).symm x))
      rw [Equiv.apply_symm_apply]
    · rw [← hset]; iexact H
  · iintro ⟨%f, %hf, H⟩
    iexists f; isplitr
    · ipureintro; funext x
      show (m.slice r hr).view.read (Elt F) f ((Shape.reshapeEquiv h.numel_eq) x) = X x
      rw [hf]; exact congrArg X (Equiv.symm_apply_apply _ x)
    · rw [← hset]; iexact H

end Generic

variable (c : Dev nD) (b : Bool)

theorem wp_loadChunk (j : Fin 32) {off : Fin 2 → ℕ} (h) (e : off = chunkOff b j) (X : S64x2048.Idx → Elt F .f32)
    (Q : Vec F S64x2048 .f32 → sProp (Res F)) :
    ownsTc c (chunkOf b j) fullShare X ⊢ iprop((ownsTc c (chunkOf b j) fullShare X -∗ Q X) -∗ wpc c (loadChunk win off h) Q) := by
  subst e
  exact own_load c win.out (jRect b j) (fun _ => rfl) X Q

theorem wp_storeChunk (j : Fin 32) {off : Fin 2 → ℕ} (h) (e : off = chunkOff b j) (X : S64x2048.Idx → Elt F .f32)
    (v : FVec F S64x2048 .f32) (Q : PUnit → sProp (Res F)) :
    ownsTc c (chunkOf b j) fullShare X ⊢ iprop((ownsTc c (chunkOf b j) fullShare v -∗ Q ⟨⟩) -∗ wpc c (storeChunk win off h v) Q) := by
  subst e
  exact own_store c win.out (jRect b j) (fun _ => rfl) X v Q

theorem slot_owns (t : ℕ) (X : S64x2048.Idx → Elt F .f32) :
    (ownsTc c (slotOf b (par t)) fullShare X : sProp (Res F))
      ⊣⊢ ownsTc c ((win.comm b).slice (slotRect t) (fun _ => rfl)) fullShare (boxed X) := by
  rw [← slotRef_eq b t]
  exact owns_squeeze c (win.comm b) (slotRect t) (fun _ => rfl) squeezes_S1x64x2048_S64x2048 X

theorem wp_loadSlot (t : ℕ) (X : S64x2048.Idx → Elt F .f32) (Q : Vec F S1x64x2048 .f32 → sProp (Res F)) :
    ownsTc c (slotOf b (par t)) fullShare X
      ⊢ iprop((ownsTc c (slotOf b (par t)) fullShare X -∗ Q (boxed X)) -∗ wpc c (loadSlot win b t) Q) := by
  iintro H HQ
  ihave H := (slot_owns c b t X).1 $$ H
  iapply (own_load c (win.comm b) (slotRect t) (fun _ => rfl) (boxed X) Q) $$ H
  iintro H
  iapply HQ
  iapply (slot_owns c b t X).2; iexact H

end Cert.KernelIdeal.AllReduce

end
-- ==== Proof.AllReduce.Phases.lean ====
/-
  The operations of a hop, one at a time, for one direction.

  Each says what a device must hold to run one operation and what it holds afterwards. What the device owes besides is any
  tally `R`, of which only the level is asked.
-/
module

public import proofs.«01_k».proof.Proof.AllReduce.Access

@[expose] public section

noncomputable section

namespace Cert.KernelIdeal.AllReduce

open Idealize Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]
variable (A : Dev nD → Vec F S4096x2048 .f32) (s : Dev nD → Elt F .f32)

/-- What everyone knows: the invariants of all cells and all slots, and the levels. -/
def known (κ : GSem nD τ sig → ℕ) (ν : Key → ℕ) : sProp (Res F) :=
  iprop(heard (fun x : Cell × Dev nD => cellInv (ER F) (rd A s) (κ (x.1.on x.2)) (x.1.on x.2)) Finset.univ
    ∗ heard (fun k : Key => slotInv (ES F) (ν k) k (slotAny F k)) Finset.univ
    ∗ levels F)

instance (κ : GSem nD τ sig → ℕ) (ν : Key → ℕ) : BI.Persistent (known A s κ ν) := by unfold known; infer_instance

variable {A s} {κ : GSem nD τ sig → ℕ} {ν : Key → ℕ}

theorem known_cell (k : Cell) (c : Dev nD) : known A s κ ν ⊢ cellInv (ER F) (rd A s) (κ (k.on c)) (k.on c) := by
  unfold known
  iintro ⟨H, -⟩
  iapply (heard_elim (fun x : Cell × Dev nD => cellInv (ER F) (rd A s) (κ (x.1.on x.2)) (x.1.on x.2)) (e := (k, c)) (Finset.mem_univ _)) $$ H
theorem known_slot (k : Key) : known A s κ ν ⊢ slotInv (ES F) (ν k) k (slotAny F k) := by
  unfold known
  iintro ⟨-, H, -⟩
  iapply (heard_elim (fun k : Key => slotInv (ES F) (ν k) k (slotAny F k)) (e := k) (Finset.mem_univ _)) $$ H
theorem known_levels : known A s κ ν ⊢ levels F := by
  unfold known
  iintro ⟨-, -, H⟩; iexact H

/-- Device `c` owes `O`. -/
def debt (c : Dev nD) (O : CellTallies nD τ sig ℕ) : sProp (Res F) := iprop(∃ W, owes (Dev.tc c : Thread nD τ) O W)

/-- Chunk `u` places behind device `c`'s own, at `X`. -/
abbrev chunkAt (b : Bool) (c : Dev nD) (u : ℕ) (X : S64x2048.Idx → Elt F .f32) : sProp (Res F) :=
  ownsTc c (chunkOf b (ck b c u)) fullShare X
/-- The slot of hop `t`, at `X`. -/
abbrev slotAt (b : Bool) (c : Dev nD) (t : ℕ) (X : S64x2048.Idx → Elt F .f32) : sProp (Res F) :=
  ownsTc c (slotOf b (par t)) fullShare X

theorem slotAt_any (b : Bool) (c : Dev nD) (t : ℕ) (X : S64x2048.Idx → Elt F .f32) : slotAt b c t X ⊢ slotAny F (c, b, par t) := by
  unfold slotAny slot slotAt ownsTc owns
  iintro ⟨%f, -, H⟩
  iexists f; iexact H

theorem slot_nonempty (b : Bool) (p : Fin 2) : (slotOf b p).view.set.Nonempty :=
  ⟨(slotOf b p).view.emb (fun a => ⟨0, by fin_cases a <;> decide⟩), View.emb_mem_set _ _⟩
theorem slotAny_false (k : Key) : iprop(slotAny F k ∗ slotAny F k) ⊢ (False : sProp (Res F)) :=
  slot_slot_false (slot_nonempty k.2.1 k.2.2)

/-- What device `c` has heard from the receiver of direction `b` after taking `m` words. -/
def words (b : Bool) (c : Dev nD) (m : ℕ) : sProp (Res F) :=
  iprop(∃ T : Finset ℕ, ⌜m + (Finset.range 60 \ T).card ≤ 60⌝ ∗ atPos (ER F) ((Cell.cr b).on c) 0 T m ∗ heard (fun n => ack F b (nbr b c) (n + 1)) T)

theorem words_last (b : Bool) (c : Dev nD) : words (F := F) b c 60 ⊢ iprop(∃ T : Finset ℕ, ⌜Finset.range 60 ⊆ T⌝ ∗ atPos (ER F) ((Cell.cr b).on c) 0 T 60) := by
  unfold words
  iintro ⟨%T, %hT, H, -⟩
  iexists T
  isplitr
  · ipureintro
    exact Finset.sdiff_eq_empty_iff_subset.mp (Finset.card_eq_zero.mp (by omega))
  · iexact H

theorem words_heard (b : Bool) (c : Dev nD) {m : ℕ} {T : Finset ℕ} (hT : m + 1 + (Finset.range 60 \ T).card ≤ 60) :
    heard (fun n => ack F b (nbr b c) (n + 1)) T ⊢ ack F b (nbr b c) (m + 1) := by
  have h : ∃ n ∈ T, m ≤ n := by
    by_contra hn
    push Not at hn
    have h1 : Finset.range 60 \ Finset.range m ⊆ Finset.range 60 \ T :=
      Finset.sdiff_subset_sdiff (Finset.Subset.refl _) fun n hn' => Finset.mem_range.mpr (hn n hn')
    have h2 := Finset.card_le_card h1
    have h3 := Finset.le_card_sdiff (Finset.range m) (Finset.range 60)
    rw [Finset.card_range, Finset.card_range] at h3
    omega
  obtain ⟨n, hn, hm⟩ := h
  exact (heard_elim _ hn).trans (ack_mono F b (nbr b c) (Nat.succ_le_succ hm))

variable (c : Dev nD) (b : Bool)

/-- Take the receiver's next word. -/
theorem does_waitCredit (m : ℕ) (hm : m < 60) {O : CellTallies nD τ sig ℕ} (hO : Above (3 * m + 3) O) :
    Does (known A s κ ν) c iprop(debt c O ∗ cred (tallyAt ((Cell.cr b).on c) m 1) ∗ words b c m) (waitCredit win b)
      iprop(debt c O ∗ words b c (m + 1) ∗ ack F b (nbr b c) (m + 1)) := fun Q => by
  unfold waitCredit semWaitWord debt words
  iintro ⟨#HI, ⟨%W, HO⟩, Hc, %T, %hT, Hat, #Hh⟩ HQ
  have hsm : (.reg (win.credit b).sem : SemLoc sig) = (Cell.cr b).sem := credit_eq b
  have hl := known_levels (A := A) (s := s) (κ := κ) (ν := ν)
  ihave HL := hl $$ HI
  iapply (Rounds.wp_wait 𝒱₀ (ER F) (rd A s) (Dev.tc c : Thread nD τ) none (sm := (Cell.cr b).sem) (k' := 1) (κ := κ ((Cell.cr b).on c)) (R := 0) (m := m) (T := T)
      (cr := Finsupp.single m 1) (O := O) (W := W)
      (fun K => by rw [← hsm]; exact wpE_semWait_eq (k := 1) 𝒱₀ (Dev.tc c : Thread nD τ) none Set.univ K) (Set.mem_univ _)
      {((Cell.cr b).sem, m)} (by rw [Util.total_single]) (image_single_subset _ m 1)) $$ [HO Hc Hat]
  · isplitr; · iapply (known_cell (.cr b) c); iexact HI
    isplitl [Hc]; · iexact Hc
    isplitl [HO]; · iexact HO
    isplitr
    · iapply (hO.mayWait (k := .cr b) (c := c) (ι := m) (by omega) (show 3 * m + 3 ≤ 3 * m + 3 from le_rfl)); iexact HL
    · iexact Hat
  iintro %S ⟨%hS, HO, Hat, Hpay⟩
  rw [duties_on, expect_on] at hS
  have hS3 : m + 1 + (Finset.range 60 \ S).card ≤ 60 := hS.2.2
  have hpay : bigSep (S \ T) (fun d => (rd A s).payload ((Cell.cr b).on c) 0 d) ⊢ heard (fun n => ack F b (nbr b c) (n + 1)) (S \ T) :=
    Entails.of_eq (bigSep_congr fun d _ => payload_on A s (.cr b) c 0 d)
  ihave #Hn := hpay $$ Hpay
  have hjoin : iprop(heard (fun n => ack F b (nbr b c) (n + 1)) T ∗ heard (fun n => ack F b (nbr b c) (n + 1)) (S \ T)) ⊢ heard (fun n => ack F b (nbr b c) (n + 1)) S := by
    have := heard_union (fun n => ack F b (nbr b c) (n + 1)) T (S \ T)
    rwa [Finset.union_sdiff_of_subset hS.1] at this
  ihave #Hall := hjoin $$ [Hh Hn]
  · isplitr <;> iassumption
  rw [wp_ret]; imodintro
  iapply HQ
  isplitl [HO]; · iexists _; iexact HO
  isplitl [Hat]
  · iexists S
    isplitr; · ipureintro; exact hS3
    isplitl [Hat]; · iexact Hat
    iexact Hall
  · iapply (words_heard b c hS3); iexact Hall

/-- A copy between two buffers of a chunk's shape, under the agreement: it brings the source back at one cell and the
    destination, at the source's contents, at the other. -/
theorem wp_copy (c' : Dev nD) (src dst : Memref sig .tc .vmem S64x2048 .f32) (sS sR : DmaSem sig) {hx : src.view.WordExact} {hy : dst.view.WordExact}
    {hz : DmaTarget.Typed .vmem (.dma sR : SemLoc sig) (.remote (Dev.tc c' : Thread nD τ) dst (.dma sS) rfl)} (kS kR : Cell)
    (hS : (.dma sS : SemLoc sig) = kS.sem) (hR : (.dma sR : SemLoc sig) = kR.sem) {rS rR : ℕ} (dS : 0 ∈ duts kS rS) (dR : 0 ∈ duts kR rR)
    (aS : amt kS = N) (aR : amt kR = N) (hN : dst.view.dmaCredit = N) (ι : ℕ) {O : CellTallies nD τ sig ℕ} {X : S64x2048.Idx → Elt F .f32}
    (pS : ownsTc c src fullShare X ⊢ pay A s kS c rS 0) (pR : ownsTc c' dst fullShare X ⊢ pay A s kR c' rR 0) (Q : sProp (Res F)) :
    iprop(known A s κ ν ∗ debt c (O + tallyAt (kR.on c') ι N) ∗ ownsTc c src fullShare X ∗ slot (dst.view.loc (Dev.tc c' : Thread nD τ)) dst.view.set
        ∗ dutyTok (ER F) (kS.on c) rS 0 ∗ reached (ER F) (kS.on c) rS ∗ dutyTok (ER F) (kR.on c') rR 0 ∗ reached (ER F) (kR.on c') rR)
      ⊢ iprop((iprop(debt c O ∗ cred (tallyAt (kS.on c) 0 N)) -∗ Q)
          -∗ wpc c (Prog.lift (.enqueueDma src (.remote (Dev.tc c') dst (.dma sS)) (.dma sR) hx hy hz)) (fun _ => Q)) := by
  unfold debt slot
  rw [show ownsTc c src fullShare X = (iprop(∃ f, ⌜src.view.read (Elt F) f = X⌝ ∗ (src.view.loc (Dev.tc c : Thread nD τ)) ↦[src.view.set]{fullShare} f) : sProp (Res F)) from rfl]
  iintro ⟨#HI, ⟨%W, HO⟩, ⟨%fs, %hfs, Hs⟩, ⟨%fd, Hd⟩, TS, #RS, TR, #RR⟩ HQ
  have eS : kS.on c = ((Dev.tc c : Thread nD τ), .dma sS) := by unfold Cell.on; rw [hS]
  have eR : kR.on c' = ((Dev.tc c' : Thread nD τ), .dma sR) := by unfold Cell.on; rw [hR]
  ihave #IS := (known_cell (A := A) (s := s) (κ := κ) (ν := ν) kS c) $$ HI
  ihave #IR := (known_cell (A := A) (s := s) (κ := κ) (ν := ν) kR c') $$ HI
  have dS' := dS; have dR' := dR
  rw [← duties_on A s kS c] at dS'; rw [← duties_on A s kR c'] at dR'
  have aS' := amount_on A s kS c rS 0; have aR' := amount_on A s kR c' rR 0
  have pS' := payload_on A s kS c rS 0; have pR' := payload_on A s kR c' rR 0
  rw [eS] at dS' aS' pS' ⊢; rw [eR] at dR' aR' pR' ⊢
  iapply (Rounds.wp_send_pointsTo 𝒱₀ (ER F) (rd A s) (Dev.tc c : Thread nD τ) none (c' := (Dev.tc c' : Thread nD τ)) (src := src) (dst := dst)
      (sS := .dma sS) (sem := .dma sR) (q := fullShare) (fs := fs) (fd := fd) (κ₁ := κ ((Dev.tc c : Thread nD τ), .dma sS)) (κ₂ := κ ((Dev.tc c' : Thread nD τ), .dma sR))
      (r₁ := rS) (r₂ := rR) (d₁ := 0) (d₂ := 0) dS' dR' ι 0 N hN (aS'.trans aS) (aR'.trans aR) O rfl (W := W)
      (by rw [pS']; refine BIBase.Entails.trans ?_ pS; unfold ownsTc owns; iintro H; iexists fs; isplitr; · ipureintro; exact hfs
          iexact H)
      (by rw [pR']; refine BIBase.Entails.trans ?_ pR; unfold ownsTc owns; iintro H; iexists _; isplitr
          · ipureintro; exact (View.read_write_univ fd _).trans hfs
          iexact H)) $$ [HO Hs Hd TS TR]
  · isplitr; · iexact IS
    isplitr; · iexact IR
    isplitl [Hs]; · iexact Hs
    isplitl [Hd]; · iexact Hd
    isplitl [HO]; · iexact HO
    isplitl [TS]; · iexact TS
    isplitr; · iexact RS
    isplitl [TR]; · iexact TR
    iexact RR
  iintro ⟨Hc, HO⟩
  rw [wp_ret]; imodintro
  iapply HQ
  isplitl [HO]; · iexists _; iexact HO
  iexact Hc

/-- A wait for the one copy of a round. -/
theorem wp_waitRound {sp : Space} {sh : Shape} {e : EltTy} (src : Memref sig .tc sp sh e) (dst : Memref sig .tc .vmem S64x2048 .f32) (sem : DmaSem sig)
    {hx : src.view.WordExact} {hy : dst.view.WordExact} (k : Cell) (hk : (.dma sem : SemLoc sig) = k.sem) (hN : dst.view.dmaCredit = N) (ak : amt k = N)
    {r : ℕ} (dk : duts k r = {0}) {ι ℓ : ℕ} (hι : ι < 62) (hℓ : lvOf (some k) ι ≤ ℓ) {O : CellTallies nD τ sig ℕ} (hO : Above ℓ O) (Q : sProp (Res F)) :
    iprop(known A s κ ν ∗ debt c O ∗ cred (tallyAt (k.on c) ι N) ∗ atPos (ER F) (k.on c) r ∅ 0)
      ⊢ iprop((iprop(debt c O ∗ atPos (ER F) (k.on c) (r + 1) ∅ 0 ∗ reached (ER F) (k.on c) (r + 1) ∗ pay A s k c r 0) -∗ Q)
          -∗ wpc c (Prog.lift (.waitDma2 sem src dst hx hy)) (fun _ => Q)) := by
  unfold debt
  iintro ⟨#HI, ⟨%W, HO⟩, Hc, Hat⟩ HQ
  have hl := known_levels (A := A) (s := s) (κ := κ) (ν := ν)
  ihave HL := hl $$ HI
  iapply (Rounds.wp_wait_rest_token 𝒱₀ (ER F) (rd A s) (Dev.tc c : Thread nD τ) none (sm := k.sem) (k' := N) (κ := κ (k.on c)) (R := r) (m := 0) (T := ∅) (O := O) (W := W)
      (fun K => by rw [← hk, ← hN]; exact wpE_waitDma2_eq 𝒱₀ (Dev.tc c : Thread nD τ) none Set.univ K) (Set.mem_univ _) ι
      (by rw [expect_on, dk, ak]; simp)) $$ [HO Hc Hat]
  · isplitr; · iapply (known_cell k c); iexact HI
    isplitl [Hc]; · iexact Hc
    isplitl [HO]; · iexact HO
    isplitr
    · iapply (hO.mayWait (k := k) (c := c) hι hℓ); iexact HL
    · iexact Hat
  iintro ⟨HO, Hat, Hr, Hp⟩
  have hp : bigSep ((rd A s).duties ((Dev.tc c : Thread nD τ), k.sem) r \ ∅) (fun d => (rd A s).payload ((Dev.tc c : Thread nD τ), k.sem) r d) ⊢ pay A s k c r 0 := by
    rw [show (rd A s).duties ((Dev.tc c : Thread nD τ), k.sem) r = {0} from (duties_on A s k c r).trans dk, Finset.sdiff_empty, bigSep_singleton]
    exact Entails.of_eq (payload_on A s k c r 0)
  ihave Hp := hp $$ Hp
  rw [wp_ret]; imodintro
  iapply HQ
  isplitl [HO]; · iexists _; iexact HO
  isplitl [Hat]; · iexact Hat
  isplitl [Hr]; · iexact Hr
  iexact Hp

theorem duts_ss {p : Fin 2} {r : ℕ} (h : r < 31) : duts (.ss b p) r = {0} := if_pos h
theorem duts_rs {p : Fin 2} {r : ℕ} (h : r < 31) : duts (.rs b p) r = {0} := if_pos h

/-- Wait for the departure of hop `t`'s copy: the chunk is back. -/
theorem does_waitSend (t : Fin 62) {O : CellTallies nD τ sig ℕ} (hO : Above 0 O) :
    Does (known A s κ ν) c iprop(debt c O ∗ cred (tallyAt ((Cell.ss b (par t.val)).on c) 0 N) ∗ atPos (ER F) ((Cell.ss b (par t.val)).on c) (t.val / 2) ∅ 0)
      (waitSend win (place c) b t)
      iprop(debt c O ∗ (atPos (ER F) ((Cell.ss b (par t.val)).on c) (t.val / 2 + 1) ∅ 0 ∗ reached (ER F) ((Cell.ss b (par t.val)).on c) (t.val / 2 + 1))
        ∗ chunkAt b c t.val (val A s b t.val c)) := fun Q => by
  have ht := t.isLt
  iintro H HQ
  iapply (wp_waitRound (A := A) (s := s) (κ := κ) (ν := ν) c (slotRef win b t.val) (srcRef win (place c) b t) (sendSem win b t.val) (.ss b (par t.val)) (sendSem_eq b t.val) rfl rfl
      (duts_ss b (by omega)) (ι := 0) (ℓ := 0) (by omega) (show 0 ≤ 0 from le_rfl) hO Q) $$ H
  iintro ⟨HO, Hat, Hr, Hp⟩
  iapply HQ
  isplitl [HO]; · iexact HO
  isplitl [Hat Hr]; · isplitl [Hat] <;> iassumption
  have hp : pay A s (.ss b (par t.val)) c (t.val / 2) 0 ⊢ chunkAt b c t.val (val A s b t.val c) :=
    Entails.of_eq (by show (ownsTc c (chunkOf b (ck b c (hopOf (par t.val) (t.val / 2)))) fullShare (val A s b (hopOf (par t.val) (t.val / 2)) c) : sProp (Res F)) = _; rw [hopOf_half])
  iapply hp; iexact Hp

/-- Wait for the arrival of hop `t`'s copy: the slot holds what the neighbour sent. -/
theorem does_waitRecv (t : Fin 62) {O : CellTallies nD τ sig ℕ} (hO : Above (3 * t.val + 2) O) :
    Does (known A s κ ν) c iprop(debt c O ∗ cred (tallyAt ((Cell.rs b (par t.val)).on c) t.val N) ∗ atPos (ER F) ((Cell.rs b (par t.val)).on c) (t.val / 2) ∅ 0)
      (waitRecv win (place c) b t)
      iprop(debt c O ∗ (atPos (ER F) ((Cell.rs b (par t.val)).on c) (t.val / 2 + 1) ∅ 0 ∗ reached (ER F) ((Cell.rs b (par t.val)).on c) (t.val / 2 + 1))
        ∗ slotAt b c t.val (val A s b t.val (nbr (!b) c))) := fun Q => by
  have ht := t.isLt
  iintro H HQ
  iapply (wp_waitRound (A := A) (s := s) (κ := κ) (ν := ν) c (srcRef win (place c) b t) (slotRef win b t.val) (recvSem win b t.val) (.rs b (par t.val)) (recvSem_eq b t.val)
      (by rw [slotRef_eq]; exact credit_slot b _) rfl
      (duts_rs b (by omega)) (ι := t.val) (ℓ := 3 * t.val + 2) t.isLt (show 3 * t.val + 2 ≤ 3 * t.val + 2 from le_rfl) hO Q) $$ H
  iintro ⟨HO, Hat, Hr, Hp⟩
  iapply HQ
  isplitl [HO]; · iexact HO
  isplitl [Hat Hr]; · isplitl [Hat] <;> iassumption
  have hp : pay A s (.rs b (par t.val)) c (t.val / 2) 0 ⊢ slotAt b c t.val (val A s b t.val (nbr (!b) c)) :=
    Entails.of_eq (by show (ownsTc c (slotOf b (par t.val)) fullShare (val A s b (hopOf (par t.val) (t.val / 2)) (nbr (!b) c)) : sProp (Res F)) = _; rw [hopOf_half])
  iapply hp; iexact Hp

/-- Start hop `t`'s copy, into the slot that the receiver's word gives. -/
theorem does_send (t : Fin 62) {O : CellTallies nD τ sig ℕ} :
    Does (known A s κ ν) c
      iprop(debt c (O + tallyAt ((Cell.rs b (par t.val)).on (nbr b c)) t.val N) ∗ ack F b (nbr b c) (t.val - 1)
        ∗ (dutyTok (ER F) ((Cell.ss b (par t.val)).on c) (t.val / 2) 0 ∗ reached (ER F) ((Cell.ss b (par t.val)).on c) (t.val / 2))
        ∗ dutyTok (ER F) ((Cell.rs b (par t.val)).on (nbr b c)) (t.val / 2) 0
        ∗ writeTok (ES F) (nbr b c, b, par t.val) (t.val / 2 + 1) ∗ chunkAt b c t.val (val A s b t.val c))
      (send win (place c) b t)
      iprop(debt c O ∗ cred (tallyAt ((Cell.ss b (par t.val)).on c) 0 N)) := fun Q => by
  have ht := t.isLt
  iintro ⟨#HI, HO, #Ha, ⟨TS, RS⟩, TR, Hw, Hc⟩ HQ
  ihave #Hs := (known_slot (A := A) (s := s) (κ := κ) (ν := ν) (nbr b c, b, par t.val)) $$ HI
  ihave #Ha' := (ack_of F b (nbr b c) (t.val - 1) (par t.val)) $$ Ha
  rw [cnt_pred]
  icases Ha' with ⟨#Hrel, #Hrch⟩
  ihave Hsl := (slot_take (ES F) (k := (nbr b c, b, par t.val)) (S := slotAny F (nbr b c, b, par t.val)) (Es := Set.univ) (Set.mem_univ (ν (nbr b c, b, par t.val))) (t.val / 2 + 1)) $$ [Hw]
  · isplitr; · iexact Hs
    isplitr; · iexact Hrel
    iexact Hw
  unfold wpc; rw [← fupd_wp_eq]
  imod Hsl; imodintro
  have hsl : slotAny F (nbr b c, b, par t.val) ⊢ slot ((slotRef win b t.val).view.loc (Dev.tc (nbr b c) : Thread nD τ)) (slotRef win b t.val).view.set := by
    rw [slotRef_eq b t.val]
  ihave Hsl := hsl $$ Hsl
  iapply (wp_copy (A := A) (s := s) (κ := κ) (ν := ν) c (nbr b c) (srcRef win (place c) b t) (slotRef win b t.val) (sendSem win b t.val) (recvSem win b t.val)
      (.ss b (par t.val)) (.rs b (par t.val)) (sendSem_eq b t.val) (recvSem_eq b t.val) (rS := t.val / 2) (rR := t.val / 2)
      (by rw [duts_ss b (by omega)]; exact Finset.mem_singleton_self _) (by rw [duts_rs b (by omega)]; exact Finset.mem_singleton_self _) rfl rfl
      (by rw [slotRef_eq]; exact credit_slot b _) t.val (X := val A s b t.val c)
      (by rw [srcRef_eq]; exact Entails.of_eq (by
            show _ = (ownsTc c (chunkOf b (ck b c (hopOf (par t.val) (t.val / 2)))) fullShare (val A s b (hopOf (par t.val) (t.val / 2)) c) : sProp (Res F)); rw [hopOf_half]))
      (by rw [slotRef_eq]; exact Entails.of_eq (by
            show _ = (ownsTc (nbr b c) (slotOf b (par t.val)) fullShare (val A s b (hopOf (par t.val) (t.val / 2)) (nbr (!b) (nbr b c))) : sProp (Res F)); rw [hopOf_half, nbr_not_nbr])) Q) $$ [HO TS RS TR Hsl Hc]
  · isplitr; · iexact HI
    isplitl [HO]; · iexact HO
    isplitl [Hc]; · rw [srcRef_eq]; iexact Hc
    isplitl [Hsl]; · iexact Hsl
    isplitl [TS]; · iexact TS
    isplitl [RS]; · iexact RS
    isplitl [TR]; · iexact TR
    iexact Hrch
  iexact HQ

/-- Add the slot to the chunk. -/
theorem does_add (t : Fin 62) {X Y : S64x2048.Idx → Elt F .f32} (I : sProp (Res F)) :
    Does I c iprop(chunkAt b c (t.val + 1) X ∗ slotAt b c t.val Y) (add win (place c) b t)
      iprop(chunkAt b c (t.val + 1) (k0_pay2 (F := F) X (boxed Y)) ∗ slotAt b c t.val Y) := fun Q => by
  have e := recvOff_place_all b t c
  unfold add wpc
  rw [wp_bind]
  iintro ⟨-, HX, HY⟩ HQ
  iapply (wp_loadChunk c b (ck b c (t.val + 1)) _ e X _) $$ HX
  iintro HX
  rw [wp_bind]
  iapply (wp_loadSlot c b t.val Y _) $$ HY
  iintro HY
  rw [wp_bind]
  iapply (wp_loadChunk c b (ck b c (t.val + 1)) _ e X _) $$ HX
  iintro HX
  iapply (wp_storeChunk c b (ck b c (t.val + 1)) _ e X _ _) $$ HX
  iintro HX
  iapply HQ
  isplitl [HX] <;> iassumption

/-- Put the slot in place of the chunk. -/
theorem does_put (t : Fin 62) {X Y : S64x2048.Idx → Elt F .f32} (I : sProp (Res F)) :
    Does I c iprop(chunkAt b c (t.val + 1) X ∗ slotAt b c t.val Y) (put win (place c) b t)
      iprop(chunkAt b c (t.val + 1) (k0_pay74 (F := F) (boxed Y)) ∗ slotAt b c t.val Y) := fun Q => by
  have e := recvOff_place_all b t c
  unfold put wpc
  rw [wp_bind]
  iintro ⟨-, HX, HY⟩ HQ
  iapply (wp_loadSlot c b t.val Y _) $$ HY
  iintro HY
  rw [wp_bind]
  iapply (wp_loadChunk c b (ck b c (t.val + 1)) _ e X _) $$ HX
  iintro HX
  iapply (wp_storeChunk c b (ck b c (t.val + 1)) _ e X _ _) $$ HX
  iintro HX
  iapply HQ
  isplitl [HX] <;> iassumption

/-- Scale the finished chunk and apply the activation. -/
theorem does_finish (v : Elt F .f32) {X : S64x2048.Idx → Elt F .f32} (I : sProp (Res F)) :
    Does I c (chunkAt b c 31 X) (finish win (place c) b v) (chunkAt b c 31 (k0_pay70 v X)) := fun Q => by
  have e := doneOff_place_all b c
  unfold finish wpc
  rw [wp_bind]
  iintro ⟨-, HX⟩ HQ
  iapply (wp_loadChunk c b (ck b c 31) _ e X _) $$ HX
  iintro HX
  dsimp only; rw [wp_bind]
  iapply (wp_loadChunk c b (ck b c 31) _ e X _) $$ HX
  iintro HX
  iapply (wp_storeChunk c b (ck b c 31) _ e X _ _) $$ HX
  iintro HX
  iapply HQ
  iexact HX

/-- Give the slot back and tell its sender. -/
theorem does_giveCredit (t : ℕ) (ht : t < 60) {Y : S64x2048.Idx → Elt F .f32} {O : CellTallies nD τ sig ℕ} :
    Does (known A s κ ν) c
      iprop(debt c (O + tallyAt ((Cell.cr b).on (nbr (!b) c)) t 1) ∗ dutyTok (ER F) ((Cell.cr b).on (nbr (!b) c)) 0 t
        ∗ reached (ER F) ((Cell.cr b).on (nbr (!b) c)) 0 ∗ readerAt (ES F) (c, b, par t) (t / 2 + 1) ∗ slotAt b c t Y
        ∗ reached (ER F) ((Cell.rs b (par t)).on c) (t / 2 + 1) ∗ ack F b c t)
      (giveCredit win (place c) b)
      iprop(debt c O ∗ readerAt (ES F) (c, b, par t) (t / 2 + 2) ∗ ack F b c (t + 1)) := fun Q => by
  iintro ⟨#HI, HO, TD, #RC, Hrd, Hsl, #Hrch, #Ha⟩ HQ
  ihave #Hs := (known_slot (A := A) (s := s) (κ := κ) (ν := ν) (c, b, par t)) $$ HI
  ihave Hsl := (slotAt_any b c t Y) $$ Hsl
  ihave Hrel := (slot_release (ES F) (k := (c, b, par t)) (S := slotAny F (c, b, par t)) (Es := Set.univ) (Set.mem_univ (ν (c, b, par t))) (slotAny_false _) (t / 2 + 1)) $$ [Hrd Hsl]
  · isplitr; · iexact Hs
    isplitl [Hrd] <;> iassumption
  unfold wpc; rw [← fupd_wp_eq]
  imod Hrel with ⟨Hrd, #Hrel⟩
  imodintro
  have hack : iprop(ack F b c t ∗ released (ES F) (c, b, par t) (t / 2 + 1 + 1) ∗ reached (ER F) ((Cell.rs b (par t)).on c) (t / 2 + 1)) ⊢ ack F b c (t + 1) := by
    have hs (q : Fin 2) : iprop(ack F b c t ∗ released (ES F) (c, b, par t) (t / 2 + 1 + 1) ∗ reached (ER F) ((Cell.rs b (par t)).on c) (t / 2 + 1))
        ⊢ iprop(released (ES F) (c, b, q) (cnt q (t + 1) + 1) ∗ reached (ER F) ((Cell.rs b q).on c) (cnt q (t + 1))) := by
      by_cases hq : q = par t
      · subst hq; rw [cnt_succ]
        iintro ⟨-, H⟩; iexact H
      · rw [cnt_succ_other hq]
        iintro ⟨H, -⟩; iapply (ack_of F b c t q); iexact H
    rw [show ack F b c (t + 1) = iprop((released (ES F) (c, b, 0) (cnt 0 (t + 1) + 1) ∗ reached (ER F) ((Cell.rs b 0).on c) (cnt 0 (t + 1)))
      ∗ (released (ES F) (c, b, 1) (cnt 1 (t + 1) + 1) ∗ reached (ER F) ((Cell.rs b 1).on c) (cnt 1 (t + 1)))) from rfl]
    iintro #H
    isplitr
    · iapply (hs 0); iexact H
    · iapply (hs 1); iexact H
  ihave #Ha' := hack $$ []
  · isplitr; · iexact Ha
    isplitr <;> iassumption
  have hsm : (.reg (win.credit b).sem : SemLoc sig) = (Cell.cr b).sem := credit_eq b
  have eg : (Cell.cr b).on (nbr (!b) c) = ((Dev.tc (nbr (!b) c) : Thread nD τ), .reg (win.credit b).sem) := by unfold Cell.on; rw [hsm]
  ihave #IC := (known_cell (A := A) (s := s) (κ := κ) (ν := ν) (.cr b) (nbr (!b) c)) $$ HI
  have hd : t ∈ (rd A s).duties ((Cell.cr b).on (nbr (!b) c)) 0 := by rw [duties_on]; exact Finset.mem_range.mpr ht
  have hm := amount_on A s (.cr b) (nbr (!b) c) 0 t
  have hp : (rd A s).payload ((Cell.cr b).on (nbr (!b) c)) 0 t = ack F b c (t + 1) :=
    (payload_on A s (.cr b) (nbr (!b) c) 0 t).trans (by show ack F b (nbr b (nbr (!b) c)) (t + 1) = _; rw [nbr_nbr_not])
  rw [eg] at hd hm hp ⊢
  unfold debt
  icases HO with ⟨%W, HO⟩
  unfold giveCredit semSignalWord
  iapply (Rounds.wp_signal 𝒱₀ (ER F) (rd A s) (Dev.tc c : Thread nD τ) none (dst := (Dev.tc (nbr (!b) c) : Thread nD τ)) (sem := (win.credit b).sem) (r := 0) (d := t) (k' := 1)
      (κ := κ ((Dev.tc (nbr (!b) c) : Thread nD τ), .reg (win.credit b).sem)) hd hm t O rfl (W := W) (Es := Set.univ)) $$ [HO TD]
  · isplitr; · iexact IC
    isplitl [HO]; · iexact HO
    isplitl [TD]; · iexact TD
    isplitr; · rw [hp]; iexact Ha'
    iexact RC
  iintro HO
  rw [wp_ret]; imodintro
  iapply HQ
  isplitl [HO]; · iexists _; iexact HO
  isplitl [Hrd]; · iexact Hrd
  iexact Ha'

end Cert.KernelIdeal.AllReduce

end
-- ==== Proof.AllReduce.Both.lean ====
/-
  One thing done for the right and then for the left, and the rules for putting programs together.
-/
module

public import proofs.«01_k».proof.Proof.AllReduce.Phases

@[expose] public section

noncomputable section

namespace Cert.KernelIdeal.AllReduce

open Idealize Idealize.ShloMosaic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]
variable {I : sProp (Res F)} [BI.Persistent I] {c : Dev nD}

theorem Does.under {I' X Y : sProp (Res F)} {p : P F PUnit} (h : Does I c X p Y) (hI : I' ⊢ I) : Does I' c X p Y := fun Q => by
  iintro ⟨HI, HX⟩ HQ
  ihave HI := hI $$ HI
  iapply (h Q) $$ [HI HX]
  · isplitl [HI] <;> iassumption
  iexact HQ

/-- Both directions' states, and the debt of both. -/
def pair (c : Dev nD) (O : Bool → CellTallies nD τ sig ℕ) (S : Bool → sProp (Res F)) : sProp (Res F) :=
  iprop(debt c (O true + O false) ∗ S true ∗ S false)

theorem pair_mono {O : Bool → CellTallies nD τ sig ℕ} {S S' : Bool → sProp (Res F)} (h : ∀ b, iprop(I ∗ S b) ⊢ S' b) :
    iprop(I ∗ pair c O S) ⊢ pair c O S' := by
  unfold pair
  iintro ⟨#HI, HO, HT, HF⟩
  isplitl [HO]; · iexact HO
  isplitl [HT]
  · iapply (h true); isplitr; · iexact HI
    iexact HT
  · iapply (h false); isplitr; · iexact HI
    iexact HF

/-- A thing done for both directions: each direction meets the other's debt only by its level. -/
theorem Does.both {O O' : Bool → CellTallies nD τ sig ℕ} {ℓ : ℕ} (hO : ∀ b, Above ℓ (O b)) (hO' : ∀ b, Above ℓ (O' b))
    {f : Bool → P F PUnit} {S S' : Bool → sProp (Res F)} (X Y Fr : Bool → sProp (Res F))
    (h : ∀ b R, Above ℓ R → Does I c iprop(debt c (O b + R) ∗ X b) (f b) iprop(debt c (O' b + R) ∗ Y b))
    (hS : ∀ b, iprop(I ∗ S b) ⊢ iprop(X b ∗ Fr b)) (hS' : ∀ b, iprop(I ∗ Y b ∗ Fr b) ⊢ S' b) :
    Does I c (pair c O S) (both f) (pair c O' S') := fun Q => by
  unfold AllReduce.both wpc pair
  rw [wp_bind]
  iintro ⟨#HI, HO, HT, HF⟩ HQ
  ihave HT := (hS true) $$ [HT]
  · isplitr; · iexact HI
    iexact HT
  icases HT with ⟨HT, HTf⟩
  iapply (h true (O false) (hO false) _) $$ [HO HT]
  · isplitr; · iexact HI
    isplitl [HO] <;> iassumption
  iintro ⟨HO, HT⟩
  ihave HF := (hS false) $$ [HF]
  · isplitr; · iexact HI
    iexact HF
  icases HF with ⟨HF, HFf⟩
  rw [add_comm (O' true) (O false)]
  iapply (h false (O' true) (hO' true) _) $$ [HO HF]
  · isplitr; · iexact HI
    isplitl [HO] <;> iassumption
  iintro ⟨HO, HF⟩
  rw [add_comm (O' false) (O' true)]
  iapply HQ
  isplitl [HO]; · iexact HO
  isplitl [HT HTf]
  · iapply (hS' true)
    isplitr; · iexact HI
    isplitl [HT] <;> iassumption
  · iapply (hS' false)
    isplitr; · iexact HI
    isplitl [HF] <;> iassumption

end Cert.KernelIdeal.AllReduce

end
-- ==== Proof.AllReduce.State.lean ====
/-
  What a device holds before each hop, and that a hop leads from one such state to the next.

  Everything that is kept per parity (the receive slot, the cells that count arrivals and departures) is named by a hop
  number instead: before hop `t` the two parities are those of `t` and `t + 1`, and the hop turns what belonged to `t` into
  what belongs to `t + 2`. The chunks are counted on around the ring, so that the chunks not in flight are an interval.
-/
module

public import proofs.«01_k».proof.Proof.AllReduce.Both

@[expose] public section

noncomputable section

namespace Cert.KernelIdeal.AllReduce

open Idealize Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

section pieces
variable (F) (b : Bool) (c : Dev nD)

/-- The receive slot of hop `u`, before that hop: the reader's count and the arrivals counted; after the last two hops the
    slots stay with the device. -/
def reading (u : ℕ) : sProp (Res F) :=
  if u < 62 then iprop(readerAt (ES F) (c, b, par u) (u / 2 + 1) ∗ atPos (ER F) ((Cell.rs b (par u)).on c) (u / 2) ∅ 0)
  else iprop(slotAny F (c, b, par u) ∗ atPos (ER F) ((Cell.rs b (par u)).on c) (u / 2) ∅ 0)
/-- The count of departures that hop `u` uses is ready for it. -/
def ready (u : ℕ) : sProp (Res F) :=
  iprop(atPos (ER F) ((Cell.ss b (par u)).on c) (u / 2) ∅ 0 ∗ reached (ER F) ((Cell.ss b (par u)).on c) (u / 2))
/-- Before hop `u` sees the departure of the hop two before it. -/
def departing (u : ℕ) : sProp (Res F) :=
  if u < 2 then ready F b c u
  else iprop(cred (tallyAt ((Cell.ss b (par u)).on c) 0 N) ∗ atPos (ER F) ((Cell.ss b (par u)).on c) (u / 2 - 1) ∅ 0)
/-- What hop `u` will spend: the duties of its copy, the right to the neighbour's slot, the arrival it awaits. -/
def spend (u : ℕ) : sProp (Res F) :=
  iprop(dutyTok (ER F) ((Cell.rs b (par u)).on (nbr b c)) (u / 2) 0 ∗ dutyTok (ER F) ((Cell.ss b (par u)).on c) (u / 2) 0
    ∗ writeTok (ES F) (nbr b c, b, par u) (u / 2 + 1) ∗ cred (tallyAt ((Cell.rs b (par u)).on c) u N))
/-- The word that hop `u` will give. -/
def give (u : ℕ) : sProp (Res F) := dutyTok (ER F) ((Cell.cr b).on (nbr (!b) c)) 0 u
/-- The words taken so far, and those to come. -/
def taking (m : ℕ) : sProp (Res F) :=
  iprop(words b c m ∗ bigSep (Finset.Ico m 60) (fun n => cred (tallyAt ((Cell.cr b).on c) n 1)))

end pieces

variable (A : Dev nD → Vec F S4096x2048 .f32) (s : Dev nD → Elt F .f32) (c : Dev nD)

/-- The chunks from place `lo` to place `hi`, at rest. -/
def resting (b : Bool) (c : Dev nD) (lo hi : ℕ) : sProp (Res F) := bigSep (Finset.Ico lo hi) (fun u => chunkAt b c u (rest A s b c u))

/-- One direction's state before hop `t`. -/
def before_ (t : ℕ) (b : Bool) : sProp (Res F) :=
  iprop(taking F b c (t - 2) ∗ (departing F b c t ∗ departing F b c (t + 1)) ∗ (reading F b c t ∗ reading F b c (t + 1))
    ∗ bigSep (Finset.Ico t 62) (spend F b c) ∗ bigSep (Finset.Ico t 60) (give F b c) ∗ ack F b c (min t 60)
    ∗ chunkAt b c t (val A s b t c) ∗ resting A s b c (t + 1) (max (t + 30) 32))

/-- What a device has heard when it has met both neighbours. -/
def met (c : Dev nD) : sProp (Res F) := iprop(hello F true (nbr true c) ∗ hello F false (nbr false c))
instance : BI.Persistent (met (F := F) c) := by unfold met; infer_instance

theorem met_of (b : Bool) : met (F := F) c ⊢ hello F b (nbr b c) := by
  unfold met
  iintro ⟨H, H'⟩
  cases b
  · iexact H'
  · iexact H
theorem met_ack (b : Bool) : met (F := F) c ⊢ ack F b (nbr b c) 0 := by
  refine (met_of c b).trans ?_
  unfold hello; iintro ⟨H, -⟩; iexact H
theorem met_cr (b : Bool) : met (F := F) c ⊢ reached (ER F) ((Cell.cr b).on (nbr (!b) c)) 0 := by
  refine (met_of c (!b)).trans ?_
  unfold hello; iintro ⟨-, H⟩; rw [Bool.not_not]; iexact H

theorem par_two (t : ℕ) : par (t + 2) = par t := Fin.ext (Nat.add_mod_right t 2)
theorem chunk_two (b : Bool) (t : ℕ) (X : S64x2048.Idx → Elt F .f32) : chunkAt b c (t + 32) X = chunkAt b c t X := by
  have : ck b c (t + 32) = ck b c t := by rw [← ck_mod b c (t + 32), Nat.add_mod_right, ck_mod]
  unfold chunkAt; rw [this]

section ico
variable {f : ℕ → sProp (Res F)}
theorem ico_open {lo hi : ℕ} (h : lo < hi) : bigSep (Finset.Ico lo hi) f ⊢ iprop(f lo ∗ bigSep (Finset.Ico (lo + 1) hi) f) := by
  rw [Ring.Ico_eq_insert h]
  exact Entails.of_eq (bigSep_insert (by simp))
theorem ico_close {lo hi : ℕ} (h : lo ≤ hi) : iprop(f hi ∗ bigSep (Finset.Ico lo hi) f) ⊢ bigSep (Finset.Ico lo (hi + 1)) f := by
  have e : Finset.Ico lo (hi + 1) = insert hi (Finset.Ico lo hi) := by ext x; simp only [Finset.mem_Ico, Finset.mem_insert]; omega
  rw [e]
  exact Entails.of_eq (bigSep_insert (by simp)).symm
theorem ico_empty {lo hi : ℕ} (h : hi ≤ lo) {X : sProp (Res F)} : X ⊢ bigSep (Finset.Ico lo hi) f := by
  rw [Finset.Ico_eq_empty (by omega)]
  iintro -
  rw [bigSep_empty]; iempintro
end ico

/-- The debt of one direction. -/
def owe (r n : ℕ) (b : Bool) : CellTallies nD τ sig ℕ := oweR b c r + oweC b c n
theorem owe_above (b : Bool) {r n ℓ : ℕ} (h : ℓ < 3 * r + 2) (h' : ℓ < 3 * n + 3) : Above ℓ (owe c r n b) :=
  (oweR_above b c h).add (oweC_above b c h')

variable {A s} {κ : GSem nD τ sig → ℕ} {ν : Key → ℕ}

/-- What device `c` knows during the hops. -/
abbrev aware (A : Dev nD → Vec F S4096x2048 .f32) (s : Dev nD → Elt F .f32) (κ : GSem nD τ sig → ℕ) (ν : Key → ℕ) (c : Dev nD) : sProp (Res F) :=
  iprop(known A s κ ν ∗ met c)

variable {c}

theorem aware_known : aware A s κ ν c ⊢ known A s κ ν := by iintro ⟨H, -⟩; iexact H

/-- After `before`: the word and the departure are in. -/
def sending (A : Dev nD → Vec F S4096x2048 .f32) (s : Dev nD → Elt F .f32) (c : Dev nD) (t : ℕ) (b : Bool) : sProp (Res F) :=
  iprop(taking F b c (t - 1) ∗ ack F b (nbr b c) (t - 1) ∗ (ready F b c t ∗ departing F b c (t + 1)) ∗ (reading F b c t ∗ reading F b c (t + 1))
    ∗ bigSep (Finset.Ico t 62) (spend F b c) ∗ bigSep (Finset.Ico t 60) (give F b c) ∗ ack F b c (min t 60)
    ∗ chunkAt b c t (val A s b t c) ∗ resting A s b c (t + 1) (max (t + 31) 32))

/-- After the sends, what hop `t` has yet to change, beside what it leaves as it is. -/
def lasting (A : Dev nD → Vec F S4096x2048 .f32) (s : Dev nD → Elt F .f32) (c : Dev nD) (t : ℕ) (b : Bool) : sProp (Res F) :=
  iprop(taking F b c (t - 1) ∗ (departing F b c (t + 1) ∗ departing F b c (t + 2)) ∗ reading F b c (t + 1)
    ∗ bigSep (Finset.Ico (t + 1) 62) (spend F b c) ∗ resting A s b c (t + 2) (max (t + 31) 32))

variable (t : Fin 62)

/-- The word is in, the departure not yet. -/
def heardWord (A : Dev nD → Vec F S4096x2048 .f32) (s : Dev nD → Elt F .f32) (c : Dev nD) (t : ℕ) (b : Bool) : sProp (Res F) :=
  iprop(taking F b c (t - 1) ∗ ack F b (nbr b c) (t - 1) ∗ (departing F b c t ∗ departing F b c (t + 1)) ∗ (reading F b c t ∗ reading F b c (t + 1))
    ∗ bigSep (Finset.Ico t 62) (spend F b c) ∗ bigSep (Finset.Ico t 60) (give F b c) ∗ ack F b c (min t 60)
    ∗ chunkAt b c t (val A s b t c) ∗ resting A s b c (t + 1) (max (t + 30) 32))

theorem does_before : Does (aware A s κ ν c) c (pair c (owe c t.val t.val) (before_ A s c t.val)) (before win (place c) t)
    (pair c (owe c t.val t.val) (sending A s c t.val)) := by
  have ht := t.isLt
  unfold before
  by_cases h : 2 ≤ t.val
  · rw [if_pos h]
    obtain ⟨m, hm⟩ : ∃ m, t.val = m + 2 := ⟨t.val - 2, by omega⟩
    have e1 : t.val - 1 = m + 1 := by omega
    have e2 : t.val - 2 = m := by omega
    have e3 : max (t.val + 30) 32 = m + 32 := by omega
    have e4 : max (t.val + 31) 32 = m + 32 + 1 := by omega
    have hO (ℓ : ℕ) (hℓ : ℓ ≤ 3 * m + 3) (b : Bool) : Above ℓ (owe c t.val t.val b) := owe_above c b (by omega) (by omega)
    refine Does.seq (Y := pair c (owe c t.val t.val) (heardWord A s c t.val)) ?_ ?_
    · refine Does.both (hO (3 * m + 3) le_rfl) (hO (3 * m + 3) le_rfl)
        (fun b => iprop(cred (tallyAt ((Cell.cr b).on c) m 1) ∗ words b c m)) (fun b => iprop(words b c (m + 1) ∗ ack F b (nbr b c) (m + 1)))
        (fun b => iprop(bigSep (Finset.Ico (m + 1) 60) (fun n => cred (tallyAt ((Cell.cr b).on c) n 1))
            ∗ (departing F b c t.val ∗ departing F b c (t.val + 1)) ∗ (reading F b c t.val ∗ reading F b c (t.val + 1))
            ∗ bigSep (Finset.Ico t.val 62) (spend F b c) ∗ bigSep (Finset.Ico t.val 60) (give F b c) ∗ ack F b c (min t.val 60)
            ∗ chunkAt b c t.val (val A s b t.val c) ∗ resting A s b c (t.val + 1) (max (t.val + 30) 32)))
        (fun b R hR => (does_waitCredit (A := A) (s := s) (κ := κ) (ν := ν) c b m (by omega) ((hO _ le_rfl b).add hR)).under aware_known) ?_ ?_
      · intro b
        unfold before_ taking
        rw [e2]
        iintro ⟨-, ⟨Hw, Hc⟩, H⟩
        ihave Hc := (ico_open (f := fun n => cred (tallyAt ((Cell.cr b).on c) n 1)) (lo := m) (hi := 60) (by omega)) $$ Hc
        icases Hc with ⟨Hc, Hcs⟩
        isplitl [Hw Hc]
        · isplitl [Hc] <;> iassumption
        isplitl [Hcs] <;> iassumption
      · intro b
        unfold heardWord taking
        rw [e1]
        iintro ⟨-, ⟨Hw, Hk⟩, Hcs, H⟩
        isplitl [Hw Hcs]
        · isplitl [Hw] <;> iassumption
        isplitl [Hk] <;> iassumption
    · refine Does.both (hO 0 (by omega)) (hO 0 (by omega))
        (fun b => iprop(cred (tallyAt ((Cell.ss b (par m)).on c) 0 N) ∗ atPos (ER F) ((Cell.ss b (par m)).on c) (m / 2) ∅ 0))
        (fun b => iprop((atPos (ER F) ((Cell.ss b (par m)).on c) (m / 2 + 1) ∅ 0 ∗ reached (ER F) ((Cell.ss b (par m)).on c) (m / 2 + 1)) ∗ chunkAt b c m (val A s b m c)))
        (fun b => iprop(taking F b c (t.val - 1) ∗ ack F b (nbr b c) (t.val - 1)
            ∗ departing F b c (t.val + 1) ∗ (reading F b c t.val ∗ reading F b c (t.val + 1))
            ∗ bigSep (Finset.Ico t.val 62) (spend F b c) ∗ bigSep (Finset.Ico t.val 60) (give F b c) ∗ ack F b c (min t.val 60)
            ∗ chunkAt b c t.val (val A s b t.val c) ∗ resting A s b c (t.val + 1) (max (t.val + 30) 32)))
        (fun b R hR => ?_) ?_ ?_
      · have := (does_waitSend (A := A) (s := s) (κ := κ) (ν := ν) c b ⟨m, by omega⟩ ((hO 0 (by omega) b).add hR)).under (aware_known (c := c))
        simpa only [e2] using this
      · intro b
        unfold heardWord
        rw [show departing F b c t.val = iprop(cred (tallyAt ((Cell.ss b (par m)).on c) 0 N) ∗ atPos (ER F) ((Cell.ss b (par m)).on c) (m / 2) ∅ 0) by
          unfold departing; rw [if_neg (by omega), hm, par_two, show (m + 2) / 2 - 1 = m / 2 by omega]]
        iintro ⟨-, Hw, Hk, ⟨Hd, Hd'⟩, H⟩
        isplitl [Hd]; · iexact Hd
        isplitl [Hw]; · iexact Hw
        isplitl [Hk]; · iexact Hk
        isplitl [Hd'] <;> iassumption
      · intro b
        have hres : iprop(chunkAt b c m (val A s b m c) ∗ resting A s b c (t.val + 1) (max (t.val + 30) 32)) ⊢ resting A s b c (t.val + 1) (max (t.val + 31) 32) := by
          unfold resting
          rw [e3, e4]
          refine BIBase.Entails.trans ?_ (ico_close (by omega))
          have : chunkAt b c (m + 32) (rest A s b c (m + 32)) = chunkAt b c m (val A s b m c) := by
            rw [chunk_two]; unfold rest; rw [if_neg (by omega), Nat.add_sub_cancel]
          rw [this]
        have hrdy : iprop(atPos (ER F) ((Cell.ss b (par m)).on c) (m / 2 + 1) ∅ 0 ∗ reached (ER F) ((Cell.ss b (par m)).on c) (m / 2 + 1)) ⊢ ready F b c t.val := by
          unfold ready
          rw [hm, par_two, show (m + 2) / 2 = m / 2 + 1 by omega]
        unfold sending
        iintro ⟨-, ⟨Hr, Hch⟩, Hw, Hk, Hd', HR, Hsp, Hgv, Hak, HX, Hrs⟩
        isplitl [Hw]; · iexact Hw
        isplitl [Hk]; · iexact Hk
        isplitl [Hr Hd']
        · isplitl [Hr]
          · iapply hrdy; iexact Hr
          · iexact Hd'
        isplitl [HR]; · iexact HR
        isplitl [Hsp]; · iexact Hsp
        isplitl [Hgv]; · iexact Hgv
        isplitl [Hak]; · iexact Hak
        isplitl [HX]; · iexact HX
        iapply hres
        isplitl [Hch] <;> iassumption
  · rw [if_neg h]
    refine Does.skip (pair_mono fun b => ?_)
    have e1 : t.val - 1 = 0 := by omega
    have e2 : t.val - 2 = 0 := by omega
    unfold before_ sending
    rw [show departing F b c t.val = ready F b c t.val by unfold departing; rw [if_pos (by omega)], e1, e2, show max (t.val + 31) 32 = max (t.val + 30) 32 by omega]
    iintro ⟨⟨-, #Hm⟩, Hw, H⟩
    isplitl [Hw]; · iexact Hw
    isplitr; · iapply (met_ack c b); iexact Hm
    iexact H

/-- After the sends: the departure is under way, the arrival awaited. -/
def receiving (A : Dev nD → Vec F S4096x2048 .f32) (s : Dev nD → Elt F .f32) (c : Dev nD) (t : ℕ) (b : Bool) : sProp (Res F) :=
  iprop(cred (tallyAt ((Cell.rs b (par t)).on c) t N) ∗ reading F b c t ∗ (bigSep (Finset.Ico t 60) (give F b c) ∗ ack F b c (min t 60))
    ∗ chunkAt b c (t + 1) (rest A s b c (t + 1)) ∗ lasting A s c t b)

theorem does_sends : Does (aware A s κ ν c) c (pair c (owe c t.val t.val) (sending A s c t.val)) (both fun b => send win (place c) b t)
    (pair c (owe c (t.val + 1) t.val) (receiving A s c t.val)) := by
  have ht := t.isLt
  refine Does.both (ℓ := 0) (fun b => owe_above c b (by omega) (by omega)) (fun b => owe_above c b (by omega) (by omega))
    (fun b => iprop(ack F b (nbr b c) (t.val - 1)
        ∗ (dutyTok (ER F) ((Cell.ss b (par t.val)).on c) (t.val / 2) 0 ∗ reached (ER F) ((Cell.ss b (par t.val)).on c) (t.val / 2))
        ∗ dutyTok (ER F) ((Cell.rs b (par t.val)).on (nbr b c)) (t.val / 2) 0
        ∗ writeTok (ES F) (nbr b c, b, par t.val) (t.val / 2 + 1) ∗ chunkAt b c t.val (val A s b t.val c)))
    (fun b => cred (tallyAt ((Cell.ss b (par t.val)).on c) 0 N))
    (fun b => iprop(atPos (ER F) ((Cell.ss b (par t.val)).on c) (t.val / 2) ∅ 0 ∗ cred (tallyAt ((Cell.rs b (par t.val)).on c) t.val N)
        ∗ taking F b c (t.val - 1) ∗ departing F b c (t.val + 1) ∗ (reading F b c t.val ∗ reading F b c (t.val + 1))
        ∗ bigSep (Finset.Ico (t.val + 1) 62) (spend F b c) ∗ bigSep (Finset.Ico t.val 60) (give F b c) ∗ ack F b c (min t.val 60)
        ∗ resting A s b c (t.val + 1) (max (t.val + 31) 32)))
    (fun b R hR => ?_) ?_ ?_
  · have e : owe c t.val t.val b + R = (owe c (t.val + 1) t.val b + R) + tallyAt ((Cell.rs b (par t.val)).on (nbr b c)) t.val N := by
      unfold owe; rw [oweR_peel b c ht]; ac_rfl
    rw [e]
    exact (does_send (A := A) (s := s) (κ := κ) (ν := ν) c b t).under aware_known
  · intro b
    unfold sending ready
    iintro ⟨-, Hw, Hk, ⟨⟨Hat, Hr⟩, Hd'⟩, HR, Hsp, Hgv, Hak, HX, Hrs⟩
    have hsp : bigSep (Finset.Ico t.val 62) (spend F b c) ⊢ iprop((dutyTok (ER F) ((Cell.rs b (par t.val)).on (nbr b c)) (t.val / 2) 0 ∗ dutyTok (ER F) ((Cell.ss b (par t.val)).on c) (t.val / 2) 0
      ∗ writeTok (ES F) (nbr b c, b, par t.val) (t.val / 2 + 1) ∗ cred (tallyAt ((Cell.rs b (par t.val)).on c) t.val N)) ∗ bigSep (Finset.Ico (t.val + 1) 62) (spend F b c)) :=
      ico_open (f := spend F b c) ht
    ihave Hsp := hsp $$ Hsp
    icases Hsp with ⟨Hs, Hsp⟩
    icases Hs with ⟨T1, T2, T3, T4⟩
    isplitl [Hk T2 Hr T1 T3 HX]
    · isplitl [Hk]; · iexact Hk
      isplitl [T2 Hr]
      · isplitl [T2] <;> iassumption
      isplitl [T1]; · iexact T1
      isplitl [T3] <;> iassumption
    isplitl [Hat]; · iexact Hat
    isplitl [T4]; · iexact T4
    isplitl [Hw]; · iexact Hw
    isplitl [Hd']; · iexact Hd'
    isplitl [HR]; · iexact HR
    isplitl [Hsp]; · iexact Hsp
    isplitl [Hgv]; · iexact Hgv
    isplitl [Hak] <;> iassumption
  · intro b
    unfold receiving lasting
    rw [show departing F b c (t.val + 2) = iprop(cred (tallyAt ((Cell.ss b (par t.val)).on c) 0 N) ∗ atPos (ER F) ((Cell.ss b (par t.val)).on c) (t.val / 2) ∅ 0) by
      unfold departing; rw [if_neg (by omega), par_two, show (t.val + 2) / 2 - 1 = t.val / 2 by omega]]
    iintro ⟨-, Hc, Hat, T4, Hw, Hd', ⟨HR, HR'⟩, Hsp, Hgv, Hak, Hrs⟩
    have hrs : resting A s b c (t.val + 1) (max (t.val + 31) 32) ⊢ iprop(chunkAt b c (t.val + 1) (rest A s b c (t.val + 1)) ∗ resting A s b c (t.val + 2) (max (t.val + 31) 32)) :=
      ico_open (f := fun u => chunkAt b c u (rest A s b c u)) (lo := t.val + 1) (hi := max (t.val + 31) 32) (by omega)
    ihave Hrs := hrs $$ Hrs
    icases Hrs with ⟨HX, Hrs⟩
    isplitl [T4]; · iexact T4
    isplitl [HR]; · iexact HR
    isplitl [Hgv Hak]
    · isplitl [Hgv] <;> iassumption
    isplitl [HX]; · iexact HX
    isplitl [Hw]; · iexact Hw
    isplitl [Hd' Hc Hat]
    · isplitl [Hd']; · iexact Hd'
      isplitl [Hc] <;> iassumption
    isplitl [HR']; · iexact HR'
    isplitl [Hsp] <;> iassumption

/-- After the arrivals: the slot holds what the neighbour sent. -/
def received (A : Dev nD → Vec F S4096x2048 .f32) (s : Dev nD → Elt F .f32) (c : Dev nD) (t : ℕ) (X : Bool → FVec F S64x2048 .f32) (b : Bool) : sProp (Res F) :=
  iprop((chunkAt b c (t + 1) (X b) ∗ slotAt b c t (val A s b t (nbr (!b) c)))
    ∗ (atPos (ER F) ((Cell.rs b (par t)).on c) (t / 2 + 1) ∅ 0 ∗ reached (ER F) ((Cell.rs b (par t)).on c) (t / 2 + 1))
    ∗ readerAt (ES F) (c, b, par t) (t / 2 + 1) ∗ (bigSep (Finset.Ico t 60) (give F b c) ∗ ack F b c (min t 60)) ∗ lasting A s c t b)

theorem does_waitRecvs : Does (aware A s κ ν c) c (pair c (owe c (t.val + 1) t.val) (receiving A s c t.val)) (both fun b => waitRecv win (place c) b t)
    (pair c (owe c (t.val + 1) t.val) (received A s c t.val (fun b => rest A s b c (t.val + 1)))) := by
  have ht := t.isLt
  have hO (b : Bool) : Above (3 * t.val + 2) (owe c (t.val + 1) t.val b) := owe_above c b (by omega) (by omega)
  refine Does.both hO hO
    (fun b => iprop(cred (tallyAt ((Cell.rs b (par t.val)).on c) t.val N) ∗ atPos (ER F) ((Cell.rs b (par t.val)).on c) (t.val / 2) ∅ 0))
    (fun b => iprop((atPos (ER F) ((Cell.rs b (par t.val)).on c) (t.val / 2 + 1) ∅ 0 ∗ reached (ER F) ((Cell.rs b (par t.val)).on c) (t.val / 2 + 1))
        ∗ slotAt b c t.val (val A s b t.val (nbr (!b) c))))
    (fun b => iprop(readerAt (ES F) (c, b, par t.val) (t.val / 2 + 1) ∗ (bigSep (Finset.Ico t.val 60) (give F b c) ∗ ack F b c (min t.val 60))
      ∗ chunkAt b c (t.val + 1) (rest A s b c (t.val + 1)) ∗ lasting A s c t.val b))
    (fun b R hR => (does_waitRecv (A := A) (s := s) (κ := κ) (ν := ν) c b t ((hO b).add hR)).under aware_known) ?_ ?_
  · intro b
    unfold receiving reading
    rw [if_pos ht]
    iintro ⟨-, Hc, ⟨Hr, Hat⟩, H⟩
    isplitl [Hc Hat]
    · isplitl [Hc] <;> iassumption
    isplitl [Hr] <;> iassumption
  · intro b
    unfold received
    iintro ⟨-, ⟨Hat, Hs⟩, Hr, Hg, Hc, Hl⟩
    isplitl [Hc Hs]
    · isplitl [Hc] <;> iassumption
    isplitl [Hat]; · iexact Hat
    isplitl [Hr]; · iexact Hr
    isplitl [Hg] <;> iassumption

theorem does_combine : Does (aware A s κ ν c) c (pair c (owe c (t.val + 1) t.val) (received A s c t.val (fun b => rest A s b c (t.val + 1)))) (combine win (place c) t)
    (pair c (owe c (t.val + 1) t.val) (received A s c t.val (fun b => got A s b t.val c))) := by
  have ht := t.isLt
  have hO (b : Bool) : Above 0 (owe c (t.val + 1) t.val b) := owe_above c b (by omega) (by omega)
  have key (f : Bool → P F PUnit)
      (h : ∀ b, Does (aware A s κ ν c) c iprop(chunkAt b c (t.val + 1) (rest A s b c (t.val + 1)) ∗ slotAt b c t.val (val A s b t.val (nbr (!b) c))) (f b)
        iprop(chunkAt b c (t.val + 1) (got A s b t.val c) ∗ slotAt b c t.val (val A s b t.val (nbr (!b) c)))) :
      Does (aware A s κ ν c) c (pair c (owe c (t.val + 1) t.val) (received A s c t.val (fun b => rest A s b c (t.val + 1)))) (both f)
        (pair c (owe c (t.val + 1) t.val) (received A s c t.val (fun b => got A s b t.val c))) := by
    refine Does.both hO hO
      (fun b => iprop(chunkAt b c (t.val + 1) (rest A s b c (t.val + 1)) ∗ slotAt b c t.val (val A s b t.val (nbr (!b) c))))
      (fun b => iprop(chunkAt b c (t.val + 1) (got A s b t.val c) ∗ slotAt b c t.val (val A s b t.val (nbr (!b) c))))
      (fun b => iprop((atPos (ER F) ((Cell.rs b (par t.val)).on c) (t.val / 2 + 1) ∅ 0 ∗ reached (ER F) ((Cell.rs b (par t.val)).on c) (t.val / 2 + 1))
        ∗ readerAt (ES F) (c, b, par t.val) (t.val / 2 + 1) ∗ (bigSep (Finset.Ico t.val 60) (give F b c) ∗ ack F b c (min t.val 60)) ∗ lasting A s c t.val b))
      (fun b R hR => ?_) ?_ ?_
    · refine Does.conseq ((h b).frame_right (debt c (owe c (t.val + 1) t.val b + R))) ?_ ?_
      · iintro ⟨-, HO, H⟩
        isplitl [H] <;> iassumption
      · iintro ⟨-, H, HO⟩
        isplitl [HO] <;> iassumption
    · intro b
      unfold received
      iintro ⟨-, H⟩; iexact H
    · intro b
      unfold received
      iintro ⟨-, H⟩; iexact H
  unfold combine
  by_cases h : t.val < 31
  · rw [if_pos h]
    refine key _ fun b => ?_
    have e : got A s b t.val c = k0_pay2 (F := F) (rest A s b c (t.val + 1)) (boxed (val A s b t.val (nbr (!b) c))) := by
      unfold got rest; rw [if_pos h, if_pos (by omega)]
    rw [e]
    exact does_add c b t _
  · rw [if_neg h]
    refine key _ fun b => ?_
    have e : got A s b t.val c = k0_pay74 (F := F) (boxed (val A s b t.val (nbr (!b) c))) := by unfold got; rw [if_neg h]
    rw [e]
    exact does_put c b t _

/-- After the slots are given back, all is as before the next hop, but for the chunk just received. -/
def arrived (A : Dev nD → Vec F S4096x2048 .f32) (s : Dev nD → Elt F .f32) (c : Dev nD) (t : ℕ) (X : Bool → FVec F S64x2048 .f32) (b : Bool) : sProp (Res F) :=
  iprop(chunkAt b c (t + 1) (X b) ∗ reading F b c (t + 2) ∗ (bigSep (Finset.Ico (t + 1) 60) (give F b c) ∗ ack F b c (min (t + 1) 60)) ∗ lasting A s c t b)

theorem does_release : Does (aware A s κ ν c) c (pair c (owe c (t.val + 1) t.val) (received A s c t.val (fun b => got A s b t.val c))) (release win (place c) t)
    (pair c (owe c (t.val + 1) (t.val + 1)) (arrived A s c t.val (fun b => got A s b t.val c))) := by
  have ht := t.isLt
  unfold release
  by_cases h : t.val < 60
  · rw [if_pos h]
    refine Does.both (ℓ := 0) (fun b => owe_above c b (by omega) (by omega)) (fun b => owe_above c b (by omega) (by omega))
      (fun b => iprop(give F b c t.val ∗ reached (ER F) ((Cell.cr b).on (nbr (!b) c)) 0 ∗ readerAt (ES F) (c, b, par t.val) (t.val / 2 + 1)
        ∗ slotAt b c t.val (val A s b t.val (nbr (!b) c)) ∗ reached (ER F) ((Cell.rs b (par t.val)).on c) (t.val / 2 + 1) ∗ ack F b c t.val))
      (fun b => iprop(readerAt (ES F) (c, b, par t.val) (t.val / 2 + 2) ∗ ack F b c (t.val + 1)))
      (fun b => iprop(chunkAt b c (t.val + 1) (got A s b t.val c) ∗ atPos (ER F) ((Cell.rs b (par t.val)).on c) (t.val / 2 + 1) ∅ 0
        ∗ bigSep (Finset.Ico (t.val + 1) 60) (give F b c) ∗ lasting A s c t.val b))
      (fun b R hR => ?_) ?_ ?_
    · have e : owe c (t.val + 1) t.val b + R = (owe c (t.val + 1) (t.val + 1) b + R) + tallyAt ((Cell.cr b).on (nbr (!b) c)) t.val 1 := by
        unfold owe; rw [oweC_peel b c h]; ac_rfl
      rw [e]
      exact (does_giveCredit (A := A) (s := s) (κ := κ) (ν := ν) c b t.val h).under aware_known
    · intro b
      unfold received
      rw [show min t.val 60 = t.val by omega]
      iintro ⟨⟨-, #Hm⟩, ⟨Hc, Hs⟩, ⟨Hat, Hrc⟩, Hr, ⟨Hg, Hk⟩, Hl⟩
      ihave Hg := (ico_open (f := give F b c) h) $$ Hg
      icases Hg with ⟨Hg, Hgs⟩
      isplitl [Hs Hrc Hr Hg Hk]
      · isplitl [Hg]; · iexact Hg
        isplitr; · iapply (met_cr c b); iexact Hm
        isplitl [Hr]; · iexact Hr
        isplitl [Hs]; · iexact Hs
        isplitl [Hrc] <;> iassumption
      isplitl [Hc]; · iexact Hc
      isplitl [Hat]; · iexact Hat
      isplitl [Hgs] <;> iassumption
    · intro b
      unfold arrived reading
      rw [show min (t.val + 1) 60 = t.val + 1 by omega, if_pos (by omega), par_two, show (t.val + 2) / 2 = t.val / 2 + 1 by omega]
      iintro ⟨-, ⟨Hr, Hk⟩, Hc, Hat, Hgs, Hl⟩
      isplitl [Hc]; · iexact Hc
      isplitl [Hr Hat]
      · isplitl [Hr] <;> iassumption
      isplitl [Hgs Hk]
      · isplitl [Hgs] <;> iassumption
      iexact Hl
  · rw [if_neg h]
    have eo : owe c (t.val + 1) t.val = owe c (t.val + 1) (t.val + 1) := by
      funext b; unfold owe; rw [oweC_end b c (by omega), oweC_end b c (by omega)]
    rw [eo]
    refine Does.skip (pair_mono fun b => ?_)
    unfold received arrived reading
    rw [show min (t.val + 1) 60 = min t.val 60 by omega, if_neg (by omega), par_two, show (t.val + 2) / 2 = t.val / 2 + 1 by omega]
    iintro ⟨-, ⟨Hc, Hs⟩, ⟨Hat, -⟩, -, ⟨-, Hk⟩, Hl⟩
    isplitl [Hc]; · iexact Hc
    isplitl [Hs Hat]
    · isplitl [Hs]; · iapply (slotAt_any b c t.val _); iexact Hs
      iexact Hat
    isplitl [Hk]
    · isplitr
      · iapply (ico_empty (f := give F b c) (lo := t.val + 1) (hi := 60) (X := iprop(emp)) (by omega)); iempintro
      · iexact Hk
    iexact Hl

theorem arrived_before (b : Bool) : arrived A s c t.val (fun b => val A s b (t.val + 1) c) b ⊢ before_ A s c (t.val + 1) b := by
  unfold arrived before_ lasting
  rw [show t.val + 1 - 2 = t.val - 1 by omega]
  iintro ⟨Hc, HR2, ⟨Hg, Hk⟩, Hw, ⟨Hd1, Hd2⟩, HR1, Hsp, Hrs⟩
  isplitl [Hw]; · iexact Hw
  isplitl [Hd1 Hd2]
  · isplitl [Hd1] <;> iassumption
  isplitl [HR1 HR2]
  · isplitl [HR1] <;> iassumption
  isplitl [Hsp]; · iexact Hsp
  isplitl [Hg]; · iexact Hg
  isplitl [Hk]; · iexact Hk
  isplitl [Hc] <;> iassumption

end Cert.KernelIdeal.AllReduce

end
-- ==== Proof.AllReduce.Run.lean ====
/-
  All hops in a row, the last two departures, and the end of the protocol: every cell is closed with its counter at zero.
-/
module

public import proofs.«01_k».proof.Proof.AllReduce.State

@[expose] public section

noncomputable section

namespace Cert.KernelIdeal.AllReduce

open Idealize Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]
variable {A : Dev nD → Vec F S4096x2048 .f32} {s : Dev nD → Elt F .f32} {κ : GSem nD τ sig → ℕ} {ν : Key → ℕ} {c : Dev nD}

theorem Does.update {I X Y Y' : sProp (Res F)} [BI.Persistent I] {p : P F PUnit} (h : Does I c X p Y) (hY : iprop(I ∗ Y) ⊢ iprop(|={Set.univ}=> Y')) :
    Does I c X p Y' := fun Q => by
  have e : wpc c p (fun _ => iprop(|={Set.univ}=> Q)) ⊢ wpc c p (fun _ => Q) := wp_fupd _ _ _ _ _
  iintro ⟨#HI, HX⟩ HQ
  iapply e
  iapply (h _) $$ [HX]
  · isplitr; · iexact HI
    iexact HX
  iintro HY
  ihave HY := hY $$ [HY]
  · isplitr; · iexact HI
    iexact HY
  imod HY
  imodintro
  iapply HQ; iexact HY

theorem Does.frame_left {I X Y : sProp (Res F)} [BI.Persistent I] {p : P F PUnit} (hp : Does I c X p Y) (R : sProp (Res F)) :
    Does I c iprop(R ∗ X) p iprop(R ∗ Y) :=
  (hp.frame_right R).conseq (by iintro ⟨-, HR, HX⟩; isplitl [HX] <;> iassumption) (by iintro ⟨-, HX, HR⟩; isplitl [HR] <;> iassumption)

/-- The scale, where the body reads it. -/
def scaleAt (c : Dev nD) (v : Elt F .f32) : sProp (Res F) := ownsTc c win.scale fullShare (fun _ => v)

theorem wp_loadScale (v : Elt F .f32) (Q : Elt F .f32 → sProp (Res F)) {h1 h2} :
    scaleAt c v ⊢ iprop((scaleAt c v -∗ Q v)
      -∗ wpc c (smemLoad (Val := Elt F) win.scale (Rect.unit (s := S1x1) ![0, 0] S1x1.size inb_S1x1_S1x1_0_0) h1 h2) Q) := by
  unfold scaleAt ownsTc owns smemLoad
  iintro ⟨%f, %hf, H⟩ HQ
  iapply (wp_smemLoadElt 𝒱₀ (Dev.tc c : Thread nD τ) none Set.univ (m := win.scale) (S := win.scale.view.set) (f := f)
    (r := Rect.unit (s := S1x1) ![0, 0] S1x1.size inb_S1x1_S1x1_0_0) (View.set_slice_subset _ _)) $$ [H]
  · iexact H
  iintro H
  have e : (win.scale.access (Rect.unit (s := S1x1) ![0, 0] S1x1.size inb_S1x1_S1x1_0_0)).read (Elt F) f (Shape.Idx.first (h1.symm ▸ Nat.one_pos)) = v :=
    congrFun hf _
  rw [e, wp_ret]; imodintro
  iapply HQ
  iexists f; isplitr; · ipureintro; exact hf
  iexact H

variable (t : Fin 62)

theorem does_activate : Does (aware A s κ ν c) c iprop(scaleAt c (s c) ∗ pair c (owe c (t.val + 1) (t.val + 1)) (arrived A s c t.val (fun b => got A s b t.val c)))
    (activate win (place c) t) iprop(scaleAt c (s c) ∗ pair c (owe c (t.val + 1) (t.val + 1)) (before_ A s c (t.val + 1))) := by
  have ht := t.isLt
  have hO (b : Bool) : Above 0 (owe c (t.val + 1) (t.val + 1) b) := owe_above c b (by omega) (by omega)
  unfold activate
  by_cases h : t.val = 30
  · rw [if_pos h]
    intro Q
    unfold wpc; rw [wp_bind]
    iintro ⟨#HI, Hs, H⟩ HQ
    iapply (wp_loadScale (s c) _) $$ Hs
    iintro Hs
    have hf : Does (aware A s κ ν c) c (pair c (owe c (t.val + 1) (t.val + 1)) (arrived A s c t.val (fun b => got A s b t.val c))) (both fun b => finish win (place c) b (s c))
        (pair c (owe c (t.val + 1) (t.val + 1)) (before_ A s c (t.val + 1))) := by
      refine Does.both hO hO (fun b => chunkAt b c 31 (got A s b t.val c)) (fun b => chunkAt b c 31 (k0_pay70 (s c) (got A s b t.val c)))
        (fun b => iprop(reading F b c (t.val + 2) ∗ (bigSep (Finset.Ico (t.val + 1) 60) (give F b c) ∗ ack F b c (min (t.val + 1) 60)) ∗ lasting A s c t.val b))
        (fun b R hR => ?_) ?_ ?_
      · exact (does_finish c b (s c) (aware A s κ ν c)).frame_left (debt c (owe c (t.val + 1) (t.val + 1) b + R))
      · intro b
        unfold arrived
        rw [show t.val + 1 = 31 by omega]
        iintro ⟨-, H⟩; iexact H
      · intro b
        refine BIBase.Entails.trans ?_ (arrived_before t b)
        unfold arrived
        beta_reduce
        rw [val_succ, if_pos h, show t.val + 1 = 31 by omega]
        iintro ⟨-, H⟩; iexact H
    iapply (hf Q) $$ [H]
    · isplitr; · iexact HI
      iexact H
    iintro H
    iapply HQ
    isplitl [Hs] <;> iassumption
  · rw [if_neg h]
    refine Does.frame_left (Does.skip (pair_mono fun b => ?_)) _
    refine BIBase.Entails.trans ?_ (arrived_before t b)
    unfold arrived
    beta_reduce
    rw [val_succ, if_neg h]
    iintro ⟨-, H⟩; iexact H

/-- One hop. -/
theorem does_hop : Does (aware A s κ ν c) c iprop(scaleAt c (s c) ∗ pair c (owe c t.val t.val) (before_ A s c t.val)) (hop win (place c) t)
    iprop(scaleAt c (s c) ∗ pair c (owe c (t.val + 1) (t.val + 1)) (before_ A s c (t.val + 1))) := by
  unfold hop
  exact ((does_before t).frame_left _).seq (((does_sends t).frame_left _).seq (((does_waitRecvs t).frame_left _).seq
    (((does_combine t).frame_left _).seq (((does_release t).frame_left _).seq (does_activate t)))))

/-- After the last hop, the last two departures apart. -/
def nearly (A : Dev nD → Vec F S4096x2048 .f32) (s : Dev nD → Elt F .f32) (c : Dev nD) (b : Bool) : sProp (Res F) :=
  iprop(atPos (ER F) ((Cell.ss b 0).on c) 31 ∅ 0 ∗ departing F b c 63 ∗ (words b c 60 ∗ reading F b c 62 ∗ reading F b c 63 ∗ chunkAt b c 62 (val A s b 62 c))
    ∗ resting A s b c 63 93)
/-- After both departures. -/
def landed (A : Dev nD → Vec F S4096x2048 .f32) (s : Dev nD → Elt F .f32) (c : Dev nD) (b : Bool) : sProp (Res F) :=
  iprop(atPos (ER F) ((Cell.ss b 0).on c) 31 ∅ 0 ∗ atPos (ER F) ((Cell.ss b 1).on c) 31 ∅ 0
    ∗ (words b c 60 ∗ reading F b c 62 ∗ reading F b c 63 ∗ chunkAt b c 62 (val A s b 62 c)) ∗ resting A s b c 63 94)

theorem rest_back {m : ℕ} (h : 31 ≤ m) (b : Bool) : iprop(chunkAt b c m (val A s b m c) ∗ resting A s b c 63 (m + 32)) ⊢ resting A s b c 63 (m + 32 + 1) := by
  unfold resting
  refine BIBase.Entails.trans ?_ (ico_close (by omega))
  have : chunkAt b c (m + 32) (rest A s b c (m + 32)) = chunkAt b c m (val A s b m c) := by
    rw [chunk_two]; unfold rest; rw [if_neg (by omega), Nat.add_sub_cancel]
  rw [this]

theorem does_hops : ∀ (n t : ℕ) (h : t + n = 62), Does (aware A s κ ν c) c iprop(scaleAt c (s c) ∗ pair c (owe c t t) (before_ A s c t)) (hops win (place c) n t h)
    iprop(scaleAt c (s c) ∗ pair c (owe c 62 62) (landed A s c))
  | n + 1, t, h => (does_hop ⟨t, by omega⟩).seq (does_hops n (t + 1) (by omega))
  | 0, t, h => by
    obtain rfl : t = 62 := by omega
    have hO (b : Bool) : Above 0 (owe c 62 62 b) := owe_above c b (by omega) (by omega)
    unfold hops
    refine Does.seq (Y := iprop(scaleAt c (s c) ∗ pair c (owe c 62 62) (nearly A s c))) (Does.frame_left ?_ _) (Does.frame_left ?_ _)
    · refine Does.both hO hO
        (fun b => iprop(cred (tallyAt ((Cell.ss b 0).on c) 0 N) ∗ atPos (ER F) ((Cell.ss b 0).on c) 30 ∅ 0))
        (fun b => iprop((atPos (ER F) ((Cell.ss b 0).on c) 31 ∅ 0 ∗ reached (ER F) ((Cell.ss b 0).on c) 31) ∗ chunkAt b c 60 (val A s b 60 c)))
        (fun b => iprop(departing F b c 63 ∗ (words b c 60 ∗ reading F b c 62 ∗ reading F b c 63 ∗ chunkAt b c 62 (val A s b 62 c)) ∗ resting A s b c 63 92))
        (fun b R hR => (does_waitSend (A := A) (s := s) (κ := κ) (ν := ν) c b 60 ((hO b).add hR)).under aware_known) ?_ ?_
      · intro b
        unfold before_ taking
        rw [show departing F b c 62 = iprop(cred (tallyAt ((Cell.ss b 0).on c) 0 N) ∗ atPos (ER F) ((Cell.ss b 0).on c) 30 ∅ 0) from rfl]
        iintro ⟨-, ⟨Hw, -⟩, ⟨Hd, Hd'⟩, ⟨HR, HR'⟩, -, -, -, HX, Hrs⟩
        isplitl [Hd]; · iexact Hd
        isplitl [Hd']; · iexact Hd'
        isplitl [Hw HR HR' HX]
        · isplitl [Hw]; · iexact Hw
          isplitl [HR]; · iexact HR
          isplitl [HR'] <;> iassumption
        iexact Hrs
      · intro b
        unfold nearly
        iintro ⟨-, ⟨⟨Hat, -⟩, Hc⟩, Hd, Hw, Hrs⟩
        isplitl [Hat]; · iexact Hat
        isplitl [Hd]; · iexact Hd
        isplitl [Hw]; · iexact Hw
        iapply (rest_back (m := 60) (by omega) b)
        isplitl [Hc] <;> iassumption
    · refine Does.both hO hO
        (fun b => iprop(cred (tallyAt ((Cell.ss b 1).on c) 0 N) ∗ atPos (ER F) ((Cell.ss b 1).on c) 30 ∅ 0))
        (fun b => iprop((atPos (ER F) ((Cell.ss b 1).on c) 31 ∅ 0 ∗ reached (ER F) ((Cell.ss b 1).on c) 31) ∗ chunkAt b c 61 (val A s b 61 c)))
        (fun b => iprop(atPos (ER F) ((Cell.ss b 0).on c) 31 ∅ 0 ∗ (words b c 60 ∗ reading F b c 62 ∗ reading F b c 63 ∗ chunkAt b c 62 (val A s b 62 c)) ∗ resting A s b c 63 93))
        (fun b R hR => (does_waitSend (A := A) (s := s) (κ := κ) (ν := ν) c b 61 ((hO b).add hR)).under aware_known) ?_ ?_
      · intro b
        unfold nearly
        rw [show departing F b c 63 = iprop(cred (tallyAt ((Cell.ss b 1).on c) 0 N) ∗ atPos (ER F) ((Cell.ss b 1).on c) 30 ∅ 0) from rfl]
        iintro ⟨-, Hat, Hd, H⟩
        isplitl [Hd]; · iexact Hd
        isplitl [Hat] <;> iassumption
      · intro b
        unfold landed
        iintro ⟨-, ⟨⟨Hat, -⟩, Hc⟩, Hat', Hw, Hrs⟩
        isplitl [Hat']; · iexact Hat'
        isplitl [Hat]; · iexact Hat
        isplitl [Hw]; · iexact Hw
        iapply (rest_back (m := 61) (by omega) b)
        isplitl [Hc] <;> iassumption

/-- A cell with nothing more to come is closed. -/
theorem close_cell (k : Cell) {r : ℕ} (h : lastRound k ≤ r) : iprop(known A s κ ν ∗ atPos (ER F) (k.on c) r ∅ 0) ⊢ iprop(|={Set.univ}=> semVal (k.on c) 0) := by
  iintro ⟨#HI, Hat⟩
  ihave #Hk := (known_cell (A := A) (s := s) (κ := κ) (ν := ν) k c) $$ HI
  iapply (cell_close (ER F) (rd A s) (κ := κ (k.on c)) (Set.mem_univ _) id (fun r' h' => duties_done A s k c r' (h.trans h')))
  isplitr; · iexact Hk
  iexact Hat

/-- The chunks of one direction, numbered by place, are the chunks numbered by themselves. -/
theorem chunks_number (b : Bool) (lo : ℕ) (X : Fin 32 → S64x2048.Idx → Elt F .f32) :
    bigSep (Finset.Ico lo (lo + 32)) (fun u => chunkAt b c u (X (ck b c u))) = bigSep Finset.univ (fun j : Fin 32 => ownsTc c (chunkOf b j) fullShare (X j)) := by
  have hinj : Set.InjOn (ck b c) (Finset.Ico lo (lo + 32)) := by
    intro u hu u' hu' h
    rw [Finset.mem_coe, Finset.mem_Ico] at hu hu'
    rw [← ck_mod b c u, ← ck_mod b c u'] at h
    have := ck_inj b c (Nat.mod_lt _ (by decide)) (Nat.mod_lt _ (by decide)) h
    omega
  have himg : (Finset.Ico lo (lo + 32)).image (ck b c) = Finset.univ :=
    (Finset.card_eq_iff_eq_univ _).mp (by rw [Finset.card_image_of_injOn hinj]; simp)
  rw [← himg, bigSep_image_of_injOn hinj]

theorem landed_chunks (b : Bool) : iprop(chunkAt b c 62 (val A s b 62 c) ∗ resting A s b c 63 94) ⊢ bigSep Finset.univ (fun j : Fin 32 => ownsTc c (chunkOf b j) fullShare (finished A s b j)) := by
  rw [← chunks_number b 62 (finished A s b)]
  have e : bigSep (Finset.Ico 62 (62 + 32)) (fun u => chunkAt b c u (finished A s b (ck b c u)))
      = iprop(chunkAt b c 62 (finished A s b (ck b c 62)) ∗ bigSep (Finset.Ico 63 94) (fun u => chunkAt b c u (finished A s b (ck b c u)))) := by
    rw [Ring.Ico_eq_insert (show 62 < 62 + 32 by omega)]
    exact bigSep_insert (by simp)
  rw [e, ← val_late A s b 31 c]
  refine BIBase.Entails.trans (Entails.of_eq ?_) .rfl
  congr 1
  unfold resting
  refine bigSep_congr fun u hu => ?_
  have hu' := Finset.mem_Ico.mp hu
  have e2 : rest A s b c u = finished A s b (ck b c u) := by
    obtain ⟨k, rfl⟩ : ∃ k, u = 63 + k := ⟨u - 63, by omega⟩
    unfold rest
    rw [if_neg (by omega), show 63 + k - 32 = 31 + k by omega, val_late, ← ck_mod b c (63 + k), ← ck_mod b c (31 + k), show (63 + k) % 32 = (31 + k) % 32 by omega]
  rw [e2]

/-- The slots and the cells of one direction at the end. -/
def closed (b : Bool) (c : Dev nD) : sProp (Res F) :=
  iprop((slotAny F (c, b, 0) ∗ slotAny F (c, b, 1)) ∗ (semVal ((Cell.ss b 0).on c) 0 ∗ semVal ((Cell.ss b 1).on c) 0)
    ∗ (semVal ((Cell.rs b 0).on c) 0 ∗ semVal ((Cell.rs b 1).on c) 0) ∗ semVal ((Cell.cr b).on c) 0)

theorem landed_closed (b : Bool) : iprop(known A s κ ν ∗ landed A s c b)
    ⊢ iprop(|={Set.univ}=> (closed b c ∗ bigSep Finset.univ (fun j : Fin 32 => ownsTc c (chunkOf b j) fullShare (finished A s b j)))) := by
  unfold landed
  rw [show reading F b c 62 = iprop(slotAny F (c, b, 0) ∗ atPos (ER F) ((Cell.rs b 0).on c) 31 ∅ 0) from rfl,
    show reading F b c 63 = iprop(slotAny F (c, b, 1) ∗ atPos (ER F) ((Cell.rs b 1).on c) 31 ∅ 0) from rfl]
  iintro ⟨#HI, S0, S1, ⟨Hw, ⟨L0, R0⟩, ⟨L1, R1⟩, HX⟩, Hrs⟩
  ihave Hw := (words_last b c) $$ Hw
  icases Hw with ⟨%T, %hT, Hw⟩
  ihave #Hk := (known_cell (A := A) (s := s) (κ := κ) (ν := ν) (.cr b) c) $$ HI
  ihave Hw := (fupd_skip (ER F) (rd A s) (κ := κ ((Cell.cr b).on c)) (g := (Cell.cr b).on c) (R := 0) (m := 60) (T := T) (by rw [duties_on]; exact hT)
    (by rw [expect_on]; rfl) (Set.mem_univ _)) $$ [Hw]
  · isplitr; · iexact Hk
    iexact Hw
  imod Hw with ⟨Hw, -⟩
  ihave Hw := (close_cell (A := A) (s := s) (κ := κ) (ν := ν) (c := c) (.cr b) (r := 1) le_rfl) $$ [Hw]
  · isplitr; · iexact HI
    iexact Hw
  ihave S0 := (close_cell (A := A) (s := s) (κ := κ) (ν := ν) (c := c) (.ss b 0) (r := 31) le_rfl) $$ [S0]
  · isplitr; · iexact HI
    iexact S0
  ihave S1 := (close_cell (A := A) (s := s) (κ := κ) (ν := ν) (c := c) (.ss b 1) (r := 31) le_rfl) $$ [S1]
  · isplitr; · iexact HI
    iexact S1
  ihave R0 := (close_cell (A := A) (s := s) (κ := κ) (ν := ν) (c := c) (.rs b 0) (r := 31) le_rfl) $$ [R0]
  · isplitr; · iexact HI
    iexact R0
  ihave R1 := (close_cell (A := A) (s := s) (κ := κ) (ν := ν) (c := c) (.rs b 1) (r := 31) le_rfl) $$ [R1]
  · isplitr; · iexact HI
    iexact R1
  imod Hw; imod S0; imod S1; imod R0; imod R1; imodintro
  isplitr [HX Hrs]
  · unfold closed
    isplitl [L0 L1]
    · isplitl [L0] <;> iassumption
    isplitl [S0 S1]
    · isplitl [S0] <;> iassumption
    isplitl [R0 R1]
    · isplitl [R0] <;> iassumption
    iexact Hw
  · iapply (landed_chunks b)
    isplitl [HX] <;> iassumption

end Cert.KernelIdeal.AllReduce

end
-- ==== Proof.AllReduce.Opening.lean ====
/-
  Before the hops: the body reads its place in the ring and its scale, makes its own product, and meets both neighbours.
-/
module

public import proofs.«01_k».proof.Proof.AllReduce.Run
public import Idealize.ShloMosaic.Lib.Pipeline.Value

@[expose] public section

noncomputable section

namespace Cert.KernelIdeal.AllReduce

open Idealize Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]
variable {A : Dev nD → Vec F S4096x2048 .f32} {s : Dev nD → Elt F .f32} {κ : GSem nD τ sig → ℕ} {ν : Key → ℕ} {c : Dev nD}

/-! ### Reads and writes of whole buffers -/

section whole
variable {sh : Shape} {e : EltTy} (m : Memref sig .tc .vmem sh e) {off : Fin sh.rank → ℕ} (h0 : off = fun _ => 0)
  (inb : ∀ a, off a + sh.size a ≤ sh.size a)

include h0 in
theorem whole_load {hl : m.view.LoadsAt (Rect.unit (s := sh) off sh.size inb).toLoadRect} (X : sh.Idx → Elt F e) (Q : (sh.Idx → Elt F e) → sProp (Res F)) :
    ownsTc c m fullShare X ⊢ iprop((ownsTc c m fullShare X -∗ Q X) -∗ wpc c (Prog.lift (.load m (Rect.unit (s := sh) off sh.size inb).toLoadRect hl)) Q) := by
  unfold ownsTc owns
  iintro ⟨%f, %hf, H⟩ HQ
  iapply (wp_load_rect 𝒱₀ (Dev.tc c : Thread nD τ) none Set.univ (m := m) (r := Rect.unit (s := sh) off sh.size inb) (S := m.view.set) (f := f)
    (View.set_slice_subset _ _)) $$ [H]
  · iexact H
  iintro H
  rw [wp_ret]; imodintro
  have hr : (m.access (Rect.unit (s := sh) off sh.size inb)).read (Elt F) f = X := by
    rw [← hf]
    exact View.ld_unit_zero h0 inb (m.view.read (Elt F) f)
  rw [hr]
  iapply HQ
  iexists f; isplitr; · ipureintro; exact hf
  iexact H

include h0 in
theorem whole_store {hx : (m.access (Rect.unit (s := sh) off sh.size inb)).Stores Finset.univ}
    {hm : (Finset.univ : Finset (Rect.unit (s := sh) off sh.size inb).shape.Idx) = Finset.univ ∨ ∀ a, (Rect.unit (s := sh) off sh.size inb).stride a = 1}
    (X v : sh.Idx → Elt F e) (Q : PUnit → sProp (Res F)) :
    ownsTc c m fullShare X ⊢ iprop((ownsTc c m fullShare v -∗ Q ⟨⟩)
      -∗ wpc c (Prog.lift (.store m (Rect.unit (s := sh) off sh.size inb) v Finset.univ hx hm)) Q) := by
  unfold ownsTc owns
  iintro ⟨%f, %hf, H⟩ HQ
  iapply (wp_store 𝒱₀ (Dev.tc c : Thread nD τ) none Set.univ (m := m) (r := Rect.unit (s := sh) off sh.size inb) (S := m.view.set) (f := f) (Mk := Finset.univ)
    (View.set_slice_subset _ _)) $$ [H]
  · iexact H
  iintro H
  rw [wp_ret]; imodintro
  iapply HQ
  iexists ((m.access (Rect.unit (s := sh) off sh.size inb)).write (Elt F) f v Finset.univ); isplitr
  · ipureintro
    have := View.ld_unit_zero h0 inb (m.view.read (Elt F) ((m.access (Rect.unit (s := sh) off sh.size inb)).write (Elt F) f v Finset.univ))
    rw [← this]
    exact View.read_write_univ (v := m.access (Rect.unit (s := sh) off sh.size inb)) f v
  iexact H

end whole

theorem off_zero : (![0, 0] : Fin 2 → ℕ) = fun _ => 0 := by funext a; fin_cases a <;> rfl

/-! ### The place in the ring -/

/-- The three words of device `c`: its position, the device after it, the device before it. -/
def ringWords (c : Dev nD) : S1x3.Idx → BitVec 32 := fun i => ![lit0 c, lit1 c, lit2 c] (i 1)
/-- The words, where the body reads them. -/
def ringAt (c : Dev nD) : sProp (Res F) := ownsTc c win.ring fullShare (ringWords c)

theorem wp_loadRing (k : Fin 3) (x : BitVec 32) (hx : ![lit0 c, lit1 c, lit2 c] k = x) {off : Fin 2 → ℕ} (ho : off = ![0, k.val]) {inb : ∀ a, off a + S1x1.size a ≤ S1x3.size a} (Q : BitVec 32 → sProp (Res F)) {h1 h2} :
    ringAt (F := F) c ⊢ iprop((ringAt c -∗ Q x)
      -∗ wpc c (smemLoad (Val := Elt F) win.ring (Rect.unit (s := S1x3) off S1x1.size inb) h1 h2) Q) := by
  subst ho hx
  unfold ringAt ownsTc owns smemLoad
  iintro ⟨%f, %hf, H⟩ HQ
  iapply (wp_smemLoadElt 𝒱₀ (Dev.tc c : Thread nD τ) none Set.univ (m := win.ring) (S := win.ring.view.set) (f := f)
    (r := Rect.unit (s := S1x3) ![0, k.val] S1x1.size inb) (View.set_slice_subset _ _)) $$ [H]
  · iexact H
  iintro H
  have e : (win.ring.access (Rect.unit (s := S1x3) ![0, k.val] S1x1.size inb)).read (Elt F) f (Shape.Idx.first (h1.symm ▸ Nat.one_pos)) = ![lit0 c, lit1 c, lit2 c] k := by
    refine (congrFun hf _).trans ?_
    unfold ringWords
    congr 1
  rw [e, wp_ret]; imodintro
  iapply HQ
  iexists f; isplitr; · ipureintro; exact hf
  iexact H

theorem wp_readPlace (Q : Place → sProp (Res F)) :
    ringAt (F := F) c ⊢ iprop((ringAt c -∗ Q (place c)) -∗ wpc c (readPlace win) Q) := by
  unfold readPlace wpc
  iintro H HQ
  rw [wp_bind]
  iapply (wp_loadRing 0 (lit0 c) rfl rfl _) $$ H
  iintro H
  rw [wp_bind]
  iapply (wp_assume 𝒱₀ (Dev.tc c : Thread nD τ) none Set.univ (chk3_lit c))
  rw [wp_ret]; imodintro
  rw [wp_bind]
  iapply (wp_loadRing 1 (lit1 c) rfl rfl _) $$ H
  iintro H
  rw [wp_bind]
  iapply (wp_assume 𝒱₀ (Dev.tc c : Thread nD τ) none Set.univ (chk2_lit c))
  rw [wp_ret]; imodintro
  rw [wp_bind]
  iapply (wp_loadRing 2 (lit2 c) rfl rfl _) $$ H
  iintro H
  rw [wp_bind]
  iapply (wp_assume 𝒱₀ (Dev.tc c : Thread nD τ) none Set.univ (chk1_lit c))
  rw [wp_ret]; imodintro
  have e : wp frame (wpE (Cert.KernelIdeal.defs₀ (F := F)) 𝒱₀ (Dev.tc c : Thread nD τ) none) Set.univ (pure (place c) : P F Place) Q = iprop(|={Set.univ}=> Q (place c)) := wp_ret ..
  refine BIBase.Entails.trans ?_ (Entails.of_eq e.symm)
  iintro ⟨HQ, H⟩
  imodintro
  iapply HQ; iexact H

end Cert.KernelIdeal.AllReduce

end
-- ==== Proof.AllReduce.Meet.lean ====
/-
  The local product and the meeting of the neighbours: a device opens its cells, frees its slots, says so to both
  neighbours, and hears the same of them.
-/
module

public import proofs.«01_k».proof.Proof.AllReduce.Opening

@[expose] public section

noncomputable section

namespace Cert.KernelIdeal.AllReduce

open Idealize Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]
variable {A : Dev nD → Vec F S4096x2048 .f32} {s : Dev nD → Elt F .f32} {κ : GSem nD τ sig → ℕ} {ν : Key → ℕ} {c : Dev nD}

/-- The two factors, where the body reads them. -/
def factorsAt (c : Dev nD) (x : Vec F S4096x128 .fp8e5m2) (w : Vec F S128x2048 .fp8e5m2) : sProp (Res F) :=
  iprop(ownsTc c win.x fullShare x ∗ ownsTc c win.w fullShare w)

theorem does_product (I : sProp (Res F)) (x : Vec F S4096x128 .fp8e5m2) (w : Vec F S128x2048 .fp8e5m2) (Y : Vec F S4096x2048 .f32) :
    Does I c iprop(factorsAt c x w ∗ ownsTc c win.out fullShare Y) (product win) iprop(factorsAt c x w ∗ ownsTc c win.out fullShare (k0_pay1 (F := F) x w)) := fun Q => by
  unfold product factorsAt wpc
  iintro ⟨-, ⟨Hx, Hw⟩, Ho⟩ HQ
  rw [wp_bind]
  iapply (whole_load win.x off_zero _ x _) $$ Hx
  iintro Hx
  rw [wp_bind]
  iapply (whole_load win.w off_zero _ w _) $$ Hw
  iintro Hw
  rw [wp_bind]
  iapply (whole_load win.out off_zero _ Y _) $$ Ho
  iintro Ho
  iapply (whole_store win.out off_zero _ Y _ _) $$ Ho
  iintro Ho
  iapply HQ
  isplitr [Ho]
  · isplitl [Hx] <;> iassumption
  iexact Ho

/-- One direction's share of a device before its cells are open. -/
def fresh (b : Bool) (c : Dev nD) : sProp (Res F) :=
  iprop((openTok (ER F) ((Cell.ss b 0).on c) ∗ openTok (ER F) ((Cell.ss b 1).on c)) ∗ (openTok (ER F) ((Cell.rs b 0).on c) ∗ openTok (ER F) ((Cell.rs b 1).on c))
    ∗ openTok (ER F) ((Cell.cr b).on c) ∗ (readerAt (ES F) (c, b, 0) 0 ∗ readerAt (ES F) (c, b, 1) 0)
    ∗ bigSep (Finset.Ico 0 62) (spend F b c) ∗ bigSep (Finset.Ico 0 60) (give F b c)
    ∗ bigSep (Finset.Ico 0 60) (fun n => cred (tallyAt ((Cell.cr b).on c) n 1)))

theorem open_one (k : Cell) : iprop(known A s κ ν ∗ openTok (ER F) (k.on c) ∗ semVal (k.on c) 0)
    ⊢ iprop(|={Set.univ}=> (atPos (ER F) (k.on c) 0 ∅ 0 ∗ reached (ER F) (k.on c) 0)) := by
  iintro ⟨#HI, Ht, Hv⟩
  ihave #Hk := (known_cell (A := A) (s := s) (κ := κ) (ν := ν) k c) $$ HI
  iapply (cell_open (ER F) (rd A s) (κ := κ (k.on c)) (Set.mem_univ _))
  isplitr; · iexact Hk
  isplitl [Ht] <;> iassumption

theorem release_one (b : Bool) (p : Fin 2) : iprop(known A s κ ν ∗ readerAt (ES F) (c, b, p) 0 ∗ slotAny F (c, b, p))
    ⊢ iprop(|={Set.univ}=> (readerAt (ES F) (c, b, p) 1 ∗ released (ES F) (c, b, p) 1)) := by
  iintro ⟨#HI, Hr, Hs⟩
  ihave #Hk := (known_slot (A := A) (s := s) (κ := κ) (ν := ν) (c, b, p)) $$ HI
  iapply (slot_release (ES F) (k := (c, b, p)) (S := slotAny F (c, b, p)) (Es := Set.univ) (Set.mem_univ (ν (c, b, p))) (slotAny_false _) 0)
  isplitr; · iexact Hk
  isplitl [Hr] <;> iassumption

/-- One direction's state before the first hop, the chunks apart. -/
def opened (b : Bool) (c : Dev nD) : sProp (Res F) :=
  iprop(taking F b c 0 ∗ (departing F b c 0 ∗ departing F b c 1) ∗ (reading F b c 0 ∗ reading F b c 1)
    ∗ bigSep (Finset.Ico 0 62) (spend F b c) ∗ bigSep (Finset.Ico 0 60) (give F b c) ∗ ack F b c 0)

theorem words_none (b : Bool) : atPos (ER F) ((Cell.cr b).on c) 0 ∅ 0 ⊢ words (F := F) b c 0 := by
  unfold words heard
  iintro H
  iexists ∅
  isplitr; · ipureintro; simp
  isplitl; · iexact H
  rw [bigSep_empty]; iempintro

theorem open_cells (b : Bool) : iprop(known A s κ ν ∗ fresh b c ∗ closed b c)
    ⊢ iprop(|={Set.univ}=> (opened b c ∗ (ack F b c 0 ∗ reached (ER F) ((Cell.cr b).on c) 0))) := by
  unfold fresh closed
  iintro ⟨#HI, ⟨⟨TS0, TS1⟩, ⟨TR0, TR1⟩, TC, ⟨R0, R1⟩, Hsp, Hgv, Hcr⟩, ⟨L0, L1⟩, ⟨S0, S1⟩, ⟨V0, V1⟩, VC⟩
  ihave S0 := (open_one (A := A) (s := s) (κ := κ) (ν := ν) (c := c) (.ss b 0)) $$ [TS0 S0]
  · isplitr; · iexact HI
    isplitl [TS0] <;> iassumption
  ihave S1 := (open_one (A := A) (s := s) (κ := κ) (ν := ν) (c := c) (.ss b 1)) $$ [TS1 S1]
  · isplitr; · iexact HI
    isplitl [TS1] <;> iassumption
  ihave V0 := (open_one (A := A) (s := s) (κ := κ) (ν := ν) (c := c) (.rs b 0)) $$ [TR0 V0]
  · isplitr; · iexact HI
    isplitl [TR0] <;> iassumption
  ihave V1 := (open_one (A := A) (s := s) (κ := κ) (ν := ν) (c := c) (.rs b 1)) $$ [TR1 V1]
  · isplitr; · iexact HI
    isplitl [TR1] <;> iassumption
  ihave VC := (open_one (A := A) (s := s) (κ := κ) (ν := ν) (c := c) (.cr b)) $$ [TC VC]
  · isplitr; · iexact HI
    isplitl [TC] <;> iassumption
  ihave R0 := (release_one (A := A) (s := s) (κ := κ) (ν := ν) (c := c) b 0) $$ [R0 L0]
  · isplitr; · iexact HI
    isplitl [R0] <;> iassumption
  ihave R1 := (release_one (A := A) (s := s) (κ := κ) (ν := ν) (c := c) b 1) $$ [R1 L1]
  · isplitr; · iexact HI
    isplitl [R1] <;> iassumption
  imod S0 with ⟨S0, #QS0⟩; imod S1 with ⟨S1, #QS1⟩; imod V0 with ⟨V0, #QV0⟩; imod V1 with ⟨V1, #QV1⟩; imod VC with ⟨VC, #QC⟩
  imod R0 with ⟨R0, #Rel0⟩; imod R1 with ⟨R1, #Rel1⟩
  have hack : iprop((released (ES F) (c, b, 0) 1 ∗ reached (ER F) ((Cell.rs b 0).on c) 0) ∗ (released (ES F) (c, b, 1) 1 ∗ reached (ER F) ((Cell.rs b 1).on c) 0)) ⊢ ack F b c 0 := by
    unfold ack; rw [cnt_zero, cnt_zero]
  ihave #Ha := hack $$ []
  · isplitr
    · isplitr <;> iassumption
    · isplitr <;> iassumption
  imodintro
  isplitl
  · unfold opened taking
    rw [show departing F b c 0 = iprop(atPos (ER F) ((Cell.ss b 0).on c) 0 ∅ 0 ∗ reached (ER F) ((Cell.ss b 0).on c) 0) from rfl,
      show departing F b c 1 = iprop(atPos (ER F) ((Cell.ss b 1).on c) 0 ∅ 0 ∗ reached (ER F) ((Cell.ss b 1).on c) 0) from rfl,
      show reading F b c 0 = iprop(readerAt (ES F) (c, b, 0) 1 ∗ atPos (ER F) ((Cell.rs b 0).on c) 0 ∅ 0) from rfl,
      show reading F b c 1 = iprop(readerAt (ES F) (c, b, 1) 1 ∗ atPos (ER F) ((Cell.rs b 1).on c) 0 ∅ 0) from rfl]
    isplitl [VC Hcr]
    · isplitl [VC]
      · iapply (words_none b); iexact VC
      · iexact Hcr
    isplitl [S0 S1]
    · isplitl [S0]
      · isplitl; · iexact S0
        iexact QS0
      · isplitl; · iexact S1
        iexact QS1
    isplitl [R0 V0 R1 V1]
    · isplitl [R0 V0]
      · isplitl [R0] <;> iassumption
      · isplitl [R1] <;> iassumption
    isplitl [Hsp]; · iexact Hsp
    isplitl [Hgv]; · iexact Hgv
    iexact Ha
  · isplitr
    · iexact Ha
    · iexact QC

/-- What a device needs to meet its neighbours: the duty at each of them, and the two units that it awaits. -/
def greeting (c : Dev nD) : sProp (Res F) :=
  iprop((dutyTok (ER F) (Cell.bar.on (nbr false c)) 0 0 ∗ dutyTok (ER F) (Cell.bar.on (nbr true c)) 0 1)
    ∗ (reached (ER F) (Cell.bar.on (nbr false c)) 0 ∗ reached (ER F) (Cell.bar.on (nbr true c)) 0)
    ∗ atPos (ER F) (Cell.bar.on c) 0 ∅ 0 ∗ cred (tallyAt (Cell.bar.on c) 0 2))

/-- The units that a device owes its neighbours for the meeting. -/
def oweB (c : Dev nD) : CellTallies nD τ sig ℕ := tallyAt (Cell.bar.on (nbr false c)) 0 1 + tallyAt (Cell.bar.on (nbr true c)) 0 1

/-- A word to one neighbour, at the barrier. -/
theorem wp_greet (b : Bool) (d : ℕ) (hb : decide (d = 0) = !b) (hd : d ∈ ({0, 1} : Finset ℕ)) {O : CellTallies nD τ sig ℕ} (Q : sProp (Res F)) :
    iprop(known A s κ ν ∗ debt c (O + tallyAt (Cell.bar.on (nbr b c)) 0 1) ∗ dutyTok (ER F) (Cell.bar.on (nbr b c)) 0 d
        ∗ reached (ER F) (Cell.bar.on (nbr b c)) 0 ∗ hello F (!b) c)
      ⊢ iprop((debt c O -∗ Q) -∗ wpc c (semSignalWord ((place c).dest b) (SemArray.scalar (sig.barrier 0 rfl) : Sems sig S_).sem 1#32) (fun _ => Q)) := by
  iintro ⟨#HI, HO, TD, #RC, #Hh⟩ HQ
  have hsm := barrier_eq
  have eg : Cell.bar.on (nbr b c) = ((Dev.tc (nbr b c) : Thread nD τ), .reg (SemArray.scalar (sig.barrier 0 rfl) : Sems sig S_).sem) := by unfold Cell.on; rw [hsm]
  ihave #IC := (known_cell (A := A) (s := s) (κ := κ) (ν := ν) .bar (nbr b c)) $$ HI
  have hd' : d ∈ (rd A s).duties (Cell.bar.on (nbr b c)) 0 := by rw [duties_on]; exact hd
  have hm := amount_on A s .bar (nbr b c) 0 d
  have hp : (rd A s).payload (Cell.bar.on (nbr b c)) 0 d = hello F (!b) c :=
    (payload_on A s .bar (nbr b c) 0 d).trans (by show hello F (decide (d = 0)) (nbr (decide (d = 0)) (nbr b c)) = _; rw [hb, nbr_not_nbr])
  rw [eg] at hd' hm hp ⊢
  unfold debt
  icases HO with ⟨%W, HO⟩
  unfold semSignalWord
  iapply (Rounds.wp_signal 𝒱₀ (ER F) (rd A s) (Dev.tc c : Thread nD τ) none (dst := (Dev.tc (nbr b c) : Thread nD τ)) (sem := (SemArray.scalar (sig.barrier 0 rfl) : Sems sig S_).sem) (r := 0) (d := d) (k' := 1)
      (κ := κ ((Dev.tc (nbr b c) : Thread nD τ), .reg (SemArray.scalar (sig.barrier 0 rfl) : Sems sig S_).sem)) hd' hm 0 O rfl (W := W) (Es := Set.univ)) $$ [HO TD]
  · isplitr; · iexact IC
    isplitl [HO]; · iexact HO
    isplitl [TD]; · iexact TD
    isplitr; · rw [hp]; iexact Hh
    iexact RC
  iintro HO
  rw [wp_ret]; imodintro
  iapply HQ
  iexists _; iexact HO

theorem does_meet {O : CellTallies nD τ sig ℕ} (hO : Above 1 O) :
    Does (known A s κ ν) c iprop(debt c (O + oweB c) ∗ greeting c ∗ hello F true c ∗ hello F false c) (meet (place c))
      iprop(debt c O ∗ met c ∗ atPos (ER F) (Cell.bar.on c) 1 ∅ 0) := fun Q => by
  unfold meet wpc greeting oweB
  iintro ⟨#HI, HO, ⟨⟨T0, T1⟩, ⟨#R0, #R1⟩, Hat, Hc⟩, #HT, #HF⟩ HQ
  rw [wp_bind, add_comm (tallyAt (Cell.bar.on (nbr false c)) 0 1), ← add_assoc]
  iapply (wp_greet (A := A) (s := s) (κ := κ) (ν := ν) false 0 rfl (by simp) _) $$ [HO T0]
  · isplitr; · iexact HI
    isplitl [HO]; · iexact HO
    isplitl [T0]; · iexact T0
    isplitr; · iexact R0
    iexact HT
  iintro HO
  rw [wp_bind]
  iapply (wp_greet (A := A) (s := s) (κ := κ) (ν := ν) true 1 rfl (by simp) _) $$ [HO T1]
  · isplitr; · iexact HI
    isplitl [HO]; · iexact HO
    isplitl [T1]; · iexact T1
    isplitr; · iexact R1
    iexact HF
  iintro HO
  unfold debt
  icases HO with ⟨%W, HO⟩
  have hsm := barrier_eq
  have hl := known_levels (A := A) (s := s) (κ := κ) (ν := ν)
  ihave HL := hl $$ HI
  unfold semWaitWord
  iapply (Rounds.wp_wait_rest_token 𝒱₀ (ER F) (rd A s) (Dev.tc c : Thread nD τ) none (sm := Cell.bar.sem) (k' := 2) (κ := κ (Cell.bar.on c)) (R := 0) (m := 0) (T := ∅) (O := O) (W := W)
      (fun K => by rw [← hsm]; exact wpE_semWait_eq (k := 2) 𝒱₀ (Dev.tc c : Thread nD τ) none Set.univ K) (Set.mem_univ _) 0
      (by rw [expect_on]; rfl)) $$ [HO Hc Hat]
  · isplitr; · iapply (known_cell .bar c); iexact HI
    isplitl [Hc]; · iexact Hc
    isplitl [HO]; · iexact HO
    isplitr
    · iapply (hO.mayWait (k := .bar) (c := c) (ι := 0) (by omega) (show 1 ≤ 1 from le_rfl)); iexact HL
    · iexact Hat
  iintro ⟨HO, Hat, Hr, Hp⟩
  have hp : bigSep ((rd A s).duties ((Dev.tc c : Thread nD τ), Cell.bar.sem) 0 \ ∅) (fun d => (rd A s).payload ((Dev.tc c : Thread nD τ), Cell.bar.sem) 0 d) ⊢ met c := by
    rw [show (rd A s).duties ((Dev.tc c : Thread nD τ), Cell.bar.sem) 0 = {0, 1} from (duties_on A s .bar c 0).trans rfl, Finset.sdiff_empty,
      bigSep_insert (by simp), bigSep_singleton]
    unfold met
    exact BIClass.sep_mono (Entails.of_eq (payload_on A s .bar c 0 0)) (Entails.of_eq (payload_on A s .bar c 0 1))
  ihave Hp := hp $$ Hp
  rw [wp_ret]; imodintro
  iapply HQ
  isplitl [HO]; · iexists _; iexact HO
  isplitl [Hp]; · iexact Hp
  iexact Hat

end Cert.KernelIdeal.AllReduce

end
-- ==== Proof.AllReduce.Chunks.lean ====
/-
  The result is its sixty-four chunks, and a communication buffer is its two slots.
-/
module

public import proofs.«01_k».proof.Proof.AllReduce.Meet

@[expose] public section

noncomputable section

namespace Cert.KernelIdeal.AllReduce

open Idealize Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]
variable {c : Dev nD}

/-! ### Rows and chunks -/

/-- The chunk that a row of the result belongs to. -/
def chunkOfRow (r : Fin 4096) : Bool × Fin 32 :=
  if h : r.val < 2048 then (true, ⟨r.val / 64, by omega⟩) else (false, -⟨(r.val - 2048) / 64, by have := r.isLt; omega⟩)
/-- A row's place in its chunk. -/
def rowInChunk (r : Fin 4096) : Fin 64 := ⟨r.val % 64, Nat.mod_lt _ (by decide)⟩

theorem turn_turn : ∀ k : Fin 32, - -k = k := by decide
theorem chunkRow_false_neg (k : Fin 32) : chunkRow false (-k) = 2048 + 64 * k.val := by show 2048 + 64 * (- -k : Fin 32).val = _; rw [turn_turn]

theorem row_split (r : Fin 4096) : chunkRow (chunkOfRow r).1 (chunkOfRow r).2 + (rowInChunk r).val = r.val := by
  have := r.isLt
  unfold chunkOfRow rowInChunk
  by_cases h : r.val < 2048
  · rw [dif_pos h]; show 64 * (r.val / 64) + r.val % 64 = r.val; omega
  · rw [dif_neg h]
    dsimp only
    rw [chunkRow_false_neg]; dsimp only; omega

theorem row_join (b : Bool) (j : Fin 32) (k : Fin 64) (r : Fin 4096) (h : r.val = chunkRow b j + k.val) : chunkOfRow r = (b, j) ∧ rowInChunk r = k := by
  have hk := k.isLt
  cases b
  · obtain ⟨j, rfl⟩ : ∃ j', j = -j' := ⟨-j, (turn_turn j).symm⟩
    rw [chunkRow_false_neg] at h
    have hj := j.isLt
    refine ⟨?_, Fin.ext (show r.val % 64 = k.val by omega)⟩
    unfold chunkOfRow
    rw [dif_neg (by omega)]
    congr 2
    exact Fin.ext (show (r.val - 2048) / 64 = j.val by omega)
  · have hj := j.isLt
    have h' : r.val = 64 * j.val + k.val := h
    refine ⟨?_, Fin.ext (show r.val % 64 = k.val by omega)⟩
    unfold chunkOfRow
    rw [dif_pos (by omega)]
    congr 1
    exact Fin.ext (show r.val / 64 = j.val by omega)

theorem jRect_row (b : Bool) (j : Fin 32) (i : S64x2048.Idx) : (((jRect b j).emb i) 0 : Fin 4096).val = chunkRow b j + (i 0 : Fin 64).val := by
  show chunkRow b j + 1 * (i 0 : Fin 64).val = _; rw [Nat.one_mul]
theorem jRect_col (b : Bool) (j : Fin 32) (i : S64x2048.Idx) : (((jRect b j).emb i) 1 : Fin 2048).val = (i 1 : Fin 2048).val := by
  show 0 + 1 * (i 1 : Fin 2048).val = _; omega

/-- The whole put together from its chunks. -/
def total {α : Type} (X : Bool → Fin 32 → S64x2048.Idx → α) : S4096x2048.Idx → α :=
  fun i => X (chunkOfRow (i 0)).1 (chunkOfRow (i 0)).2 (Fin.cons (α := fun a => Fin (S64x2048.size a)) (rowInChunk (i 0)) (Fin.cons (i 1) fun a => a.elim0))

theorem part_total {α : Type} (X : Bool → Fin 32 → S64x2048.Idx → α) (b : Bool) (j : Fin 32) : part b j (total X) = X b j := by
  funext i
  unfold part total
  obtain ⟨h1, h2⟩ := row_join b j (i 0) _ (jRect_row b j i)
  rw [h1, h2]
  congr 1
  funext a
  fin_cases a
  · rfl
  · exact Fin.ext (jRect_col b j i)

theorem rects_disjoint (t t' : Bool × Fin 32) (h : t ≠ t') : Disjoint (jRect t.1 t.2).set (jRect t'.1 t'.2).set := by
  rw [Finset.disjoint_left]
  intro i hi hi'
  rw [← Rect.map_emb_univ, Finset.mem_map] at hi hi'
  obtain ⟨u, -, rfl⟩ := hi
  obtain ⟨u', -, e⟩ := hi'
  refine h ?_
  have h1 := (row_join t.1 t.2 (u 0) _ (jRect_row t.1 t.2 u)).1
  have h2 := (row_join t'.1 t'.2 (u' 0) _ (jRect_row t'.1 t'.2 u')).1
  have e0 : (((jRect t'.1 t'.2).emb u') 0 : Fin 4096) = ((jRect t.1 t.2).emb u) 0 := congrFun e 0
  rw [e0] at h2
  exact h1.symm.trans h2

theorem rects_cover : (Finset.univ : Finset (Bool × Fin 32)).biUnion (fun t => (jRect t.1 t.2).set) = Finset.univ := by
  refine Finset.eq_univ_iff_forall.mpr fun i => Finset.mem_biUnion.mpr ⟨chunkOfRow (i 0), Finset.mem_univ _, ?_⟩
  refine Rect.mem_set_unit.mpr fun a => ?_
  have h := row_split (i 0)
  have hk := (rowInChunk (i 0)).isLt
  fin_cases a
  · show chunkRow _ _ ≤ (i 0 : Fin 4096).val ∧ (i 0 : Fin 4096).val < chunkRow _ _ + 64
    omega
  · show 0 ≤ (i 1 : Fin 2048).val ∧ (i 1 : Fin 2048).val < 0 + 2048
    exact ⟨Nat.zero_le _, (i 1 : Fin 2048).isLt.trans_eq (Nat.zero_add _).symm⟩

theorem bigSep_dirs (Φ : Bool → sProp (Res F)) : bigSep Finset.univ Φ = iprop(Φ true ∗ Φ false) := by
  rw [show (Finset.univ : Finset Bool) = {true, false} by decide, bigSep_insert (by decide), bigSep_singleton]; rfl

theorem out_split (X : S4096x2048.Idx → Elt F .f32) : (ownsTc c win.out fullShare X : sProp (Res F))
    ⊢ iprop(bigSep Finset.univ (fun j : Fin 32 => ownsTc c (chunkOf true j) fullShare (part true j X)) ∗ bigSep Finset.univ (fun j : Fin 32 => ownsTc c (chunkOf false j) fullShare (part false j X))) := by
  have h := owns_rects (Val := Elt F) (U := UU) (Name := ℕ) (Ix := ℕ) (Lvl := ℕ) (Dev.tc c : Thread nD τ) win.out fullShare (fun t : Bool × Fin 32 => jRect t.1 t.2) (fun _ _ => rfl) rects_disjoint rects_cover X
  refine h.trans ?_
  rw [bigSep_univ_prod, bigSep_dirs]
  exact .rfl

theorem out_join (X : Bool → Fin 32 → S64x2048.Idx → Elt F .f32) :
    iprop(bigSep Finset.univ (fun j : Fin 32 => ownsTc c (chunkOf true j) fullShare (X true j)) ∗ bigSep Finset.univ (fun j : Fin 32 => ownsTc c (chunkOf false j) fullShare (X false j)))
      ⊢ (ownsTc c win.out fullShare (total X) : sProp (Res F)) := by
  have h := owns_of_rects (Val := Elt F) (U := UU) (Name := ℕ) (Ix := ℕ) (Lvl := ℕ) (Dev.tc c : Thread nD τ) win.out fullShare (fun t : Bool × Fin 32 => jRect t.1 t.2) (fun _ _ => rfl) rects_disjoint rects_cover (total X)
  refine BIBase.Entails.trans ?_ h
  rw [bigSep_univ_prod]
  rw [bigSep_dirs]
  refine BIClass.sep_mono (Entails.of_eq (bigSep_congr fun j _ => ?_)) (Entails.of_eq (bigSep_congr fun j _ => ?_))
  · rw [← part_total X true j]; rfl
  · rw [← part_total X false j]; rfl

/-! ### Slots -/

theorem slot_set (b : Bool) (p : Fin 2) : (slotOf b p).view.set = ((win.comm b).slice (slotRect p.val) (fun _ => rfl)).view.set := by
  show (((win.comm b).slice (slotRect p.val) (fun _ => rfl)).view.reshape _ _).set = _
  rw [View.set_reshape]

theorem slots_disjoint (b : Bool) : Disjoint (slotOf b 0).view.set (slotOf b 1).view.set := by
  rw [slot_set, slot_set]
  show Disjoint ((win.comm b).view.slice (slotRect 0)).set ((win.comm b).view.slice (slotRect 1)).set
  rw [View.set_slice, View.set_slice]
  exact (Finset.disjoint_map _).mpr (Rect.unit_disjoint 0 (Or.inl (show 0 % 2 + 1 ≤ 1 % 2 by decide)))

theorem slots_cover (b : Bool) : (slotOf b 0).view.set ∪ (slotOf b 1).view.set = (win.comm b).view.set := by
  rw [slot_set, slot_set]
  show ((win.comm b).view.slice (slotRect 0)).set ∪ ((win.comm b).view.slice (slotRect 1)).set = _
  rw [View.set_slice, View.set_slice, ← Finset.map_union, show (slotRect 0).set ∪ (slotRect 1).set = Finset.univ from ?_]
  · rfl
  refine Finset.eq_univ_iff_forall.mpr fun i => Finset.mem_union.mpr ?_
  have h : ∀ p : Fin 2, i 0 = p → i ∈ (slotRect p.val).set := fun p hp => by
    refine Rect.mem_set_unit.mpr fun a => ?_
    fin_cases a
    · show p.val % 2 ≤ (i 0).val ∧ (i 0).val < p.val % 2 + 1
      have := congrArg Fin.val hp
      have := p.isLt
      omega
    · exact ⟨Nat.zero_le _, (i 1 : Fin 64).isLt.trans_eq (Nat.zero_add _).symm⟩
    · exact ⟨Nat.zero_le _, (i 2 : Fin 2048).isLt.trans_eq (Nat.zero_add _).symm⟩
  rcases (Fin.exists_fin_two.mp ⟨(i 0 : Fin 2), rfl⟩ : i 0 = (0 : Fin 2) ∨ i 0 = (1 : Fin 2)) with e | e
  · exact .inl (h 0 e)
  · exact .inr (h 1 e)

/-- A communication buffer, at any contents. -/
def commAny (b : Bool) (c : Dev nD) : sProp (Res F) := Release.slot ((win.comm b).view.loc (Dev.tc c : Thread nD τ)) (win.comm b).view.set

theorem slotAny_eq (b : Bool) (p : Fin 2) :
    slotAny F (c, b, p) = iprop(∃ f, (slotOf b p).view.loc (Dev.tc c : Thread nD τ) ↦[(slotOf b p).view.set]{fullShare} f) := rfl

theorem comm_split (b : Bool) : commAny (F := F) b c ⊢ iprop(slotAny F (c, b, 0) ∗ slotAny F (c, b, 1)) := by
  unfold commAny
  rw [← slots_cover, slotAny_eq, slotAny_eq]
  unfold Release.slot
  iintro ⟨%f, H⟩
  ihave H := (pointsTo_union (slots_disjoint b)).1 $$ H
  icases H with ⟨H0, H1⟩
  isplitl [H0]
  · iexists f; iexact H0
  · iexists f; iexact H1

theorem comm_join (b : Bool) : iprop(slotAny F (c, b, 0) ∗ slotAny F (c, b, 1)) ⊢ commAny (F := F) b c := by
  unfold commAny
  rw [← slots_cover, slotAny_eq, slotAny_eq]
  unfold Release.slot
  iintro ⟨⟨%f, H0⟩, ⟨%g, H1⟩⟩
  iexists ((slotOf b 1).view.set.piecewise g f)
  iapply (pointsTo_join (slots_disjoint b))
  isplitl [H0] <;> iassumption

end Cert.KernelIdeal.AllReduce

end
-- ==== Proof.AllReduce.Body.lean ====
/-
  The whole body: from a device's two factors, its scale, its place in the ring and its share of the agreement, to the whole
  result in its result buffer, every cell closed with its counter at zero.
-/
module

public import proofs.«01_k».proof.Proof.AllReduce.Chunks

@[expose] public section

noncomputable section

namespace Cert.KernelIdeal.AllReduce

open Idealize Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]
variable {A : Dev nD → Vec F S4096x2048 .f32} {s : Dev nD → Elt F .f32} {κ : GSem nD τ sig → ℕ} {ν : Key → ℕ} {c : Dev nD}

theorem first_chunks (b : Bool) : bigSep Finset.univ (fun j : Fin 32 => (ownsTc c (chunkOf b j) fullShare (part b j (A c)) : sProp (Res F)))
    ⊢ iprop(chunkAt b c 0 (val A s b 0 c) ∗ resting A s b c 1 32) := by
  rw [← chunks_number b 0 (fun j => part b j (A c))]
  refine (ico_open (by omega)).trans ?_
  refine BIClass.sep_mono .rfl (Entails.of_eq ?_)
  unfold resting
  refine bigSep_congr fun u hu => ?_
  have hu' := Finset.mem_Ico.mp hu
  unfold rest
  rw [if_pos hu'.2]

theorem before_first (b : Bool) : iprop(opened b c ∗ bigSep Finset.univ (fun j : Fin 32 => (ownsTc c (chunkOf b j) fullShare (part b j (A c)) : sProp (Res F))))
    ⊢ before_ A s c 0 b := by
  unfold opened before_
  iintro ⟨⟨H1, H2, H3, H4, H5, H6⟩, HC⟩
  ihave HC := (first_chunks (s := s) b) $$ HC
  icases HC with ⟨HX, HR⟩
  isplitl [H1]; · iexact H1
  isplitl [H2]; · iexact H2
  isplitl [H3]; · iexact H3
  isplitl [H4]; · iexact H4
  isplitl [H5]; · iexact H5
  isplitl [H6]; · iexact H6
  isplitl [HX]; · iexact HX
  iexact HR

/-- What a device owes at the start. -/
def oweAll (c : Dev nD) : CellTallies nD τ sig ℕ := (owe c 0 0 true + owe c 0 0 false) + oweB c

theorem owe_end (b : Bool) : owe c 62 62 b = 0 := by
  unfold owe; rw [oweR_end b c le_rfl, oweC_end b c (by omega), add_zero]

/-- What the body works on beside the result buffer. -/
def inputs (c : Dev nD) (x : Vec F S4096x128 .fp8e5m2) (w : Vec F S128x2048 .fp8e5m2) (v : Elt F .f32) : sProp (Res F) :=
  iprop(factorsAt c x w ∗ scaleAt c v ∗ ringAt c)

theorem update_after (p : P F PUnit) (Q : sProp (Res F)) : wpc c p (fun _ => iprop(|={Set.univ}=> Q)) ⊢ wpc c p (fun _ => Q) := wp_fupd _ _ _ _ _

theorem meet_and_hop (x : Vec F S4096x128 .fp8e5m2) (w : Vec F S128x2048 .fp8e5m2) (hA : A c = k0_pay1 (F := F) x w) :
    Does (known A s κ ν) c
      iprop(debt c (oweAll c) ∗ scaleAt c (s c) ∗ ownsTc c win.out fullShare (A c) ∗ greeting c ∗ (fresh true c ∗ fresh false c) ∗ (closed true c ∗ closed false c))
      (meet (place c) >>= fun _ => hops win (place c) 62 0 rfl)
      iprop(debt c 0 ∗ scaleAt c (s c) ∗ ownsTc c win.out fullShare (total (finished A s)) ∗ (closed true c ∗ closed false c) ∗ semVal (Cell.bar.on c) 0) := fun Q => by
  iintro ⟨#HI, HO, Hs, Hout, Hg, ⟨FT, FF⟩, ⟨CT, CF⟩⟩ HQ
  ihave FT := (open_cells (A := A) (s := s) (κ := κ) (ν := ν) (c := c) true) $$ [FT CT]
  · isplitr; · iexact HI
    isplitl [FT] <;> iassumption
  ihave FF := (open_cells (A := A) (s := s) (κ := κ) (ν := ν) (c := c) false) $$ [FF CF]
  · isplitr; · iexact HI
    isplitl [FF] <;> iassumption
  unfold wpc; rw [← fupd_wp_eq]
  imod FT with ⟨PT, #AT, #RT⟩
  imod FF with ⟨PF, #AF, #RF⟩
  imodintro
  rw [wp_bind]
  have hO : Above 1 (owe c 0 0 true + owe c 0 0 false) := (owe_above c true (by omega) (by omega)).add (owe_above c false (by omega) (by omega))
  have hhello (b : Bool) : iprop(ack F b c 0 ∗ reached (ER F) ((Cell.cr (!b)).on c) 0) ⊢ hello F b c := by unfold hello; exact .rfl
  unfold oweAll
  iapply ((does_meet (A := A) (s := s) (κ := κ) (ν := ν) (c := c) hO) _) $$ [HO Hg]
  · isplitr; · iexact HI
    isplitl [HO]; · iexact HO
    isplitl [Hg]; · iexact Hg
    isplitr
    · iapply (hhello true)
      isplitr; · iexact AT
      iexact RF
    · iapply (hhello false)
      isplitr; · iexact AF
      iexact RT
  iintro ⟨HO, #HM, Hbar⟩
  ihave Hout := (out_split (c := c) (A c)) $$ Hout
  icases Hout with ⟨OT, OF⟩
  ihave PT := (before_first (A := A) (s := s) (c := c) true) $$ [PT OT]
  · isplitl [PT] <;> iassumption
  ihave PF := (before_first (A := A) (s := s) (c := c) false) $$ [PF OF]
  · isplitl [PF] <;> iassumption
  iapply (update_after _ Q)
  iapply (does_hops (A := A) (s := s) (κ := κ) (ν := ν) (c := c) 62 0 rfl _) $$ [HO Hs PT PF]
  · isplitr
    · isplitr <;> iassumption
    isplitl [Hs]; · iexact Hs
    unfold pair
    isplitl [HO]; · iexact HO
    isplitl [PT] <;> iassumption
  unfold pair
  rw [owe_end, owe_end, add_zero]
  iintro ⟨Hs, HO, LT, LF⟩
  ihave LT := (landed_closed (A := A) (s := s) (κ := κ) (ν := ν) (c := c) true) $$ [LT]
  · isplitr; · iexact HI
    iexact LT
  ihave LF := (landed_closed (A := A) (s := s) (κ := κ) (ν := ν) (c := c) false) $$ [LF]
  · isplitr; · iexact HI
    iexact LF
  ihave Hbar := (close_cell (A := A) (s := s) (κ := κ) (ν := ν) (c := c) .bar (r := 1) le_rfl) $$ [Hbar]
  · isplitr; · iexact HI
    iexact Hbar
  imod LT with ⟨CT, OT⟩
  imod LF with ⟨CF, OF⟩
  imod Hbar
  imodintro
  iapply HQ
  isplitl [HO]; · iexact HO
  isplitl [Hs]; · iexact Hs
  isplitl [OT OF]
  · iapply (out_join (c := c) (finished A s))
    isplitl [OT] <;> iassumption
  isplitl [CT CF]
  · isplitl [CT] <;> iassumption
  iexact Hbar

/-- The body. -/
theorem does_body (x : Vec F S4096x128 .fp8e5m2) (w : Vec F S128x2048 .fp8e5m2) (hA : A c = k0_pay1 (F := F) x w) (Y : Vec F S4096x2048 .f32) :
    Does (known A s κ ν) c
      iprop(debt c (oweAll c) ∗ inputs c x w (s c) ∗ ownsTc c win.out fullShare Y ∗ greeting c ∗ (fresh true c ∗ fresh false c) ∗ (closed true c ∗ closed false c))
      (body win)
      iprop(debt c 0 ∗ inputs c x w (s c) ∗ ownsTc c win.out fullShare (total (finished A s)) ∗ (closed true c ∗ closed false c) ∗ semVal (Cell.bar.on c) 0) := fun Q => by
  unfold body inputs wpc
  rw [wp_bind]
  iintro ⟨#HI, HO, ⟨Hf, Hs, Hr⟩, Hout, Hrest⟩ HQ
  iapply (wp_readPlace _) $$ Hr
  iintro Hr
  rw [wp_bind]
  iapply (does_product (known A s κ ν) x w Y _) $$ [Hf Hout]
  · isplitr; · iexact HI
    isplitl [Hf] <;> iassumption
  iintro ⟨Hf, Hout⟩
  rw [← hA]
  iapply (meet_and_hop (A := A) (s := s) (κ := κ) (ν := ν) x w hA _) $$ [HO Hs Hout Hrest]
  · isplitr; · iexact HI
    isplitl [HO]; · iexact HO
    isplitl [Hs]; · iexact Hs
    isplitl [Hout]; · iexact Hout
    iexact Hrest
  iintro ⟨HO, Hs, Hout, Hrest⟩
  iapply HQ
  isplitl [HO]; · iexact HO
  isplitl [Hf Hs Hr]
  · isplitl [Hf]; · iexact Hf
    isplitl [Hs] <;> iassumption
  isplitl [Hout]; · iexact Hout
  iexact Hrest

end Cert.KernelIdeal.AllReduce

end
-- ==== Proof.AllReduce.Credits.lean ====
/-
  The credit that the launch deals a device: for every unit that a neighbour owes one of its cells, the right to wait for it.
-/
module

public import proofs.«01_k».proof.Proof.AllReduce.Body
public import Idealize.ShloMosaic.Lib.Pipeline.Launch

@[expose] public section

noncomputable section

namespace Cert.KernelIdeal.AllReduce

open Idealize Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

/-- Going to the neighbour, as a rearrangement of the devices. -/
def step (b : Bool) : Dev nD ≃ Dev nD := ⟨nbr b, nbr (!b), nbr_not_nbr b, nbr_nbr_not b⟩

/-- If every device owes a cell of the next one the same units, each device gets the credit for its own. -/
theorem dealt (k : Cell) (e : Dev nD ≃ Dev nD) (ι n : ℕ) (c : Dev nD) :
    (Pipeline.launchCred (fun d => tallyAt (k.on (e d)) ι n) c : sProp (Res F)) ⊢ cred (tallyAt (k.on c) ι n) := by
  refine BIBase.Entails.trans (Pipeline.launchCred_elim _ c k.sem) (Entails.of_eq ?_)
  refine congrArg cred ?_
  show tallyOn (k.on c) _ = tallyOn (k.on c) _
  refine congrArg _ (Finsupp.ext fun i => ?_)
  rw [Pipeline.launchCredit_owing]
  have h (d : Dev nD) : tallyAt (k.on (e d)) ι n (k.on c) i = if d = e.symm c then (Finsupp.single ι n) i else 0 := by
    by_cases hd : d = e.symm c
    · rw [if_pos hd, hd, Equiv.apply_symm_apply, tallyAt_apply, Finsupp.single_apply]
      by_cases hi : ι = i
      · rw [if_pos hi, if_pos ⟨rfl, hi.symm⟩]
      · rw [if_neg hi, if_neg fun x => hi x.2.symm]
    · rw [if_neg hd, tallyAt_apply, if_neg fun x => hd ?_]
      rw [(Cell.on_inj x.1).2, Equiv.symm_apply_apply]
  rw [Finset.sum_congr rfl fun d _ => h d, Finset.sum_ite_eq' Finset.univ _ fun _ => (Finsupp.single ι n) i, if_pos (Finset.mem_univ _)]

/-- A device's credit at the launch: the meeting's two units, the arrivals, the words. -/
def credits (c : Dev nD) : sProp (Res F) :=
  iprop(cred (tallyAt (Cell.bar.on c) 0 2)
    ∗ (bigSep (Finset.Ico 0 62) (fun u => cred (tallyAt ((Cell.rs true (par u)).on c) u N)) ∗ bigSep (Finset.Ico 0 60) (fun n => cred (tallyAt ((Cell.cr true).on c) n 1)))
    ∗ (bigSep (Finset.Ico 0 62) (fun u => cred (tallyAt ((Cell.rs false (par u)).on c) u N)) ∗ bigSep (Finset.Ico 0 60) (fun n => cred (tallyAt ((Cell.cr false).on c) n 1))))

theorem credits_ring (b : Bool) (c : Dev nD) : (Pipeline.launchCred (fun d => owe d 0 0 b) c : sProp (Res F))
    ⊢ iprop(bigSep (Finset.Ico 0 62) (fun u => cred (tallyAt ((Cell.rs b (par u)).on c) u N)) ∗ bigSep (Finset.Ico 0 60) (fun n => cred (tallyAt ((Cell.cr b).on c) n 1))) := by
  unfold owe oweR oweC
  rw [Pipeline.launchCred_add, Pipeline.launchCred_sum, Pipeline.launchCred_sum]
  exact BIClass.sep_mono (bigSep_mono fun u _ => dealt _ (step b) _ _ c) (bigSep_mono fun n _ => dealt _ (step b).symm _ _ c)

theorem credits_meet (c : Dev nD) : (Pipeline.launchCred oweB c : sProp (Res F)) ⊢ cred (tallyAt (Cell.bar.on c) 0 2) := by
  have e : (tallyAt (Cell.bar.on c) 0 2 : CellTallies nD τ sig ℕ) = tallyAt (Cell.bar.on c) 0 1 + tallyAt (Cell.bar.on c) 0 1 := by
    rw [tallyAt_add]
  rw [e]
  refine BIBase.Entails.trans (Entails.of_eq (Pipeline.launchCred_add _ _ c)) ?_
  refine BIBase.Entails.trans (BIClass.sep_mono (dealt _ (step false) _ _ c) (dealt _ (step true) _ _ c)) ?_
  exact (cred_add _ _).2

theorem credits_of (c : Dev nD) : (Pipeline.launchCred oweAll c : sProp (Res F)) ⊢ credits c := by
  refine BIBase.Entails.trans (Entails.of_eq (Pipeline.launchCred_add (fun d => owe d 0 0 true + owe d 0 0 false) oweB c)) ?_
  rw [Pipeline.launchCred_add]
  unfold credits
  iintro ⟨⟨Ht, Hf⟩, Hb⟩
  isplitl [Hb]; · iapply (credits_meet c); iexact Hb
  isplitl [Ht]; · iapply (credits_ring true c); iexact Ht
  iapply (credits_ring false c); iexact Hf

end Cert.KernelIdeal.AllReduce

end
-- ==== Proof.AllReduce.Tokens.lean ====
/-
  The ghost state that the launch makes, and how it is dealt: who holds the right to pay which unit, to fill which slot.
-/
module

public import proofs.«01_k».proof.Proof.AllReduce.Credits

@[expose] public section

noncomputable section

namespace Cert.KernelIdeal.AllReduce

open Idealize Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

/-! ## The cells -/

/-- The cells that open only once the body runs. -/
def late : Fin 10 → Cell := ![.ss true 0, .ss true 1, .rs true 0, .rs true 1, .cr true, .ss false 0, .ss false 1, .rs false 0, .rs false 1, .cr false]
theorem late_inj : Function.Injective late := by decide
theorem late_ne : ∀ i, late i ≠ .bar := by decide
theorem late_or : ∀ k : Cell, k = .bar ∨ ∃ i, late i = k := by decide

def barEmb : Dev nD ↪ GSem nD τ sig := ⟨fun c => Cell.bar.on c, fun _ _ h => (Cell.on_inj h).2⟩
def lateEmb : Dev nD × Fin 10 ↪ GSem nD τ sig :=
  ⟨fun x => (late x.2).on x.1, fun _ _ h => Prod.ext (Cell.on_inj h).2 (late_inj (Cell.on_inj h).1)⟩
def barCells : Finset (GSem nD τ sig) := Finset.univ.map barEmb
def lateCells : Finset (GSem nD τ sig) := Finset.univ.map lateEmb

theorem disjoint_cells : Disjoint barCells lateCells := by
  rw [Finset.disjoint_left]
  intro g h h'
  obtain ⟨c, -, rfl⟩ := Finset.mem_map.mp h
  obtain ⟨x, -, e⟩ := Finset.mem_map.mp h'
  exact late_ne x.2 (Cell.on_inj e).1

theorem cell_mem (k : Cell) (c : Dev nD) : k.on c ∈ barCells ∪ lateCells := by
  rcases late_or k with rfl | ⟨i, rfl⟩
  · exact Finset.mem_union_left _ (Finset.mem_map_of_mem barEmb (Finset.mem_univ c))
  · exact Finset.mem_union_right _ (Finset.mem_map_of_mem lateEmb (Finset.mem_univ (c, i)))

/-! ## The duties -/

/-- A duty: its cell, its round, its number. -/
abbrev Duty : Type := GSem nD τ sig × ℕ × ℕ

def meetDuty (x : Dev nD × Bool) : Duty := (Cell.bar.on x.1, 0, cond x.2 1 0)
def arriveDuty (x : Dev nD × Bool × Fin 62) : Duty := ((Cell.rs x.2.1 (par x.2.2)).on x.1, x.2.2.val / 2, 0)
def leaveDuty (x : Dev nD × Bool × Fin 62) : Duty := ((Cell.ss x.2.1 (par x.2.2)).on x.1, x.2.2.val / 2, 0)
def wordDuty (x : Dev nD × Bool × Fin 60) : Duty := ((Cell.cr x.2.1).on x.1, 0, x.2.2.val)

theorem hop_inj {u v : Fin 62} (h : par u = par v) (h' : u.val / 2 = v.val / 2) : u = v := by
  have : u.val % 2 = v.val % 2 := congrArg Fin.val h
  exact Fin.ext (by omega)

theorem meet_inj : Function.Injective meetDuty := fun x y h => by
  refine Prod.ext (Cell.on_inj (congrArg Prod.fst h)).2 ?_
  have e : cond x.2 1 0 = cond y.2 1 0 := congrArg (fun d : Duty => d.2.2) h
  revert e; cases x.2 <;> cases y.2 <;> decide
theorem arrive_inj : Function.Injective arriveDuty := fun x y h => by
  obtain ⟨e, ec⟩ := Cell.on_inj (congrArg Prod.fst h)
  injection e with e1 e2
  exact Prod.ext ec (Prod.ext e1 (hop_inj e2 (congrArg (fun d : Duty => d.2.1) h)))
theorem leave_inj : Function.Injective leaveDuty := fun x y h => by
  obtain ⟨e, ec⟩ := Cell.on_inj (congrArg Prod.fst h)
  injection e with e1 e2
  exact Prod.ext ec (Prod.ext e1 (hop_inj e2 (congrArg (fun d : Duty => d.2.1) h)))
theorem word_inj : Function.Injective wordDuty := fun x y h => by
  obtain ⟨e, ec⟩ := Cell.on_inj (congrArg Prod.fst h)
  injection e with e1
  exact Prod.ext ec (Prod.ext e1 (Fin.ext (congrArg (fun d : Duty => d.2.2) h)))

def meetDuties : Finset Duty := Finset.univ.map ⟨meetDuty, meet_inj⟩
def arriveDuties : Finset Duty := Finset.univ.map ⟨arriveDuty, arrive_inj⟩
def leaveDuties : Finset Duty := Finset.univ.map ⟨leaveDuty, leave_inj⟩
def wordDuties : Finset Duty := Finset.univ.map ⟨wordDuty, word_inj⟩
def allDuties : Finset Duty := meetDuties ∪ (arriveDuties ∪ (leaveDuties ∪ wordDuties))

/-- The kind of a cell. -/
def Cell.kind : Cell → ℕ
  | .bar => 0
  | .rs _ _ => 1
  | .ss _ _ => 2
  | .cr _ => 3
def kindOf (d : Duty) : ℕ := (Cell.of d.1.2).elim 4 Cell.kind
theorem kindOf_on (k : Cell) (c : Dev nD) (r n : ℕ) : kindOf (k.on c, r, n) = k.kind := by
  show (Cell.of k.sem).elim 4 Cell.kind = _; rw [Cell.of_sem]; rfl

theorem kind_meet {d : Duty} (h : d ∈ meetDuties) : kindOf d = 0 := by
  obtain ⟨x, -, rfl⟩ := Finset.mem_map.mp h; exact kindOf_on ..
theorem kind_arrive {d : Duty} (h : d ∈ arriveDuties) : kindOf d = 1 := by
  obtain ⟨x, -, rfl⟩ := Finset.mem_map.mp h; exact kindOf_on ..
theorem kind_leave {d : Duty} (h : d ∈ leaveDuties) : kindOf d = 2 := by
  obtain ⟨x, -, rfl⟩ := Finset.mem_map.mp h; exact kindOf_on ..
theorem kind_word {d : Duty} (h : d ∈ wordDuties) : kindOf d = 3 := by
  obtain ⟨x, -, rfl⟩ := Finset.mem_map.mp h; exact kindOf_on ..

theorem disjoint_meet : Disjoint meetDuties (arriveDuties ∪ (leaveDuties ∪ wordDuties)) := by
  rw [Finset.disjoint_left]; intro d h h'
  have h0 := kind_meet h
  rcases Finset.mem_union.mp h' with h' | h'
  · have := kind_arrive h'; omega
  rcases Finset.mem_union.mp h' with h' | h'
  · have := kind_leave h'; omega
  · have := kind_word h'; omega
theorem disjoint_arrive : Disjoint arriveDuties (leaveDuties ∪ wordDuties) := by
  rw [Finset.disjoint_left]; intro d h h'
  have h0 := kind_arrive h
  rcases Finset.mem_union.mp h' with h' | h'
  · have := kind_leave h'; omega
  · have := kind_word h'; omega
theorem disjoint_leave : Disjoint leaveDuties wordDuties := by
  rw [Finset.disjoint_left]; intro d h h'
  have h0 := kind_leave h
  have := kind_word h'; omega

/-! ## Dealing -/

theorem bigSep_upTo (n : ℕ) (Φ : ℕ → sProp (Res F)) : bigSep Finset.univ (fun i : Fin n => Φ i.val) = bigSep (Finset.Ico 0 n) Φ := by
  have e : Finset.Ico 0 n = (Finset.univ : Finset (Fin n)).map Fin.valEmbedding := by
    rw [Fin.map_valEmbedding_univ]; ext i; simp
  rw [e, bigSep_map]
  rfl

/-- What is indexed by devices, directions and hops, device by device. -/
theorem by_device (n : ℕ) (Φ : Dev nD → Bool → ℕ → sProp (Res F)) :
    bigSep Finset.univ (fun x : Dev nD × Bool × Fin n => Φ x.1 x.2.1 x.2.2.val)
      = bigSep Finset.univ fun c => iprop(bigSep (Finset.Ico 0 n) (Φ c true) ∗ bigSep (Finset.Ico 0 n) (Φ c false)) := by
  rw [bigSep_univ_prod]
  refine bigSep_congr fun c _ => ?_
  rw [bigSep_univ_prod, bigSep_dirs]
  exact congrArg₂ _ (bigSep_upTo (F := F) n (Φ c true)) (bigSep_upTo (F := F) n (Φ c false))

/-- What stands with the neighbours may be counted from the other end. -/
theorem pass (σ : Bool → Dev nD ≃ Dev nD) (X : Dev nD → Bool → sProp (Res F)) :
    bigSep Finset.univ (fun c => iprop(X c true ∗ X c false)) = bigSep Finset.univ fun c => iprop(X (σ true c) true ∗ X (σ false c) false) := by
  rw [bigSep_sep', bigSep_sep', bigSep_univ_equiv (σ true) (fun c => X c true), bigSep_univ_equiv (σ false) (fun c => X c false)]

/-- The right to pay a duty. -/
abbrev tok (d : Duty) : sProp (Res F) := dutyTok (ER F) d.1 d.2.1 d.2.2

theorem meet_dealt : bigSep meetDuties tok
    = bigSep Finset.univ fun c : Dev nD => iprop(dutyTok (ER F) (Cell.bar.on (nbr true c)) 0 1 ∗ dutyTok (ER F) (Cell.bar.on (nbr false c)) 0 0) := by
  unfold meetDuties
  rw [bigSep_map, bigSep_univ_prod]
  refine Eq.trans (bigSep_congr fun c _ => bigSep_dirs _) ?_
  exact pass step (fun c b => dutyTok (ER F) (Cell.bar.on c) 0 (cond b 1 0))

theorem arrive_dealt : bigSep arriveDuties tok
    = bigSep Finset.univ fun c : Dev nD => iprop(bigSep (Finset.Ico 0 62) (fun u => dutyTok (ER F) ((Cell.rs true (par u)).on (nbr true c)) (u / 2) 0)
        ∗ bigSep (Finset.Ico 0 62) (fun u => dutyTok (ER F) ((Cell.rs false (par u)).on (nbr false c)) (u / 2) 0)) := by
  unfold arriveDuties
  rw [bigSep_map]
  refine Eq.trans (by_device 62 fun c b u => dutyTok (ER F) ((Cell.rs b (par u)).on c) (u / 2) 0) ?_
  exact pass step (fun c b => bigSep (Finset.Ico 0 62) fun u => dutyTok (ER F) ((Cell.rs b (par u)).on c) (u / 2) 0)

theorem leave_dealt : bigSep leaveDuties tok
    = bigSep Finset.univ fun c : Dev nD => iprop(bigSep (Finset.Ico 0 62) (fun u => dutyTok (ER F) ((Cell.ss true (par u)).on c) (u / 2) 0)
        ∗ bigSep (Finset.Ico 0 62) (fun u => dutyTok (ER F) ((Cell.ss false (par u)).on c) (u / 2) 0)) := by
  unfold leaveDuties
  rw [bigSep_map]
  exact by_device 62 fun c b u => dutyTok (ER F) ((Cell.ss b (par u)).on c) (u / 2) 0

theorem word_dealt : bigSep wordDuties tok
    = bigSep Finset.univ fun c : Dev nD => iprop(bigSep (Finset.Ico 0 60) (fun u => dutyTok (ER F) ((Cell.cr true).on (nbr false c)) 0 u)
        ∗ bigSep (Finset.Ico 0 60) (fun u => dutyTok (ER F) ((Cell.cr false).on (nbr true c)) 0 u)) := by
  unfold wordDuties
  rw [bigSep_map]
  refine Eq.trans (by_device 60 fun c b u => dutyTok (ER F) ((Cell.cr b).on c) 0 u) ?_
  exact pass (fun b => (step b).symm) (fun c b => bigSep (Finset.Ico 0 60) fun u => dutyTok (ER F) ((Cell.cr b).on c) 0 u)

/-- The right to fill the slots of the device that `c` sends to. -/
def fills (b : Bool) (c : Dev nD) : sProp (Res F) := bigSep (Finset.Ico 0 62) (fun u => writeTok (ES F) (nbr b c, b, par u) (u / 2 + 1))

def fillEmb : Dev nD × Bool × Fin 62 ↪ Key × ℕ := ⟨fun x => ((x.1, x.2.1, par x.2.2), x.2.2.val / 2), fun x y h => by
  have h1 := congrArg (fun z : Key × ℕ => z.1.1) h
  have h2 := congrArg (fun z : Key × ℕ => z.1.2.1) h
  have h3 := congrArg (fun z : Key × ℕ => z.1.2.2) h
  exact Prod.ext h1 (Prod.ext h2 (hop_inj h3 (congrArg Prod.snd h)))⟩

theorem fills_index : (Finset.univ : Finset Key) ×ˢ Finset.range 31 = Finset.univ.map fillEmb := by
  ext ⟨⟨c, b, p⟩, r⟩
  rw [Finset.mem_product, Finset.mem_range, Finset.mem_map]
  have hp := p.isLt
  constructor
  · rintro ⟨-, h⟩
    have h : r < 31 := h
    refine ⟨(c, b, ⟨2 * r + p.val, by omega⟩), Finset.mem_univ _, ?_⟩
    show ((c, b, par (2 * r + p.val)), (2 * r + p.val) / 2) = ((c, b, p), r)
    rw [show par (2 * r + p.val) = p from Fin.ext (by show (2 * r + p.val) % 2 = p.val; omega), show (2 * r + p.val) / 2 = r by omega]
  · rintro ⟨x, -, h⟩
    refine ⟨Finset.mem_univ _, ?_⟩
    have : x.2.2.val / 2 = r := congrArg Prod.snd h
    have := x.2.2.isLt
    show r < 31
    omega

theorem fills_dealt : bigSep ((Finset.univ : Finset Key) ×ˢ Finset.range 31) (fun x => writeTok (ES F) x.1 (x.2 + 1))
    = bigSep Finset.univ fun c : Dev nD => iprop(fills true c ∗ fills false c) := by
  rw [fills_index, bigSep_map]
  refine Eq.trans (by_device 62 fun c b u => writeTok (ES F) (c, b, par u) (u / 2 + 1)) ?_
  exact pass step (fun c b => bigSep (Finset.Ico 0 62) fun u => writeTok (ES F) (c, b, par u) (u / 2 + 1))

/-- The readers' positions, device by device. -/
theorem readers_dealt : bigSep (Finset.univ : Finset Key) (fun k => readerAt (ES F) k 0)
    = bigSep Finset.univ fun c : Dev nD => iprop((readerAt (ES F) (c, true, 0) 0 ∗ readerAt (ES F) (c, true, 1) 0) ∗ (readerAt (ES F) (c, false, 0) 0 ∗ readerAt (ES F) (c, false, 1) 0)) := by
  rw [bigSep_univ_prod]
  refine bigSep_congr fun c _ => ?_
  rw [bigSep_univ_prod, bigSep_dirs]
  exact congrArg₂ _ (BI.bigSep_fin_two _) (BI.bigSep_fin_two _)

theorem late_dealt : bigSep lateCells (fun g => openTok (ER F) g)
    = bigSep Finset.univ fun c : Dev nD => bigSep Finset.univ fun i : Fin 10 => openTok (ER F) ((late i).on c) := by
  unfold lateCells
  rw [bigSep_map, bigSep_univ_prod]
  rfl

theorem late_list (c : Dev nD) : (bigSep Finset.univ fun i : Fin 10 => openTok (ER F) ((late i).on c))
    = iprop(openTok (ER F) ((Cell.ss true 0).on c) ∗ openTok (ER F) ((Cell.ss true 1).on c) ∗ openTok (ER F) ((Cell.rs true 0).on c) ∗ openTok (ER F) ((Cell.rs true 1).on c)
      ∗ openTok (ER F) ((Cell.cr true).on c) ∗ openTok (ER F) ((Cell.ss false 0).on c) ∗ openTok (ER F) ((Cell.ss false 1).on c)
      ∗ openTok (ER F) ((Cell.rs false 0).on c) ∗ openTok (ER F) ((Cell.rs false 1).on c) ∗ openTok (ER F) ((Cell.cr false).on c)) :=
  bigSep_univ_eq_bigSepL [(0 : Fin 10), 1, 2, 3, 4, 5, 6, 7, 8, 9] (by decide) (by decide) (fun i => openTok (ER F) ((late i).on c))

end Cert.KernelIdeal.AllReduce

end
-- ==== Proof.AllReduce.Host.lean ====
/-
  What the host operations before the kernel leave in the two small operands they make: the product of the two scales, and
  the device's row of the three ring tables.
-/
module

public import proofs.«01_k».proof.Proof.AllReduce.Body
public import proofs.«01_k».proof.Proof.Gen.KernelIdeal.Regions
public import Idealize.ShloMosaic.Lib.StableHlo.RunRead
public import Idealize.ShloMosaic.Lib.Pointwise.ShapeOpsCore
public import Idealize.ShloMosaic.Lib.Pointwise.SelectCore

@[expose] public section

noncomputable section

namespace Cert.KernelIdeal.AllReduce

open Idealize Idealize.ShloMosaic Idealize.ShloMosaic.TcCoe
open Idealize.SL Idealize.SL.Sem
open Cert.KernelIdeal.Gen

variable {F : FTy → Type} [FloatOps F]
variable (m : (ℓ : Loc nD τ sig) → Buf (Elt F) ℓ)

/-- The one index of a vector of one element. -/
def only : S1.Idx := Shape.Idx.first (by decide)

/-- A device's product of the two scales. -/
def scaleOf (c : Dev nD) : Elt F .f32 :=
  mulf (m ((c : Thread nD τ).loc main_arg2) : Vec F S1 .f32) (m ((c : Thread nD τ).loc main_arg3) : Vec F S1 .f32) only

theorem host_scale (c : Dev nD) : V1 m c main_v2 = fun _ => scaleOf m c := by
  unfold V1
  after_reads_simp
  funext i
  unfold scaleOf shapeCast
  have h : ∀ j : S1.Idx, j = only := by decide
  exact congrArg (mulf (m ((c : Thread nD τ).loc main_arg2) : Vec F S1 .f32) (m ((c : Thread nD τ).loc main_arg3) : Vec F S1 .f32)) (h _)

/-- Looking one entry up in a table of 32 by a device's number. -/
theorem lookup (f : Fin 32 → BitVec 32) (c : Dev nD) (start : Fin 1 → Int) (hs : start 0 = (Dev.word c).toInt) (i : S1.Idx) :
    Host.dynamicSlice S1 (fun i => f (S32.rowMajor i)) start sliceFits_S32_S1 i = f c := by
  have h : ∀ (c : Fin 32) (i : S1.Idx), (Dev.word (nD := nD) c).toInt = (c.val : ℤ) ∧ (i 0).val = 0 := by decide
  obtain ⟨h1, h2⟩ := h c i
  have hk : Host.clampedStart S32 S1 rfl start 0 = c.val :=
    Host.clampedStart_of_le (s := S32) (t := S1) rfl start (0 : Fin 1) c.val (hs.trans h1) (show c.val + 1 ≤ 32 from c.isLt)
  rw [Host.dynamicSlice_apply]
  refine congrArg f (Fin.ext ?_)
  rw [Shape.rowMajor_val_one]
  show Host.clampedStart S32 S1 rfl start 0 + (i 0).val = c.val
  rw [hk, h2, Nat.add_zero]

/-- The device's number as the host computes it, wrapped below zero. -/
theorem number (c : Dev nD) :
    (select
      (cmpi CmpIPredicate.slt
        (id (Host.remui (Host.divui (constantI S_ 32 (Dev.word c)) (constantI S_ 32 1#32)) (constantI S_ 32 32#32)))
        (constantI S_ 32 0#32))
      (addi (id (Host.remui (Host.divui (constantI S_ 32 (Dev.word c)) (constantI S_ 32 1#32)) (constantI S_ 32 32#32)))
        (constantI S_ 32 32#32))
      (id (Host.remui (Host.divui (constantI S_ 32 (Dev.word c)) (constantI S_ 32 1#32)) (constantI S_ 32 32#32))) : S_.Idx → BitVec 32) =
    fun _ => Dev.word c := by
  revert c; decide

theorem host_v9 (c : Dev nD) : StableHlo.upto (hostOps0 c) (V0 m c) 16 (Proc.tc.devRef main_v9) = fun _ => Dev.word c := by
  after_reads_simp; exact number c
theorem host_v14 (c : Dev nD) : StableHlo.upto (hostOps0 c) (V0 m c) 23 (Proc.tc.devRef main_v14) = fun _ => Dev.word c := by
  after_reads_simp; exact number c
theorem host_v19 (c : Dev nD) : StableHlo.upto (hostOps0 c) (V0 m c) 30 (Proc.tc.devRef main_v19) = fun _ => Dev.word c := by
  after_reads_simp; exact number c

theorem host_v22 (c : Dev nD) : StableHlo.upto (hostOps0 c) (V0 m c) 35 (Proc.tc.devRef main_v22) = fun _ => lit0 c := by
  after_reads_simp
  funext i
  unfold broadcastInDim shapeCast
  refine lookup lit0 c _ ?_ _
  have e := congrFun (host_v9 m c) (Shape.Idx.first h_S_)
  exact congrArg BitVec.toInt e
theorem host_v23 (c : Dev nD) : StableHlo.upto (hostOps0 c) (V0 m c) 35 (Proc.tc.devRef main_v23) = fun _ => lit1 c := by
  after_reads_simp
  funext i
  unfold broadcastInDim shapeCast
  refine lookup lit1 c _ ?_ _
  have e := congrFun (host_v14 m c) (Shape.Idx.first h_S_)
  exact congrArg BitVec.toInt e
theorem host_v24 (c : Dev nD) : StableHlo.upto (hostOps0 c) (V0 m c) 35 (Proc.tc.devRef main_v24) = fun _ => lit2 c := by
  after_reads_simp
  funext i
  unfold broadcastInDim shapeCast
  refine lookup lit2 c _ ?_ _
  have e := congrFun (host_v19 m c) (Shape.Idx.first h_S_)
  exact congrArg BitVec.toInt e

theorem place_in_three : ∀ i : S1x3.Idx, (Shape.reshapeEquiv shapeCasts_S3_S1x3 i 0).val = (i 1).val := by decide

theorem three (a b d : BitVec 32) (i : S1x3.Idx) :
    shapeCast S1x3 (concatenate S3 0 [⟨S1, fun _ => a⟩, ⟨S1, fun _ => b⟩, ⟨S1, fun _ => d⟩] concatenates_S1_S1_S1_S3_d0) shapeCasts_S3_S1x3 i = ![a, b, d] (i 1) := by
  unfold shapeCast
  rw [concatenate_cons_apply]
  simp only [place_in_three, concatenateAt_cons, concatenateAt_singleton]
  have h : ∀ j : Fin 3, (if j.val < 1 then a else if j.val - 1 < 1 then b else d) = ![a, b, d] j := fun j =>
    match j with
    | 0 => rfl
    | 1 => rfl
    | 2 => rfl
  exact h (i 1)

theorem host_ring (c : Dev nD) : V1 m c main_v26 = ringWords c := by
  unfold V1
  after_reads_simp
  funext i
  have e0 := host_v22 m c
  have e1 := host_v23 m c
  have e2 := host_v24 m c
  show shapeCast S1x3 (concatenate S3 0
          [⟨S1, StableHlo.upto (hostOps0 c) (V0 m c) 35 (Proc.tc.devRef main_v22)⟩,
            ⟨S1, StableHlo.upto (hostOps0 c) (V0 m c) 35 (Proc.tc.devRef main_v23)⟩,
            ⟨S1, StableHlo.upto (hostOps0 c) (V0 m c) 35 (Proc.tc.devRef main_v24)⟩]
          concatenates_S1_S1_S1_S3_d0)
        shapeCasts_S3_S1x3 i = _
  rw [e0, e1, e2]
  exact three _ _ _ i

end Cert.KernelIdeal.AllReduce

end
-- ==== Proof.AllReduce.HopsEq.lean ====
/-
  The printed body is the hops in a row.
-/
module

public import proofs.«01_k».proof.Proof.AllReduce.Hops
public import Idealize.ShloMosaic.Lib.Pipeline.Regions

@[expose] public section

noncomputable section

namespace Cert.KernelIdeal.AllReduce

open Idealize.ShloMosaic Idealize.SL.Sem Cert.KernelIdeal.Gen

variable {F : FTy → Type} [FloatOps F]

set_option maxRecDepth 65536 in
theorem body_eq (arg0 : Memref sig .tc .vmem S4096x128 .fp8e5m2) (harg0 : arg0.IsWhole) (arg1 : Memref sig .tc .vmem S128x2048 .fp8e5m2) (harg1 : arg1.IsWhole) (arg2 : Memref sig .tc .smem S1x1 .f32) (harg2 : arg2.IsWhole) (arg3 : Memref sig .tc .smem S1x3 .i32) (harg3 : arg3.IsWhole) (arg4 : Memref sig .tc .vmem S4096x2048 .f32) (harg4 : arg4.IsWhole) (arg5 : Memref sig .tc .vmem S2x64x2048 .f32) (harg5 : arg5.IsWhole) (arg6 : Memref sig .tc .vmem S2x64x2048 .f32) (harg6 : arg6.IsWhole) (arg7 : DmaSems sig S2) (arg8 : DmaSems sig S2) (arg9 : DmaSems sig S2) (arg10 : DmaSems sig S2) (arg11 : Sems sig S_) (arg12 : Sems sig S_) :
    cc0_body (F := F) arg0 harg0 arg1 harg1 arg2 harg2 arg3 harg3 arg4 harg4 arg5 harg5 arg6 harg6 arg7 arg8 arg9 arg10 arg11 arg12
      = body (F := F) ⟨arg0, arg1, arg2, arg3, arg4, fun b => cond b arg5 arg6, fun b => cond b arg7 arg9, fun b => cond b arg8 arg10, fun b => cond b arg11 arg12⟩ := by
  chain_rfl

end Cert.KernelIdeal.AllReduce

end
-- ==== Proof.AllReduce.Region.lean ====
/-
  The kernel as one region of the program: what the staging buffers hold before and after the body, what the body starts
  from and what it leaves.
-/
module

public import proofs.«01_k».proof.Proof.AllReduce.Host
public import proofs.«01_k».proof.Proof.AllReduce.HopsEq
public import proofs.«01_k».proof.Proof.Gen.KernelIdeal.Points
public import Idealize.ShloMosaic.Lib.Pipeline.RegionTalk
public import Idealize.ShloMosaic.Lib.Pipeline.FrameBody
public import Idealize.ShloMosaic.Lib.Pipeline.ValueKit.Geometry

@[expose] public section

noncomputable section

namespace Cert.KernelIdeal.AllReduce

open Idealize Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat BodyObligation)
open Cert.KernelIdeal.Gen

variable {F : FTy → Type} [FloatOps F]
variable (m : (ℓ : Loc nD τ sig) → Buf (Elt F) ℓ)

/-- A device's two factors. -/
def xOf (c : Dev nD) : Vec F S4096x128 .fp8e5m2 := m ((c : Thread nD τ).loc main_arg0)
def wOf (c : Dev nD) : Vec F S128x2048 .fp8e5m2 := m ((c : Thread nD τ).loc main_arg1)

/-- A device's own product. -/
def Aof (c : Dev nD) : Vec F S4096x2048 .f32 := k0_pay1 (F := F) (xOf m c) (wOf m c)

/-- The result every device ends with. -/
def resultOf : Vec F S4096x2048 .f32 := total (finished (Aof m) (scaleOf m))

/-- What every device may consult: the agreement, under some choice of names. -/
def agreed : sProp (Res F) := iprop(∃ κ : GSem nD τ sig → ℕ, ∃ ν : Key → ℕ, known (Aof m) (scaleOf m) κ ν)

/-- What a device brings to the body beside its buffers and the counters of its own cells. -/
def ticket (c : Dev nD) : sProp (Res F) := iprop(agreed m ∗ greeting c ∗ (fresh true c ∗ fresh false c))

/-- What every point leaves in the staging buffers. -/
def dat (c : Dev nD) : Dat τ (Elt F) ℕ ℕ UU ℕ cfg0 c where
  A w := V1 m c (Pipeline.arrRef spec0 w)
  after w _ := match w with
    | ⟨0, _⟩ => xOf m c
    | ⟨1, _⟩ => wOf m c
    | ⟨2, _⟩ => fun _ => scaleOf m c
    | ⟨3, _⟩ => ringWords c
    | ⟨4, _⟩ => resultOf m
  Φ t := if t.val = 0 then iprop((∃ r, prngReg c r) ∗ ticket m c ∗ (closed true c ∗ closed false c))
    else iprop((∃ r, prngReg c r) ∗ semVal (Cell.bar.on c) 0 ∗ (closed true c ∗ closed false c))
  q _ := fullShare
  owed t := if t.val = 0 then oweAll c else 0

abbrev dats : (p : Fin 1) → (c : Dev nD) → Dat τ (Elt F) ℕ ℕ UU ℕ (Pipeline.pin (pcfgs (F := F)) adm p) c := fun _ c => dat m c

theorem A_eq (c : Dev nD) (w : Fin cfg0.W) : (dat m c).A w = V1 m c (Pipeline.arrRef spec0 w) := by dsimp only [dat]

theorem owed_zero (c : Dev nD) : (dat m c).owed 0 = oweAll c := by dsimp only [dat]; exact if_pos rfl
theorem owed_first (c : Dev nD) : (dat m c).owed (t0_0 : Fin cfg0.N).castSucc = oweAll c := by dsimp only [dat]; exact if_pos rfl
theorem owed_last (c : Dev nD) : (dat m c).owed (Fin.last _) = 0 := by
  dsimp only [dat]
  rw [Fin.val_last, if_neg (by rw [show cfg0.N = 1 from N_0]; decide)]
theorem owed_next (c : Dev nD) : (dat m c).owed (t0_0 : Fin cfg0.N).succ = 0 := by dsimp only [dat]; exact if_neg (by decide)

theorem Φ_zero (c : Dev nD) : (dat m c).Φ 0 = iprop((∃ r, prngReg c r) ∗ ticket m c ∗ (closed true c ∗ closed false c)) := by
  dsimp only [dat]; exact if_pos rfl
theorem Φ_first (c : Dev nD) : (dat m c).Φ (t0_0 : Fin cfg0.N).castSucc = iprop((∃ r, prngReg c r) ∗ ticket m c ∗ (closed true c ∗ closed false c)) := by
  dsimp only [dat]; exact if_pos rfl
theorem Φ_last (c : Dev nD) : (dat m c).Φ (Fin.last _) = iprop((∃ r, prngReg c r) ∗ semVal (Cell.bar.on c) 0 ∗ (closed true c ∗ closed false c)) := by
  dsimp only [dat]; rw [Fin.val_last, if_neg (by rw [show cfg0.N = 1 from N_0]; decide)]
theorem Φ_next (c : Dev nD) : (dat m c).Φ (t0_0 : Fin cfg0.N).succ = iprop((∃ r, prngReg c r) ∗ semVal (Cell.bar.on c) 0 ∗ (closed true c ∗ closed false c)) := by
  dsimp only [dat]; exact if_neg (by decide)

theorem owesAt_intro {c : Dev nD} (t : Fin (cfg0.N + 1)) (O : CellTallies nD τ sig ℕ) (h0 : (dat m c).owed t = O) :
    debt c O ⊢ ((dat m c).owesAt 0 t : sProp (Res F)) := by
  unfold debt Dat.owesAt Pipeline.owesWithin Dat.bound
  rw [h0, show (dat m c).recorded t = Set.univ from rfl]
  iintro ⟨%W, HO⟩
  iexists W; isplitr; · ipureintro; exact fun _ _ => Or.inl trivial
  iexact HO
theorem owesAt_elim {c : Dev nD} (t : Fin (cfg0.N + 1)) (O : CellTallies nD τ sig ℕ) (h0 : (dat m c).owed t = O) :
    ((dat m c).owesAt 0 t : sProp (Res F)) ⊢ debt c O := by
  unfold debt Dat.owesAt Pipeline.owesWithin
  rw [h0]
  iintro ⟨%W, -, HO⟩; iexists W; iexact HO

/-! ## What the staging buffers hold before the body -/

/-- A window that is one whole buffer reads it as it stands. -/
theorem blk_emb_0 (t : Fin cfg0.N) (i) : ((cfg0.win 0).blk t).view.emb i = i := by
  obtain rfl := fin_N0 t
  funext a; apply Fin.ext
  show 0 * _ + 1 * (i a).val = (i a).val
  omega
theorem blk_emb_1 (t : Fin cfg0.N) (i) : ((cfg0.win 1).blk t).view.emb i = i := by
  obtain rfl := fin_N0 t
  funext a; apply Fin.ext
  show 0 * _ + 1 * (i a).val = (i a).val
  omega
theorem blk_emb_2 (t : Fin cfg0.N) (i) : ((cfg0.win 2).blk t).view.emb i = i := by
  obtain rfl := fin_N0 t
  funext a; apply Fin.ext
  show 0 * _ + 1 * (i a).val = (i a).val
  omega
theorem blk_emb_3 (t : Fin cfg0.N) (i) : ((cfg0.win 3).blk t).view.emb i = i := by
  obtain rfl := fin_N0 t
  funext a; apply Fin.ext
  show 0 * _ + 1 * (i a).val = (i a).val
  omega

theorem before_0 (c : Dev nD) (t : Fin cfg0.N) (d) : (dat m c).before 0 t d = xOf m c := by
  rw [(dat m c).before_fetched 0 t (fetch0_0 t) d]
  show ((cfg0.win 0).blk t).view.read (Elt F) ((dat m c).A 0) = _
  rw [A_eq]
  funext i
  show V1 m c main_arg0 (((cfg0.win 0).blk t).view.emb i) = _
  rw [blk_emb_0]
  exact congrFun (V1_of m c main_arg0 (by decide)) i

theorem before_1 (c : Dev nD) (t : Fin cfg0.N) (d) : (dat m c).before 1 t d = wOf m c := by
  rw [(dat m c).before_fetched 1 t (fetch0_1 t) d]
  show ((cfg0.win 1).blk t).view.read (Elt F) ((dat m c).A 1) = _
  rw [A_eq]
  funext i
  show V1 m c main_arg1 (((cfg0.win 1).blk t).view.emb i) = _
  rw [blk_emb_1]
  exact congrFun (V1_of m c main_arg1 (by decide)) i

theorem before_2 (c : Dev nD) (t : Fin cfg0.N) (d) : (dat m c).before 2 t d = (fun _ => scaleOf m c) := by
  rw [(dat m c).before_fetched 2 t (fetch0_2 t) d]
  show ((cfg0.win 2).blk t).view.read (Elt F) ((dat m c).A 2) = _
  rw [A_eq]
  funext i
  show V1 m c main_v2 (((cfg0.win 2).blk t).view.emb i) = _
  rw [blk_emb_2]
  exact congrFun (host_scale m c) i

theorem before_3 (c : Dev nD) (t : Fin cfg0.N) (d) : (dat m c).before 3 t d = ringWords c := by
  rw [(dat m c).before_fetched 3 t (fetch0_3 t) d]
  show ((cfg0.win 3).blk t).view.read (Elt F) ((dat m c).A 3) = _
  rw [A_eq]
  funext i
  show V1 m c main_v26 (((cfg0.win 3).blk t).view.emb i) = _
  rw [blk_emb_3]
  exact congrFun (host_ring m c) i

/-! ## The body -/

theorem defs₀_row (t : Fin cfg0.N) : defs₀ (F := F) .tc cfg0.body (cfg0.bodyArgs t (cfg0.slots t)) = bodyAt0 t := by
  unfold defs₀; rw [Defs.onTc_tc]

theorem body_at (t : Fin cfg0.N) : bodyAt0 (F := F) t = body win := by
  obtain rfl := fin_N0 t
  exact body_eq ..

theorem body_obligation (c : Dev nD) : BodyObligation (dat m c) (defs₀ (F := F)) 𝒱₀ (0 : ℕ) Set.univ := fun t => by
  obtain rfl := fin_N0 t
  rw [bigSep_W0, bigSep_W0, defs₀_row, body_at, Φ_first, Φ_next]
  unfold ticket agreed
  iintro ⟨⟨Hp, ⟨⟨%κ, %ν, HK⟩, Hg, Hf⟩, Hc⟩, HO, ⟨%d0, H0⟩, ⟨%d1, H1⟩, ⟨%d2, H2⟩, ⟨%d3, H3⟩, ⟨%d4, H4⟩⟩
  rw [before_0, before_1, before_2, before_3]
  ihave HO := (owesAt_elim m _ (oweAll c) (owed_first m c)) $$ HO
  iapply (does_body (A := Aof m) (s := scaleOf m) (κ := κ) (ν := ν) (c := c) (xOf m c) (wOf m c) rfl ((dat m c).before 4 t0_0 d4) _) $$ [HK HO H0 H1 H2 H3 H4 Hg Hf Hc]
  · isplitl [HK]; · iexact HK
    isplitl [HO]; · iexact HO
    isplitl [H0 H1 H2 H3]
    · unfold inputs factorsAt scaleAt ringAt
      isplitl [H0 H1]
      · isplitl [H0]; · iexact H0
        iexact H1
      isplitl [H2]; · iexact H2
      iexact H3
    isplitl [H4]; · iexact H4
    isplitl [Hg]; · iexact Hg
    isplitl [Hf]; · iexact Hf
    iexact Hc
  unfold inputs factorsAt scaleAt ringAt
  iintro ⟨HO, ⟨⟨H0, H1⟩, H2, H3⟩, H4, Hc, Hb⟩
  isplitl [Hp Hb Hc]
  · isplitl [Hp]; · iexact Hp
    isplitl [Hb]; · iexact Hb
    iexact Hc
  isplitl [HO]; · iapply (owesAt_intro m _ 0 (owed_next m c)); iexact HO
  isplitl [H0]; · iexact H0
  isplitl [H1]; · iexact H1
  isplitl [H2]; · iexact H2
  isplitl [H3]; · iexact H3
  iexact H4

/-! ## The region -/

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- A device's own counters: every cell but the barrier's. -/
def ownSem : Fin 10 → SemLoc sig := ![.dma 5, .dma 6, .dma 7, .dma 8, .reg 0, .dma 9, .dma 10, .dma 11, .dma 12, .reg 1]

/-- The counters of one direction. -/
def counters (b : Bool) (c : Dev nD) : sProp (Res F) :=
  iprop((semVal ((Cell.ss b 0).on c) 0 ∗ semVal ((Cell.ss b 1).on c) 0) ∗ (semVal ((Cell.rs b 0).on c) 0 ∗ semVal ((Cell.rs b 1).on c) 0) ∗ semVal ((Cell.cr b).on c) 0)

theorem ownSems_eq (c : Dev nD) : (Pipeline.ownSems0 ownSem c : sProp (Res F))
    = iprop(semVal ((Cell.ss true 0).on c) 0 ∗ semVal ((Cell.ss true 1).on c) 0 ∗ semVal ((Cell.rs true 0).on c) 0 ∗ semVal ((Cell.rs true 1).on c) 0 ∗ semVal ((Cell.cr true).on c) 0 ∗ semVal ((Cell.ss false 0).on c) 0 ∗ semVal ((Cell.ss false 1).on c) 0 ∗ semVal ((Cell.rs false 0).on c) 0 ∗ semVal ((Cell.rs false 1).on c) 0 ∗ semVal ((Cell.cr false).on c) 0) :=
  bigSep_univ_eq_bigSepL [(0 : Fin 10), 1, 2, 3, 4, 5, 6, 7, 8, 9] (by decide) (by decide) (fun k => (semVal ((c.tc : Thread nD τ), ownSem k) 0 : sProp (Res F)))

theorem own_split (c : Dev nD) : (Pipeline.ownSems0 ownSem c : sProp (Res F)) ⊢ iprop(counters true c ∗ counters false c) := by
  rw [ownSems_eq]
  unfold counters
  iintro ⟨H0, H1, H2, H3, H4, H5, H6, H7, H8, H9⟩
  isplitl [H0 H1 H2 H3 H4]
  · isplitl [H0 H1]; · (isplitl [H0]; · iexact H0); iexact H1
    isplitl [H2 H3]; · (isplitl [H2]; · iexact H2); iexact H3
    iexact H4
  · isplitl [H5 H6]; · (isplitl [H5]; · iexact H5); iexact H6
    isplitl [H7 H8]; · (isplitl [H7]; · iexact H7); iexact H8
    iexact H9

theorem own_join (c : Dev nD) : iprop(counters true c ∗ counters false c) ⊢ (Pipeline.ownSems0 ownSem c : sProp (Res F)) := by
  rw [ownSems_eq]
  unfold counters
  iintro ⟨⟨⟨H0, H1⟩, ⟨H2, H3⟩, H4⟩, ⟨H5, H6⟩, ⟨H7, H8⟩, H9⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem set_comm : ∀ b : Bool, (win.comm b).view.set = Finset.univ
  | true => (Memref.isWhole_whole cc0_scratch0).set_eq_univ
  | false => (Memref.isWhole_whole cc0_scratch1).set_eq_univ

theorem commAny_true (c : Dev nD) : commAny (F := F) true c
    = iprop(∃ f : Buf (Elt F) ((c : Thread nD τ).loc cc0_scratch0), ((c : Thread nD τ).loc cc0_scratch0) ↦{fullShare} f) := by
  unfold commAny Release.slot
  rw [set_comm true]
  rfl
theorem commAny_false (c : Dev nD) : commAny (F := F) false c
    = iprop(∃ f : Buf (Elt F) ((c : Thread nD τ).loc cc0_scratch1), ((c : Thread nD τ).loc cc0_scratch1) ↦{fullShare} f) := by
  unfold commAny Release.slot
  rw [set_comm false]
  rfl

/-- The scratch buffers, whole, are the two directions' slots. -/
theorem scratch_eq (c : Dev nD) : (Pipeline.scopedRest spec0 c : sProp (Res F)) = iprop(commAny true c ∗ commAny false c) := by
  rw [scopedRest0_eq, commAny_true, commAny_false]

theorem closed_of (b : Bool) (c : Dev nD) : iprop(commAny (F := F) b c ∗ counters b c) ⊢ closed b c := by
  unfold closed counters
  iintro ⟨H, Hc⟩
  isplitl [H]; · iapply (comm_split (c := c) b); iexact H
  iexact Hc
theorem of_closed (b : Bool) (c : Dev nD) : closed b c ⊢ iprop(commAny (F := F) b c ∗ counters b c) := by
  unfold closed counters
  iintro ⟨H, Hc⟩
  isplitl [H]; · iapply (comm_join (c := c) b); iexact H
  iexact Hc

/-- A device's buffers at the end: the result where it belongs, the rest as the host operations left them. -/
def lastV (c : Dev nD) : Valuation τ sig (Elt F) := Function.update (V1 m c) (Proc.devRef .tc main_v27) (resultOf m)

theorem lastV_result (c : Dev nD) : lastV m c main_v27 = resultOf m := Function.update_self ..
theorem lastV_of (c : Dev nD) (b : DevRef τ sig) (h : b ≠ Proc.devRef .tc main_v27) : lastV m c b = V1 m c b := Function.update_of_ne h ..

theorem arr_last (c : Dev nD) : ∀ w, (dat m c).arrAt w cfg0.N = lastV m c (Proc.devRef .tc (Pipeline.arrRef spec0 w))
  | 0 => ((dat m c).arrAt_in 0 rfl _).trans ((A_eq m c 0).trans (lastV_of m c _ (by decide)).symm)
  | 1 => ((dat m c).arrAt_in 1 rfl _).trans ((A_eq m c 1).trans (lastV_of m c _ (by decide)).symm)
  | 2 => ((dat m c).arrAt_in 2 rfl _).trans ((A_eq m c 2).trans (lastV_of m c _ (by decide)).symm)
  | 3 => ((dat m c).arrAt_in 3 rfl _).trans ((A_eq m c 3).trans (lastV_of m c _ (by decide)).symm)
  | 4 => by
    refine Eq.trans ?_ (lastV_result m c).symm
    exact (dat m c).arrAt_eq_of_after_last 4 t0_0 (by decide +kernel) _ (fun j => rfl)

theorem oweAll_above (c : Dev nD) : Above 0 (oweAll c) :=
  ((owe_above c true (by omega) (by omega)).add (owe_above c false (by omega) (by omega))).add
    ((Above.tally (by omega) (by decide)).add (Above.tally (by omega) (by decide)))

/-- The staging buffers' own counters stand at the lowest level. -/
theorem staging_low : ∀ (c : Dev nD) (w : Fin 5) (s : Fin (spec0 w).nbuf), lv ((c : Thread nD τ), .dma ((spec0 w).sem s)) 0 ≤ 0
  | _, 0, s => by revert s; show ∀ s : Fin 1, lvOf (Cell.of (.dma ((spec0 0).sem s))) 0 ≤ 0; decide
  | _, 1, s => by revert s; show ∀ s : Fin 1, lvOf (Cell.of (.dma ((spec0 1).sem s))) 0 ≤ 0; decide
  | _, 2, s => by revert s; show ∀ s : Fin 1, lvOf (Cell.of (.dma ((spec0 2).sem s))) 0 ≤ 0; decide
  | _, 3, s => by revert s; show ∀ s : Fin 1, lvOf (Cell.of (.dma ((spec0 3).sem s))) 0 ≤ 0; decide
  | _, 4, s => by revert s; show ∀ s : Fin 1, lvOf (Cell.of (.dma ((spec0 4).sem s))) 0 ≤ 0; decide

theorem rest_kept {b : DevRef τ sig} (hb : b ∈ (Pipeline.ucRefs τ sig \ Pipeline.arrRefs spec0) \ ∅) : b ≠ Proc.devRef .tc main_v27 := fun e => by
  rw [Finset.sdiff_empty, Finset.mem_sdiff, e] at hb
  exact hb.2 (by decide)

theorem cut (c : Dev nD) (t : Fin ((Pipeline.pin (pcfgs (F := F)) adm 0).N + 1)) (g : GSem nD τ sig) (i : ℕ)
    (h : 0 < (dats (F := F) m 0 c).owed t g i) : i ∈ L g ∧ 0 < lv g i := by
  have e : (dats (F := F) m 0 c).owed t = if t.val = 0 then oweAll c else 0 := rfl
  rw [e] at h
  split at h
  · exact oweAll_above c g i h
  · exact absurd h (Nat.lt_irrefl 0)

theorem enter (c : Dev nD) : iprop(Pipeline.scopedRest spec0 c ∗ (∃ r, prngReg c r) ∗ StableHlo.held (c.tc : Thread nD τ) ∅ (V1 m c) ∗ (ticket m c ∗ Pipeline.ownSems0 ownSem c))
    ⊢ (dat m c).Φ 0 := by
  rw [Φ_zero, scratch_eq]
  iintro ⟨Hs, Hp, -, Ht, Ho⟩
  ihave Ho := (own_split c) $$ Ho
  icases Hs with ⟨Hs, Hs'⟩
  icases Ho with ⟨Ho, Ho'⟩
  isplitl [Hp]; · iexact Hp
  isplitl [Ht]; · iexact Ht
  isplitl [Hs Ho]
  · iapply (closed_of true c); isplitl [Hs] <;> iassumption
  · iapply (closed_of false c); isplitl [Hs'] <;> iassumption

theorem leave (c : Dev nD) : (dat m c).Φ (Fin.last _)
    ⊢ iprop(Pipeline.scopedRest spec0 c ∗ (∃ r, prngReg c r) ∗ StableHlo.held (c.tc : Thread nD τ) ∅ (lastV m c) ∗ Pipeline.ownSems0 ownSem c ∗ semVal (Cell.bar.on c) 0) := by
  rw [Φ_last, scratch_eq]
  iintro ⟨Hp, Hb, Hc, Hc'⟩
  ihave Hc := (of_closed true c) $$ Hc
  ihave Hc' := (of_closed false c) $$ Hc'
  icases Hc with ⟨Hs, Ho⟩
  icases Hc' with ⟨Hs', Ho'⟩
  isplitl [Hs Hs']; · isplitl [Hs] <;> iassumption
  isplitl [Hp]; · iexact Hp
  isplitr
  · unfold StableHlo.held; rw [bigSep_empty]; iempintro
  isplitl [Ho Ho']; · iapply (own_join c); isplitl [Ho] <;> iassumption
  iexact Hb

set_option backward.isDefEq.respectTransparency.types false in
/-- The kernel's region: entered with a ticket and everything owed, left with the barrier at zero and nothing owed. -/
def region : Pipeline.RegionSeg (pcfgs (F := F)) adm (dats m) (0 : ℕ) defs₀ 𝒱₀ L lv 0 :=
  Pipeline.RegionSeg.ofTalk (pcfgs (F := F)) adm (dats m) 0 defs₀ 𝒱₀ L lv 0 ownSem (by decide : Pipeline.OwnSemFacts spec0 ownSem)
    ∅ (Pipeline.ucRefs τ sig \ Pipeline.arrRefs spec0) (Finset.empty_subset _) kit rfl (fun c => (body_obligation m c).loose)
    (fun _ => 0) oweAll (fun c => (owed_zero m c).trans (zero_add _).symm) (owed_last m) (fun _ => rfl)
    (fun c => (dats m 0 c).share_full fun _ => rfl)
    (V1 m) (lastV m) (fun c b hb => lastV_of m c b (rest_kept hb))
    (ticket m) (fun c => semVal (Cell.bar.on c) 0) (fun c => iprop(ticket m c ∗ Pipeline.ownSems0 ownSem c)) (fun c => semVal (Cell.bar.on c) 0)
    (fun c => by iintro ⟨Ht, Ho, -⟩; imodintro; isplitl [Ht] <;> iassumption) (enter m) (leave m)
    (fun c => by iintro H; imodintro; iexact H)
    (fun _ => 0)
    ⟨fun _ w s => by rw [L_tc]; decide, fun c w s => staging_low c w s, fun c t g i h => cut m c t g i h⟩
    (fun _ => iprop(emp))
    (fun c w => A_eq m c w) (arr_last m)

end Cert.KernelIdeal.AllReduce

end
-- ==== Proof.AllReduce.Launch.lean ====
/-
  From the memory at launch to the region: the agreement made, every device given its ticket.
-/
module

public import proofs.«01_k».proof.Proof.AllReduce.Tokens
public import proofs.«01_k».proof.Proof.AllReduce.Region

@[expose] public section

noncomputable section

namespace Cert.KernelIdeal.AllReduce

open Idealize Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]
variable (m : (ℓ : Loc nD τ sig) → Buf (Elt F) ℓ) (ρ : Dev nD → PrngReg)

/-- The ghost state at launch: the pipeline's, the ring's, the slots'. -/
def seed : UU :=
  (initOf (Pipeline.cells (Pipeline.pin (pcfgs (F := F)) adm) cellOf_inj) (Pipeline.launchToks (Pipeline.pin (pcfgs (F := F)) adm) cellOf_inj),
    launchOf barCells lateCells allDuties, initSlots Finset.univ 31)

/-- What of it is the kernel's own. -/
def ringSeed : sProp (Res F) := iprop(BI.own (ER F (launchOf barCells lateCells allDuties)) ∗ BI.own (ES F (initSlots Finset.univ 31)))

/-- All of a thing on device 0, nothing on the others. -/
def parked (X : sProp (Res F)) (c : Dev nD) : sProp (Res F) := if c = 0 then X else iprop(emp)
theorem parked_eq (X : sProp (Res F)) : bigSep Finset.univ (parked X) = X := by
  rw [bigSep_univ_at _ (0 : Dev nD), bigSep_congr (s := Finset.univ.erase 0) (Ψ := fun _ => (BI.emp : sProp (Res F)))
      fun c hc => by unfold parked; rw [if_neg (Finset.ne_of_mem_erase hc)]; rfl, BI.bigSep_emp_const]
  unfold parked; rw [if_pos rfl]
  exact BI.equiv_iff.mp sep_emp

theorem seed_split : (ownU (seed (F := F)) : sProp (Res F))
    ⊢ |={Set.univ}=> iprop(BI.own (EP F (initOf (Pipeline.cells (Pipeline.pin (pcfgs (F := F)) adm) cellOf_inj) (Pipeline.launchToks (Pipeline.pin (pcfgs (F := F)) adm) cellOf_inj)))
      ∗ bigSep Finset.univ (parked ringSeed)) := by
  rw [parked_eq]
  unfold seed ringSeed
  iintro H
  ihave H := (ownU_pair _ _) $$ H
  icases H with ⟨HP, HX⟩
  ihave HX := (own_pair_emb _ _ _) $$ HX
  imodintro
  isplitl [HP]; · iexact HP
  iexact HX

/-- What every device may consult. -/
def records (κ : GSem nD τ sig → ℕ) (ν : Key → ℕ) : sProp (Res F) :=
  iprop((bigSep (barCells ∪ lateCells) fun g => cellInv (ER F) (rd (Aof m) (scaleOf m)) (κ g) g) ∗ (bigSep barCells fun g => reached (ER F) g 0)
    ∗ (bigSep Finset.univ fun k : Key => slotInv (ES F) (ν k) k (slotAny F k)) ∗ levels F)

instance (κ : GSem nD τ sig → ℕ) (ν : Key → ℕ) : BI.Persistent (records m κ ν) := by unfold records; infer_instance

theorem reached_at (c : Dev nD) : (bigSep barCells fun g => (reached (ER F) g 0 : sProp (Res F))) ⊢ reached (ER F) (Cell.bar.on c) 0 :=
  bigSep_elim (Finset.mem_map_of_mem barEmb (Finset.mem_univ c))

theorem cells_known (κ : GSem nD τ sig → ℕ) : (bigSep (barCells ∪ lateCells) fun g => cellInv (ER F) (rd (Aof m) (scaleOf m)) (κ g) g)
    ⊢ heard (fun x : Cell × Dev nD => cellInv (ER F) (rd (Aof m) (scaleOf m)) (κ (x.1.on x.2)) (x.1.on x.2)) Finset.univ :=
  bigSep_intro_persistent fun x _ => bigSep_elim (cell_mem x.1 x.2)

theorem agreed_of (κ : GSem nD τ sig → ℕ) (ν : Key → ℕ) : records m κ ν ⊢ agreed m := by
  unfold records agreed known
  iintro ⟨#HI, -, #HS, #HL⟩
  iexists κ; iexists ν
  isplitr; · iapply (cells_known m κ); iexact HI
  isplitr; · iexact HS
  iexact HL

/-- What is dealt to device `c`. -/
def dealtTo (c : Dev nD) : sProp (Res F) :=
  iprop(atPos (ER F) (Cell.bar.on c) 0 ∅ 0
    ∗ (bigSep Finset.univ fun i : Fin 10 => openTok (ER F) ((late i).on c))
    ∗ (dutyTok (ER F) (Cell.bar.on (nbr true c)) 0 1 ∗ dutyTok (ER F) (Cell.bar.on (nbr false c)) 0 0)
    ∗ (bigSep (Finset.Ico 0 62) (fun u => dutyTok (ER F) ((Cell.rs true (par u)).on (nbr true c)) (u / 2) 0)
        ∗ bigSep (Finset.Ico 0 62) (fun u => dutyTok (ER F) ((Cell.rs false (par u)).on (nbr false c)) (u / 2) 0))
    ∗ (bigSep (Finset.Ico 0 62) (fun u => dutyTok (ER F) ((Cell.ss true (par u)).on c) (u / 2) 0)
        ∗ bigSep (Finset.Ico 0 62) (fun u => dutyTok (ER F) ((Cell.ss false (par u)).on c) (u / 2) 0))
    ∗ (bigSep (Finset.Ico 0 60) (fun u => dutyTok (ER F) ((Cell.cr true).on (nbr false c)) 0 u)
        ∗ bigSep (Finset.Ico 0 60) (fun u => dutyTok (ER F) ((Cell.cr false).on (nbr true c)) 0 u))
    ∗ ((readerAt (ES F) (c, true, 0) 0 ∗ readerAt (ES F) (c, true, 1) 0) ∗ (readerAt (ES F) (c, false, 0) 0 ∗ readerAt (ES F) (c, false, 1) 0))
    ∗ (fills true c ∗ fills false c))

theorem spends (b : Bool) (c : Dev nD) :
    iprop(bigSep (Finset.Ico 0 62) (fun u => dutyTok (ER F) ((Cell.rs b (par u)).on (nbr b c)) (u / 2) 0)
      ∗ bigSep (Finset.Ico 0 62) (fun u => dutyTok (ER F) ((Cell.ss b (par u)).on c) (u / 2) 0)
      ∗ fills b c ∗ bigSep (Finset.Ico 0 62) (fun u => cred (tallyAt ((Cell.rs b (par u)).on c) u N)))
    ⊢ bigSep (Finset.Ico 0 62) (spend F b c) := by
  unfold spend fills
  rw [bigSep_sep', bigSep_sep', bigSep_sep']

theorem ticket_of (κ : GSem nD τ sig → ℕ) (ν : Key → ℕ) (c : Dev nD) : iprop(records m κ ν ∗ (dealtTo c ∗ credits c)) ⊢ ticket m c := by
  unfold dealtTo credits ticket
  rw [late_list]
  iintro ⟨#HR, ⟨Hat, ⟨H0, H1, H2, H3, H4, H5, H6, H7, H8, H9⟩, ⟨Hm, Hm'⟩, ⟨Ha, Ha'⟩, ⟨Hl, Hl'⟩, ⟨Hw, Hw'⟩, ⟨Hr, Hr'⟩, ⟨Hf, Hf'⟩⟩, Hcb, ⟨Hca, Hcw⟩, ⟨Hca', Hcw'⟩⟩
  isplitr; · iapply (agreed_of m κ ν); iexact HR
  unfold records
  icases HR with ⟨-, #Hre, -⟩
  isplitl [Hat Hm Hm' Hcb]
  · unfold greeting
    isplitl [Hm Hm']; · (isplitl [Hm']; · iexact Hm'); iexact Hm
    isplitr
    · isplitr; · iapply (reached_at (F := F) (nbr false c)); iexact Hre
      iapply (reached_at (F := F) (nbr true c)); iexact Hre
    isplitl [Hat]; · iexact Hat
    iexact Hcb
  isplitl [H0 H1 H2 H3 H4 Ha Hl Hw Hr Hf Hca Hcw]
  · unfold fresh
    isplitl [H0 H1]; · (isplitl [H0]; · iexact H0); iexact H1
    isplitl [H2 H3]; · (isplitl [H2]; · iexact H2); iexact H3
    isplitl [H4]; · iexact H4
    isplitl [Hr]; · iexact Hr
    isplitl [Ha Hl Hf Hca]
    · iapply (spends true c)
      isplitl [Ha]; · iexact Ha
      isplitl [Hl]; · iexact Hl
      isplitl [Hf]; · iexact Hf
      iexact Hca
    isplitl [Hw]; · iexact Hw
    iexact Hcw
  · unfold fresh
    isplitl [H5 H6]; · (isplitl [H5]; · iexact H5); iexact H6
    isplitl [H7 H8]; · (isplitl [H7]; · iexact H7); iexact H8
    isplitl [H9]; · iexact H9
    isplitl [Hr']; · iexact Hr'
    isplitl [Ha' Hl' Hf' Hca']
    · iapply (spends false c)
      isplitl [Ha']; · iexact Ha'
      isplitl [Hl']; · iexact Hl'
      isplitl [Hf']; · iexact Hf'
      iexact Hca'
    isplitl [Hw']; · iexact Hw'
    iexact Hcw'

end Cert.KernelIdeal.AllReduce

end
-- ==== Proof.AllReduce.Main.lean ====
/-
  The run of the whole program, over any floats: every device's result and arguments, every counter at zero.
-/
module

public import proofs.«01_k».proof.Proof.AllReduce.Launch
public import proofs.«01_k».proof.Proof.AllReduce.Credits

@[expose] public section

noncomputable section

namespace Cert.KernelIdeal.AllReduce

open Idealize Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]
variable (m : (ℓ : Loc nD τ sig) → Buf (Elt F) ℓ) (ρ : Dev nD → PrngReg)

theorem zip {Φ Ψ : Dev nD → sProp (Res F)} : iprop(bigSep Finset.univ Φ ∗ bigSep Finset.univ Ψ) ⊢ bigSep Finset.univ (fun c => iprop(Φ c ∗ Ψ c)) :=
  Entails.of_eq (bigSep_sep' _ _ _).symm
theorem unzip {Φ Ψ : Dev nD → sProp (Res F)} : bigSep Finset.univ (fun c => iprop(Φ c ∗ Ψ c)) ⊢ iprop(bigSep Finset.univ Φ ∗ bigSep Finset.univ Ψ) :=
  Entails.of_eq (bigSep_sep' _ _ _)

/-- What rides beside the buffers up to the region. -/
def aboard (c : Dev nD) : sProp (Res F) :=
  iprop((∃ r, prngReg c r) ∗ ticket m c ∗ ∃ W, owes (Dev.tc c : Thread nD τ) (oweAll c) W)

/-- A device's part at launch. -/
def atStart (c : Dev nD) : sProp (Res F) :=
  iprop(StableHlo.held (c : Thread nD τ) (Pipeline.ucRefs τ sig) (V0 m c) ∗ aboard m c)

/-- A device's part at the end. -/
def atEnd (c : Dev nD) : sProp (Res F) :=
  iprop(StableHlo.held (c : Thread nD τ) (Pipeline.ucRefs τ sig) (lastV m c) ∗ semVal (Cell.bar.on c) 0)

/-- What of a device's launch holdings is not the protocol's. -/
def luggage (c : Dev nD) : sProp (Res F) :=
  iprop(StableHlo.held (c : Thread nD τ) (Pipeline.ucRefs τ sig) (V0 m c) ∗ owes (Dev.tc c : Thread nD τ) (oweAll c) ∅ ∗ ∃ r, prngReg c r)

theorem atStart_of (κ : GSem nD τ sig → ℕ) (ν : Key → ℕ) (c : Dev nD) :
    iprop(records m κ ν ∗ ((dealtTo c ∗ credits c) ∗ luggage m c)) ⊢ atStart m c := by
  unfold luggage atStart aboard
  iintro ⟨#HR, Hd, Hh, HO, Hp⟩
  isplitl [Hh]; · iexact Hh
  isplitl [Hp]; · iexact Hp
  isplitl [Hd]
  · iapply (ticket_of m κ ν c)
    isplitr; · iexact HR
    iexact Hd
  iexists ∅; iexact HO

theorem unscoped_bar (c : Dev nD) : (unscopedSems0 c : sProp (Res F)) = semVal (Cell.bar.on c) 0 := by
  unfold unscopedSems0
  rw [show (Finset.univ.filter fun sm : SemLoc sig => ¬ sm.isScoped .tc) = {SemLoc.reg 2} from by decide, BI.bigSep_singleton]
  rfl

/-- One device's launch holdings, sorted. -/
theorem unpack (c : Dev nD) : iprop(unscopedBufs c (fun b => m ((c : Thread nD τ).loc b)) ∗ unscopedSems0 c
        ∗ owes (c : Thread nD τ) (oweAll c) ∅ ∗ Pipeline.launchCred oweAll c ∗ prngReg c (ρ c) ∗ parked ringSeed c)
      ⊢ (iprop(credits c ∗ luggage m c ∗ semVal (Cell.bar.on c) 0 ∗ parked ringSeed c) : sProp (Res F)) := by
  rw [show unscopedBufs c (fun b => m ((c : Thread nD τ).loc b)) = StableHlo.held (c : Thread nD τ) (Pipeline.ucRefs τ sig) (V0 m c)
      from Pipeline.unscopedBufs_held (Ix := ℕ) (Name := ℕ) (U := UU) (Lvl := ℕ) c (V0 m c), unscoped_bar]
  unfold luggage
  iintro ⟨Hh, Hs, HO, Hc, Hp, HG⟩
  isplitl [Hc]; · iapply (credits_of c); iexact Hc
  isplitl [Hh HO Hp]
  · isplitl [Hh]; · iexact Hh
    isplitl [HO]; · iexact HO
    iexists (ρ c); iexact Hp
  isplitl [Hs]; · iexact Hs
  iexact HG

theorem duties_apart : (bigSep allDuties fun x => (dutyTok (ER F) x.1 x.2.1 x.2.2 : sProp (Res F)))
    = iprop(bigSep meetDuties tok ∗ bigSep arriveDuties tok ∗ bigSep leaveDuties tok ∗ bigSep wordDuties tok) := by
  unfold allDuties
  rw [bigSep_union disjoint_meet, bigSep_union disjoint_arrive, bigSep_union disjoint_leave]
  rfl

theorem dealing : iprop(bigSep barCells (fun g => atPos (ER F) g 0 ∅ 0) ∗ bigSep lateCells (fun g => openTok (ER F) g)
      ∗ (bigSep allDuties fun x => dutyTok (ER F) x.1 x.2.1 x.2.2)
      ∗ bigSep (Finset.univ : Finset Key) (fun k => readerAt (ES F) k 0)
      ∗ bigSep ((Finset.univ : Finset Key) ×ˢ Finset.range 31) (fun x => writeTok (ES F) x.1 (x.2 + 1)))
    ⊢ (bigSep Finset.univ dealtTo : sProp (Res F)) := by
  rw [duties_apart, late_dealt, meet_dealt, arrive_dealt, leave_dealt, word_dealt, readers_dealt, fills_dealt,
    show bigSep barCells (fun g => (atPos (ER F) g 0 ∅ 0 : sProp (Res F))) = bigSep Finset.univ (fun c : Dev nD => atPos (ER F) (Cell.bar.on c) 0 ∅ 0)
      from bigSep_map barEmb]
  iintro ⟨Ha, Ho, ⟨Hm, Hr, Hl, Hw⟩, Hp, Hf⟩
  unfold dealtTo
  iapply zip; isplitl [Ha]; · iexact Ha
  iapply zip; isplitl [Ho]; · iexact Ho
  iapply zip; isplitl [Hm]; · iexact Hm
  iapply zip; isplitl [Hr]; · iexact Hr
  iapply zip; isplitl [Hl]; · iexact Hl
  iapply zip; isplitl [Hw]; · iexact Hw
  iapply zip; isplitl [Hp]; · iexact Hp
  iexact Hf

theorem init : iprop((bigSep Finset.univ fun c : Dev nD => iprop(unscopedBufs c (fun b => m ((c : Thread nD τ).loc b)) ∗ unscopedSems0 c
          ∗ owes (c : Thread nD τ) (oweAll c) ∅ ∗ Pipeline.launchCred oweAll c ∗ prngReg c (ρ c) ∗ parked ringSeed c)) ∗ levAts L lv)
      ⊢ (|={Set.univ}=> bigSep Finset.univ (atStart m) : sProp (Res F)) := by
  rw [← levels_eq]
  have hv : bigSep Finset.univ (fun c : Dev nD => (semVal (Cell.bar.on c) 0 : sProp (Res F))) ⊢ bigSep barCells (fun g => (semVal g 0 : sProp (Res F))) :=
    Entails.of_eq (bigSep_map (s := Finset.univ) barEmb (Φ := fun g : GSem nD τ sig => (semVal g 0 : sProp (Res F)))).symm
  have hg : (bigSep Finset.univ (parked ringSeed) : sProp (Res F))
      ⊢ iprop(BI.own (ER F (launchOf barCells lateCells allDuties)) ∗ BI.own (ES F (initSlots Finset.univ 31))) := by
    rw [parked_eq]; unfold ringSeed; exact BI.Entails.refl _
  refine BIBase.Entails.trans (BIClass.sep_mono (bigSep_mono fun c _ => unpack m ρ c) (BI.Entails.refl _)) ?_
  iintro ⟨H, #HL⟩
  ihave H1 := unzip $$ H; icases H1 with ⟨HC, H2⟩
  ihave H3 := unzip $$ H2; icases H3 with ⟨HB, H4⟩
  ihave H5 := unzip $$ H4; icases H5 with ⟨Hv, HG⟩
  ihave HG := hg $$ HG
  icases HG with ⟨HD, HS⟩
  imod (slots_init (ES F) Finset.univ 31 (slotAny F)) $$ HS with ⟨%ν, -, #Hsl, Hrd, Hwr⟩
  imod (Rounds.fund_launch (ER F) (rd (Aof m) (scaleOf m)) disjoint_cells (fun g _ h => h) allDuties) $$ [Hv HD] with ⟨%κ, -, #Hinv, #Hr, Hat, Hopen, Htok⟩
  · isplitl [Hv]
    · iapply hv $$ Hv
    · iexact HD
  imodintro
  iapply (bigSep_with_persistent (R := records m κ ν) (Φ := fun c => iprop((dealtTo c ∗ credits c) ∗ luggage m c)) fun c _ => atStart_of m κ ν c)
  isplitr
  · unfold records
    isplitr; · iexact Hinv
    isplitr; · iexact Hr
    isplitr; · iexact Hsl
    iexact HL
  iapply zip
  isplitr [HB]
  · iapply zip
    isplitr [HC]
    · iapply (dealing (F := F))
      isplitl [Hat]; · iexact Hat
      isplitl [Hopen]; · iexact Hopen
      isplitl [Htok]; · iexact Htok
      isplitl [Hrd]; · iexact Hrd
      iexact Hwr
    iexact HC
  iexact HB

theorem arr_among : Pipeline.arrRefs spec0 ⊆ Pipeline.ucRefs τ sig := by decide

theorem into_region (c : Dev nD) : iprop(StableHlo.held (c : Thread nD τ) (Pipeline.ucRefs τ sig) (V1 m c) ∗ aboard m c) ⊢ (region m).pre c := by
  show _ ⊢ iprop(StableHlo.held (c.tc : Thread nD τ) (Pipeline.arrRefs spec0) (V1 m c) ∗ (∃ r, prngReg c r)
    ∗ (StableHlo.held (c.tc : Thread nD τ) (Pipeline.ucRefs τ sig \ Pipeline.arrRefs spec0) (V1 m c) ∗ emp) ∗ ticket m c
    ∗ ∃ W, owes (c.tc : Thread nD τ) (0 + oweAll c) W)
  rw [zero_add, StableHlo.held_sub_split _ arr_among]
  unfold aboard
  iintro ⟨⟨Ha, Hh⟩, Hp, Ht, HO⟩
  isplitl [Ha]; · iexact Ha
  isplitl [Hp]; · iexact Hp
  isplitl [Hh]; · isplitl [Hh]; · iexact Hh
                  itrivial
  isplitl [Ht]; · iexact Ht
  iexact HO

theorem out_of_region (c : Dev nD) : (region m).post c ⊢ iprop(atEnd m c ∗ ∃ W, owes (c.tc : Thread nD τ) (0 : CellTallies nD τ sig ℕ) W) := by
  show iprop(StableHlo.held (c.tc : Thread nD τ) (Pipeline.arrRefs spec0) (lastV m c) ∗ (∃ r, prngReg c r)
    ∗ (StableHlo.held (c.tc : Thread nD τ) (Pipeline.ucRefs τ sig \ Pipeline.arrRefs spec0) (lastV m c) ∗ emp) ∗ semVal (Cell.bar.on c) 0
    ∗ ∃ W, owes (c.tc : Thread nD τ) (0 : CellTallies nD τ sig ℕ) W) ⊢ _
  unfold atEnd
  rw [StableHlo.held_sub_split _ arr_among]
  iintro ⟨Ha, -, ⟨Hh, -⟩, Hs, HO⟩
  isplitl [Ha Hh Hs]
  · isplitl [Ha Hh]
    · isplitl [Ha]; · iexact Ha
      iexact Hh
    iexact Hs
  iexact HO

theorem only_bar : ∀ sm : SemLoc sig, sm.isScoped .tc = false → sm = .reg 2 := by decide

theorem kept_arg0 (c : Dev nD) : lastV m c main_arg0 = m ((c.tc : Thread nD τ).loc main_arg0) :=
  (lastV_of m c _ (by decide)).trans (V1_of m c _ (by decide))
theorem kept_arg1 (c : Dev nD) : lastV m c main_arg1 = m ((c.tc : Thread nD τ).loc main_arg1) :=
  (lastV_of m c _ (by decide)).trans (V1_of m c _ (by decide))
theorem kept_arg2 (c : Dev nD) : lastV m c main_arg2 = m ((c.tc : Thread nD τ).loc main_arg2) :=
  (lastV_of m c _ (by decide)).trans (V1_of m c _ (by decide))
theorem kept_arg3 (c : Dev nD) : lastV m c main_arg3 = m ((c.tc : Thread nD τ).loc main_arg3) :=
  (lastV_of m c _ (by decide)).trans (V1_of m c _ (by decide))

/-- What one device holds at the end. -/
def Done (c : Dev nD) (s : MemSt nD τ sig (Elt F)) : Prop :=
  s.mem ((c.tc : Thread nD τ).loc main_v27) = resultOf m
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)

theorem read_end (c : Dev nD) (s' : Phys nD τ sig (Elt F)) :
    iprop(atEnd m c ∗ SI s') ⊢ |={Set.univ}=> (iprop(⌜Done m c s'.mem ∧ s'.mem.sem (Cell.bar.on c) = 0⌝ ∗ SI s') : sProp (Res F)) := by
  unfold atEnd StableHlo.held
  iintro ⟨⟨Hh, Hb⟩, HSI⟩
  icombine HSI Hb gives %hb
  ihave Hr := (pointsTo_read_all (Pipeline.ucRefs τ sig) (fun b => ((c : Thread nD τ).1, b)) (lastV m c) s') $$ [Hh HSI]
  · isplitl [Hh] <;> iassumption
  icases Hr with ⟨%h, HSI⟩
  imodintro
  isplitr
  · ipureintro
    exact ⟨⟨(h (Proc.devRef .tc main_v27) (Finset.mem_filter.mpr ⟨StableHlo.devRef_mem_tcRefs main_v27, by decide⟩)).trans (lastV_result m c),
      (h (Proc.devRef .tc main_arg0) (Finset.mem_filter.mpr ⟨StableHlo.devRef_mem_tcRefs main_arg0, by decide⟩)).trans (kept_arg0 m c),
      (h (Proc.devRef .tc main_arg1) (Finset.mem_filter.mpr ⟨StableHlo.devRef_mem_tcRefs main_arg1, by decide⟩)).trans (kept_arg1 m c),
      (h (Proc.devRef .tc main_arg2) (Finset.mem_filter.mpr ⟨StableHlo.devRef_mem_tcRefs main_arg2, by decide⟩)).trans (kept_arg2 m c),
      (h (Proc.devRef .tc main_arg3) (Finset.mem_filter.mpr ⟨StableHlo.devRef_mem_tcRefs main_arg3, by decide⟩)).trans (kept_arg3 m c)⟩,
      by simpa using hb⟩
  iexact HSI

set_option backward.isDefEq.respectTransparency.types false in
/-- Every fair execution ends, with the result the ring makes on every device, the arguments as launched, every counter zero. -/
theorem run_main : θ_run defs (onTc (τ := τ) (main (F := F))) ⟨m, fun _ => 0, ρ⟩
    (fun r => (∀ c : Dev nD, Done m c r.2) ∧ r.2.sem = fun _ => 0) :=
  Pipeline.θ_run_regions_kit_dev_sems (pcfgs (F := F)) adm (dats m) 0 cellOf_inj (EP F) defs₀ 𝒱₀ L lv m ρ main
    (segs m 𝒱₀ L lv (fun _ => aboard m) 0 (dats m) (region m))
    (fun c Q => by
      rewrite [main_chain c, Pipeline.Seg.run_eq_chain,
        show (segs m 𝒱₀ L lv (fun _ => aboard m) 0 (dats m) (region m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) oweAll L_of_ne
    (parked ringSeed) (seed (F := F)) seed_split
    (T₀ := atStart m) (Tₙ := atEnd m)
    (hch := fun c => ⟨.rfl, into_region m c, out_of_region m c⟩)
    (hinit := init m ρ)
    (QY := fun c s => Done m c s ∧ s.sem (Cell.bar.on c) = 0)
    (hfin := read_end m)
    (hQ := fun _ h hs => ⟨fun c => (h c).1, sem_eq_zero hs fun c sm hsm => by
        obtain rfl := only_bar sm hsm
        exact (h c).2⟩)

end Cert.KernelIdeal.AllReduce

end
-- ==== Proof.AllReduce.Sums.lean ====
/-
  What the ring's chunks hold in exact arithmetic: the sum over all the devices, scaled and put through the activation.
-/
module

public import proofs.«01_k».proof.Proof.AllReduce.Contents
public import proofs.«01_k».proof.Proof.AllReduce.Chunks
public import Idealize.ShloMosaic.PureOps.Ideal.Laws

@[expose] public section

noncomputable section

namespace Cert.KernelIdeal.AllReduce

open Idealize Idealize.ShloMosaic Cert.KernelIdeal.Gen
open scoped BigOperators

/-- One entry's scaling and activation, as the finishing step computes it. -/
def act {F : FTy → Type} [FloatOps F] (s y : F .f32) : F .f32 :=
  let z := FloatOps.mulf y s
  FloatOps.divf z (FloatOps.addf (Scalar.ofBits .f32 0x3F800000#32) (FloatOps.exp (FloatOps.subf (Scalar.ofBits .f32 0x00000000#32)
    (FloatOps.minimumf (Scalar.ofBits .f32 0x42700000#32) (FloatOps.maximumf (Scalar.ofBits .f32 0xC2700000#32) z)))))

theorem finish_apply {F : FTy → Type} [FloatOps F] (s : Elt F .f32) (v : FVec F S64x2048 .f32) (i : S64x2048.Idx) : k0_pay70 s v i = act s (v i) := by
  unfold k0_pay70
  rw [shapeCast_self]
  rfl

theorem add_boxed (u v : FVec Ideal S64x2048 .f32) (i : S64x2048.Idx) : k0_pay2 (F := Ideal) u (boxed v) i = (u i + v i : EReal) := by
  unfold k0_pay2
  rw [shapeCast_self]
  exact congrArg (fun y => (u i + y : EReal)) (congrFun (put_boxed v) i)

variable (A : Dev nD → Vec Ideal S4096x2048 .f32) (s : Dev nD → Elt Ideal .f32)

/-- `u` places back along the ring. -/
def back (b : Bool) (u : ℕ) (c : Dev nD) : Dev nD := (nbr (!b))^[u] c

theorem got_early (b : Bool) (t : ℕ) (c : Dev nD) (h : t < 31) (i : S64x2048.Idx) :
    got A s b t c i = (part b (ck b c (t + 1)) (A c) i + val A s b t (nbr (!b) c) i : EReal) := by
  unfold got; rw [if_pos h]; exact add_boxed _ _ _

/-- Through the first half the chunk a device sends holds the sum over the devices it has come past. -/
theorem val_early (b : Bool) (t : ℕ) : ∀ (c : Dev nD) (i : S64x2048.Idx), t < 31 →
    val A s b t c i = (∑ u ∈ Finset.range (t + 1), part b (ck b c t) (A (back b u c)) i : EReal) := by
  induction t with
  | zero => intro c i _; rw [Finset.sum_range_one]; rfl
  | succ t ih =>
    intro c i h
    rw [val_succ, if_neg (by omega), got_early A s b t c (by omega), ih _ i (by omega), Finset.sum_range_succ' _ (t + 1), ck_nbr_not, add_comm]
    rfl

theorem pos_back (b : Bool) (u : ℕ) : ∀ c : Dev nD, pos b (back b u c) = pos b c - Fin.ofNat 32 u := by
  induction u with
  | zero => intro c; apply Fin.ext; simp [back]
  | succ u ih =>
    intro c
    show pos b (back b u (nbr (!b) c)) = _
    rw [ih, pos_nbr_not]
    apply Fin.ext
    simp only [Fin.val_sub, Fin.ofNat]
    have := (pos b c).isLt
    omega

theorem back_bij (b : Bool) (c : Dev nD) : Function.Bijective (fun u : Fin 32 => back b u.val c) := by
  refine (Fintype.bijective_iff_injective_and_card _).mpr ⟨fun u v h => ?_, rfl⟩
  have h1 := congrArg (fun d => (pos b d).val) h
  simp only [pos_back, Fin.val_sub, Fin.ofNat] at h1
  have := u.isLt; have := v.isLt; have := (pos b c).isLt
  apply Fin.ext; omega

/-- The finished chunk: every entry the scaled and activated sum over all the devices. -/
theorem finished_apply (s₀ : Elt Ideal .f32) (hs : ∀ c, s c = s₀) (b : Bool) (j : Fin 32) (i : S64x2048.Idx) :
    finished A s b j i = act s₀ (∑ d : Dev nD, part b j (A d) i : EReal) := by
  have hj : ck b (owner b j) 31 = j := by
    have h : pos b (owner b j) = j + 31 := Function.surjInv_eq _ _
    unfold ck
    rw [h]
    apply Fin.ext
    have := j.isLt
    simp only [Fin.val_sub, Fin.val_add, Fin.ofNat]; omega
  unfold finished
  rw [val_succ, if_pos rfl, finish_apply, hs, got_early A s b 30 _ (by omega), val_early A s b 30 _ i (by omega), ck_nbr_not, hj]
  refine congrArg (act (F := Ideal) (s₀ : Ideal .f32)) ?_
  rw [← (Equiv.ofBijective _ (back_bij b (owner b j))).sum_comp, ← Fin.sum_univ_eq_sum_range (fun u => (part b j (A (back b u (nbr (!b) (owner b j)))) i : EReal)) 31,
    Fin.sum_univ_succ (n := 31)]
  rfl

theorem total_part {α : Type} (W : S4096x2048.Idx → α) : total (fun b j => part b j W) = W := by
  funext i
  unfold total part
  refine congrArg W ?_
  funext a
  fin_cases a
  · exact Fin.ext ((jRect_row _ _ _).trans (row_split (i 0)))
  · exact Fin.ext (jRect_col _ _ _)

/-- The whole result. -/
theorem total_apply (s₀ : Elt Ideal .f32) (hs : ∀ c, s c = s₀) :
    total (finished A s) = fun i => act s₀ (∑ d : Dev nD, A d i : EReal) := by
  rw [show finished A s = fun b j => part b j (fun i => act s₀ (∑ d : Dev nD, A d i : EReal)) from ?_, total_part]
  funext b j i
  exact finished_apply A s s₀ hs b j i

end Cert.KernelIdeal.AllReduce

end
-- ==== Proof.Plain.Run.lean ====
/-
  The reference's run: its result, written out from its arguments.
-/
module

public import proofs.«01_k».proof.Proof.Gen.ReferenceIdeal.Value

@[expose] public section

noncomputable section

namespace Cert.ReferenceIdeal.Plain

open Idealize.ShloMosaic Idealize.ShloMosaic.TcCoe Idealize.SL.Sem
open Cert.ReferenceIdeal.Gen Cert.ReferenceIdeal.Value

variable {F : FTy → Type} [FloatOps F]

/-- The one entry of an array of one entry. -/
def only : S1.Idx := fun a => match a with | ⟨0, _⟩ => (0 : Fin 1)
theorem only_eq (i : S1.Idx) : i = only := by funext a; fin_cases a; exact Subsingleton.elim (α := Fin 1) _ _

/-- The result, from the arguments. -/
def plain (x : Vec F S4096x4096 .fp8e5m2) (w : Vec F S4096x2048 .fp8e5m2) (sx sw : Vec F S1 .f32) : Vec F S4096x2048 .f32 :=
  k0_pay1 x w (sx only) (sw only)

theorem corner : (![0, 0] : Fin 2 → Nat) = fun _ => 0 := by funext a; fin_cases a <;> rfl

theorem body_leaves (c : Dev nD) (a0 : Memref sig .tc .vmem S4096x4096 .fp8e5m2) (h0 : a0.IsWhole) (a1 : Memref sig .tc .vmem S4096x2048 .fp8e5m2) (h1 : a1.IsWhole)
    (a2 : Memref sig .tc .smem S1 .f32) (h2 : a2.IsWhole) (a3 : Memref sig .tc .smem S1 .f32) (h3 : a3.IsWhole) (a4 : Memref sig .tc .vmem S4096x2048 .f32) (h4 : a4.IsWhole)
    (x : Vec F S4096x4096 .fp8e5m2) (w : Vec F S4096x2048 .fp8e5m2) (sx sw : Vec F S1 .f32) :
    out0_A_4 c a0 h0 a1 h1 a2 h2 a3 h3 a4 h4 x w sx sw = plain x w sx sw := by
  unfold out0_A_4
  rw [View.read_writes_junk_eq_canon]
  show View.canon ([⟨Rect.unit ![0, 0] S4096x2048.size inb_S4096x2048_S4096x2048_0_0,
      k0_pay1
        (View.readAt (Elt F) a0.view (Rect.unit ![0, 0] S4096x4096.size inb_S4096x4096_S4096x4096_0_0).toLoadRect (h0.unread x))
        (View.readAt (Elt F) a1.view (Rect.unit ![0, 0] S4096x2048.size inb_S4096x2048_S4096x2048_0_0).toLoadRect (h1.unread w))
        (View.readAt (Elt F) a2.view (Rect.unit (s := S1) ![0] S1.size inb_S1_S1_0).toLoadRect (h2.unread sx) _)
        (View.readAt (Elt F) a3.view (Rect.unit (s := S1) ![0] S1.size inb_S1_S1_0).toLoadRect (h3.unread sw) _)⟩] :
      List (View.Piece (Elt F) S4096x2048 .f32)) = _
  rw [View.canon_unit_zero corner, View.readAt_eq_ld, View.readAt_eq_ld, View.readAt_eq_ld, View.readAt_eq_ld, h0.read_unread, h1.read_unread, h2.read_unread, h3.read_unread,
    View.ld_unit_zero corner, View.ld_unit_zero corner]
  exact congrArg₂ (k0_pay1 x w) (congrArg sx (only_eq _)) (congrArg sw (only_eq _))

variable (m : (ℓ : Loc nD τ sig) → Buf (Elt F) ℓ) (ρ : Dev nD → PrngReg)

theorem at_x (t : Fin cfg0.N) (j : S4096x4096.Idx) : ((cfg0.win 0).blk t).view.emb j = j := by
  funext a; apply Fin.ext
  match a with
  | ⟨0, _⟩ => show 0 * 4096 + 1 * (j 0).val = (j 0).val; omega
  | ⟨1, _⟩ => show 0 * 4096 + 1 * (j 1).val = (j 1).val; omega
theorem at_w (t : Fin cfg0.N) (j : S4096x2048.Idx) : ((cfg0.win 1).blk t).view.emb j = j := by
  funext a; apply Fin.ext
  match a with
  | ⟨0, _⟩ => show 0 * 4096 + 1 * (j 0).val = (j 0).val; omega
  | ⟨1, _⟩ => show 0 * 2048 + 1 * (j 1).val = (j 1).val; omega
theorem at_out (t : Fin cfg0.N) (j : S4096x2048.Idx) : ((cfg0.win 4).blk t).view.emb j = j := by
  funext a; apply Fin.ext
  match a with
  | ⟨0, _⟩ => show 0 * 4096 + 1 * (j 0).val = (j 0).val; omega
  | ⟨1, _⟩ => show 0 * 2048 + 1 * (j 1).val = (j 1).val; omega

theorem block_x (c : Dev nD) (t : Fin cfg0.N) : iblk m c 0 t = V m c main_arg0 := by
  funext j; show V m c main_arg0 (((cfg0.win 0).blk t).view.emb j) = _; rw [at_x]
theorem block_w (c : Dev nD) (t : Fin cfg0.N) : iblk m c 1 t = V m c main_arg1 := by
  funext j; show V m c main_arg1 (((cfg0.win 1).blk t).view.emb j) = _; rw [at_w]
theorem block_sx (c : Dev nD) (t : Fin cfg0.N) : iblk m c 2 t = V m c main_arg2 := by
  funext j; show V m c main_arg2 (((cfg0.win 2).blk t).view.emb j) = _
  exact congrArg (V m c main_arg2) ((only_eq _).trans (only_eq j).symm)
theorem block_sw (c : Dev nD) (t : Fin cfg0.N) : iblk m c 3 t = V m c main_arg3 := by
  funext j; show V m c main_arg3 (((cfg0.win 3).blk t).view.emb j) = _
  exact congrArg (V m c main_arg3) ((only_eq _).trans (only_eq j).symm)

/-- The result array from the arguments as launched. -/
def resultFrom (c : Dev nD) : Vec F S4096x2048 .f32 :=
  plain (m ((c : Thread nD τ).loc main_arg0)) (m ((c : Thread nD τ).loc main_arg1)) (m ((c : Thread nD τ).loc main_arg2)) (m ((c : Thread nD τ).loc main_arg3))

theorem written_back (c : Dev nD) (t : Fin cfg0.N) : (dats m 0 c).flushed 4 t = ((cfg0.win 4).blk t).view.read (Elt F) (resultFrom m c) := by
  rw [flushed4_A, body_leaves, block_x, block_w, block_sx, block_sw]
  funext j
  show resultFrom m c j = resultFrom m c (((cfg0.win 4).blk t).view.emb j)
  rw [at_out]

theorem everywhere (i : S4096x2048.Idx) : ∃ t : Fin cfg0.N, (cfg0.win 4).flush t = true ∧ i ∈ ((cfg0.win 4).blk t).view.set :=
  ⟨(⟨0, by decide⟩ : Fin cfg0.N), flush0_4 _, by
    have h := ((cfg0.win 4).blk (⟨0, by decide⟩ : Fin cfg0.N)).view.emb_mem_set i; rwa [at_out] at h⟩

theorem result_array (c : Dev nD) : (dats m 0 c).arrAt 4 cfg0.N = resultFrom m c :=
  (dats m 0 c).arrAt_eq_of_cover 4 (resultFrom m c) (fun t _ => written_back m c t) everywhere

end Cert.ReferenceIdeal.Plain

end
-- ==== Proof.AllReduce.Equation.lean ====
/-
  The devices' products add up to the whole product, so the ring's result is the reference's.
-/
module

public import proofs.«01_k».proof.Proof.AllReduce.Sums
public import proofs.«01_k».proof.Proof.AllReduce.Region
public import proofs.«01_k».proof.Proof.Plain.Run
public import Idealize.ShloMosaic.Lib.MatmulPlain
public import Idealize.ShloMosaic.Lib.Layout

@[expose] public section

noncomputable section

namespace Cert.KernelIdeal.AllReduce

open Idealize Idealize.ShloMosaic Idealize.ShloMosaic.TcCoe Cert.KernelIdeal.Gen
open scoped BigOperators

/-- The whole arrays' shapes. -/
abbrev WX : Shape := ⟨2, ![4096, 4096]⟩
abbrev WW : Shape := ⟨2, ![4096, 2048]⟩

/-- A device's product, entry by entry. -/
theorem product_apply (x : Vec Ideal S4096x128 .fp8e5m2) (w : Vec Ideal S128x2048 .fp8e5m2) (r : Fin 4096) (l : Fin 2048) :
    k0_pay1 x w (ValueIdx.ix2 r l) = (∑ k : Fin 128, x (ValueIdx.ix2 r k) * w (ValueIdx.ix2 k l) : EReal) := by
  unfold k0_pay1
  rw [shapeCast_self, shapeCast_self]
  refine (Ideal.matmul_plain_apply (M := 4096) (K := 128) (N := 2048) none _ _ _ r l).trans ?_
  show Ideal.ofBits .f32 0x00000000#32 + _ = _
  rw [Ideal.ofBits_zero_f32, zero_add]
  rfl

/-- The reference's result, entry by entry. -/
theorem plain_apply (x : Vec Ideal WX .fp8e5m2) (w : Vec Ideal WW .fp8e5m2) (sx sw : Vec Ideal S1 .f32) (r : Fin 4096) (l : Fin 2048) :
    Cert.ReferenceIdeal.Plain.plain x w sx sw (ValueIdx.ix2 r l)
      = act (F := Ideal) (mulf sx sw only) (∑ k : Fin 4096, x (ValueIdx.ix2 r k) * w (ValueIdx.ix2 k l) : EReal) := by
  have h : (∑ k : Fin 4096, x (ValueIdx.ix2 r k) * w (ValueIdx.ix2 k l) : EReal)
      = FloatOps.matmul (F := Ideal) (DotDims.plain 4096 4096 2048) none (extf (φ := .fp8e5m2) .f32 x (by decide) : FVec Ideal WX .f32) (extf (φ := .fp8e5m2) .f32 w (by decide) : FVec Ideal WW .f32)
          (constant WW .f32 0x00000000#32) (ValueIdx.ix2 r l) := by
    refine Eq.symm ((Ideal.matmul_plain_apply (M := 4096) (K := 4096) (N := 2048) none _ _ _ r l).trans ?_)
    show Ideal.ofBits .f32 0x00000000#32 + _ = _
    rw [Ideal.ofBits_zero_f32, zero_add]
    rfl
  rw [h, show only = Cert.ReferenceIdeal.Plain.only from Cert.ReferenceIdeal.Plain.only_eq _]
  rfl

/-- A sum over the long axis is the sum over the devices of the sums over their pieces of it. -/
theorem long_sum (f : Fin 4096 → EReal) : (∑ K : Fin 4096, f K) = ∑ d : Fin 32, ∑ k : Fin 128, f ⟨d.val * 128 + k.val, by omega⟩ := by
  rw [← (finProdFinEquiv (m := 32) (n := 128)).sum_comp, Fintype.sum_prod_type]
  refine Finset.sum_congr rfl fun d _ => Finset.sum_congr rfl fun k _ => congrArg f (Fin.ext ?_)
  show k.val + 128 * d.val = d.val * 128 + k.val
  omega

theorem block_x_apply (X : Vec Ideal WX .fp8e5m2) (h : Layout.Tiles ⟨2, ![4096, 128]⟩ WX 1 32) (d : Fin 32) (r : Fin 4096) (k : Fin 128) :
    Layout.block ⟨2, ![4096, 128]⟩ WX 1 32 d X h (ValueIdx.ix2 r k) = X (ValueIdx.ix2 r ⟨d.val * 128 + k.val, by omega⟩) := by
  refine congrArg X (funext fun a => Fin.ext ?_)
  match a with
  | ⟨0, _⟩ => exact (Layout.idx_cols_val h d (ValueIdx.ix2 r k)).1
  | ⟨1, _⟩ => exact (Layout.idx_cols_val h d (ValueIdx.ix2 r k)).2
theorem block_w_apply (W : Vec Ideal WW .fp8e5m2) (h : Layout.Tiles ⟨2, ![128, 2048]⟩ WW 0 32) (d : Fin 32) (k : Fin 128) (l : Fin 2048) :
    Layout.block ⟨2, ![128, 2048]⟩ WW 0 32 d W h (ValueIdx.ix2 k l) = W (ValueIdx.ix2 ⟨d.val * 128 + k.val, by omega⟩ l) := by
  refine congrArg W (funext fun a => Fin.ext ?_)
  match a with
  | ⟨0, _⟩ => exact (Layout.idx_rows_val h d (ValueIdx.ix2 k l)).1
  | ⟨1, _⟩ => exact (Layout.idx_rows_val h d (ValueIdx.ix2 k l)).2

/-- The result the ring makes of the pieces is the reference's of the whole. -/
theorem result_eq (m : (ℓ : Loc nD τ sig) → Buf (Elt Ideal) ℓ) (X : Vec Ideal WX .fp8e5m2) (W : Vec Ideal WW .fp8e5m2) (sx sw : Vec Ideal S1 .f32)
    (hx : Layout.Tiles ⟨2, ![4096, 128]⟩ WX 1 32) (hw : Layout.Tiles ⟨2, ![128, 2048]⟩ WW 0 32)
    (h0 : ∀ c : Dev nD, xOf m c = Layout.block ⟨2, ![4096, 128]⟩ WX 1 32 c X hx)
    (h1 : ∀ c : Dev nD, wOf m c = Layout.block ⟨2, ![128, 2048]⟩ WW 0 32 c W hw)
    (h2 : ∀ c : Dev nD, (m ((c : Thread nD τ).loc main_arg2) : Vec Ideal S1 .f32) = sx)
    (h3 : ∀ c : Dev nD, (m ((c : Thread nD τ).loc main_arg3) : Vec Ideal S1 .f32) = sw) :
    resultOf m = Cert.ReferenceIdeal.Plain.plain X W sx sw := by
  unfold resultOf
  rw [total_apply (Aof m) (scaleOf m) (mulf (F := Ideal) (φ := .f32) sx sw only : Elt Ideal .f32) (fun c => by unfold scaleOf; rw [h2, h3])]
  funext i
  obtain ⟨r, l, rfl⟩ : ∃ (r : Fin 4096) (l : Fin 2048), i = ValueIdx.ix2 r l :=
    ⟨i 0, i 1, by funext a; match a with | ⟨0, _⟩ => rfl | ⟨1, _⟩ => rfl⟩
  rw [plain_apply]
  refine congrArg (act (F := Ideal) (mulf sx sw only)) ?_
  rw [long_sum]
  refine Finset.sum_congr rfl fun d _ => ?_
  unfold Aof
  rw [product_apply, h0, h1]
  refine Finset.sum_congr rfl fun k _ => ?_
  rw [block_x_apply, block_w_apply]

end Cert.KernelIdeal.AllReduce

end
-- ==== Proof.lean ====
/-
  The certificate: the two kernels' frames and the reference's, and that the kernel's result is the reference's in exact arithmetic.

  The ring's run is shown once, over any floats (`AllReduce/Main.lean`, `run_main`); it serves the printed kernel and its
  exact reading alike, for their texts are the same.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.AllReduce.Main
public import proofs.«01_k».proof.Proof.AllReduce.Equation
public import Idealize.ShloMosaic.Adequacy
public import Idealize.ShloMosaic.Init

@[expose] public section

noncomputable section

namespace Cert.Proof

open Idealize.ShloMosaic Idealize.SL.Sem Idealize.ShloMosaic.Tactic
open Cert.KernelIdeal.AllReduce (run_main result_eq)

/-- Over machine floats, the text of the kernel's exact reading ends without fault, with its arguments unchanged and every
semaphore at zero. -/
def quietOverBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

/-- It does, by the one run. -/
theorem quiet_over_bits : quietOverBits := fun m ρ _ =>
  (θ_run Cert.KernelIdeal.defs _ _).mono (fun _ h => ⟨fun c => (h.1 c).2, h.2⟩) (run_main (F := Bits) m ρ)

/-- The printed kernel's text is the same text. -/
theorem same_text : Cert.quiescent_Kernel = quietOverBits := by sl_kernel_rfl

/-- The kernel ends without fault, leaves its arguments unchanged and every semaphore at zero. -/
theorem frame_kernel : Cert.quiescent_Kernel := Eq.mpr same_text quiet_over_bits

/-- So does its exact reading. -/
theorem frame_ideal : Cert.quiescent_KernelIdeal := fun m ρ _ =>
  (θ_run Cert.KernelIdeal.defs _ _).mono (fun _ h => ⟨fun c => (h.1 c).2, h.2⟩) (run_main (F := Ideal) m ρ)

/-- So does the reference. -/
theorem frame_reference : Cert.quiescent_ReferenceIdeal := fun m ρ _ => Cert.ReferenceIdeal.Gen.frame m ρ

/-- Every device ends with the reference's result. -/
theorem same_result : Cert.algebraic_KernelIdeal_ReferenceIdeal := fun m ρ m' ρ' _ h =>
  ⟨Cert.ReferenceIdeal.Plain.resultFrom m' 0,
    (θ_run Cert.KernelIdeal.defs _ _).mono
      (fun _ h' c => ⟨(h'.1 c).1.trans (result_eq m _ _ _ _ _ _ (fun c => (h c).1) (fun c => (h c).2.1) (fun c => (h c).2.2.1) (fun c => (h c).2.2.2)),
        (h'.1 c).2⟩) (run_main m ρ),
    (θ_run Cert.ReferenceIdeal.defs _ _).mono
      (fun _ h' => ⟨(h' 0).1.trans (Cert.ReferenceIdeal.Plain.result_array m' 0), (h' 0).2⟩) (Cert.ReferenceIdeal.Value.run_blocks m' ρ')⟩

/-- All that is certified: the three frames, that nothing was rewritten, and the equality of the results. -/
theorem claim : Cert.Claim :=
  ⟨Cert.Kernel.Gen.facts, Cert.KernelIdeal.Gen.facts, Cert.ReferenceIdeal.Gen.facts,
    frame_kernel, frame_ideal, frame_reference, trivial, same_result⟩

end Cert.Proof

end
